-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "log_gamma0" .f32 0xBD020AEC#32 ((Real.log (31 / 32) : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "log_gamma3" .f32 0xBB80402B#32 ((Real.log (255 / 256) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def preserves_Kernel3_Kernel3Ideal : Prop :=
  True

def preserves_Kernel4_Kernel4Ideal : Prop :=
  True

def preserves_Kernel5_Kernel5Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ preserves_Kernel4_Kernel4Ideal
    ∧ preserves_Kernel5_Kernel5Ideal
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
-- ==== Kernel.lean ====
abbrev S8192x7168 : Shape := ⟨2, ![8192, 7168]⟩
abbrev S2x32x1792 : Shape := ⟨3, ![2, 32, 1792]⟩
abbrev S_ : Shape := ⟨0, ![]⟩
abbrev S31 : Shape := ⟨1, ![31]⟩
abbrev S1 : Shape := ⟨1, ![1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x32x2 : Shape := ⟨3, ![8192, 32, 2]⟩
abbrev S8192x64 : Shape := ⟨2, ![8192, 64]⟩
abbrev S8192x32x1 : Shape := ⟨3, ![8192, 32, 1]⟩
abbrev S1x8192x1x64 : Shape := ⟨4, ![1, 8192, 1, 64]⟩
abbrev S1x8192x4x64 : Shape := ⟨4, ![1, 8192, 4, 64]⟩
abbrev S8192x256 : Shape := ⟨2, ![8192, 256]⟩
abbrev S8192x512 : Shape := ⟨2, ![8192, 512]⟩
abbrev S256x512 : Shape := ⟨2, ![256, 512]⟩
abbrev S256x256 : Shape := ⟨2, ![256, 256]⟩
abbrev S1x32x1792 : Shape := ⟨3, ![1, 32, 1792]⟩
abbrev S2x128x256 : Shape := ⟨3, ![2, 128, 256]⟩
abbrev S1x1x512 : Shape := ⟨3, ![1, 1, 512]⟩
abbrev S1x512 : Shape := ⟨2, ![1, 512]⟩
abbrev S64x128 : Shape := ⟨2, ![64, 128]⟩
abbrev S128x256 : Shape := ⟨2, ![128, 256]⟩
abbrev S1x256 : Shape := ⟨2, ![1, 256]⟩
abbrev S128x128 : Shape := ⟨2, ![128, 128]⟩
abbrev S64x256 : Shape := ⟨2, ![64, 256]⟩
abbrev S1x128x256 : Shape := ⟨3, ![1, 128, 256]⟩
abbrev S64 : Shape := ⟨1, ![64]⟩
abbrev S64x1 : Shape := ⟨2, ![64, 1]⟩
abbrev S1x128 : Shape := ⟨2, ![1, 128]⟩

abbrev nBuf : Space → Nat
  | .hbm => 54
  | .vmem => 14
  | .smem => 0
  | _ => 0

abbrev bufTy : (tb : Table) → Fin (tcTables nBuf tb) → BufTy
  | .hbm, ⟨0, _⟩ => ⟨S8192x7168, .f32⟩
  | .hbm, ⟨1, _⟩ => ⟨S2x32x1792, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S31, .f32⟩
  | .hbm, ⟨10, _⟩ => ⟨S_, .f32⟩
  | .hbm, ⟨11, _⟩ => ⟨S31, .f32⟩
  | .hbm, ⟨12, _⟩ => ⟨S31, .f32⟩
  | .hbm, ⟨13, _⟩ => ⟨S1, .f32⟩
  | .hbm, ⟨14, _⟩ => ⟨S_, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S31, .f32⟩
  | .hbm, ⟨19, _⟩ => ⟨S1, .f32⟩
  | .hbm, ⟨20, _⟩ => ⟨S31, .f32⟩
  | .hbm, ⟨21, _⟩ => ⟨S31, .f32⟩
  | .hbm, ⟨22, _⟩ => ⟨S31, .f32⟩
  | .hbm, ⟨23, _⟩ => ⟨S1, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S8192, .f32⟩
  | .hbm, ⟨32, _⟩ => ⟨S8192x1, .f32⟩
  | .hbm, ⟨33, _⟩ => ⟨S1x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32x2, .f32⟩
  | .hbm, ⟨39, _⟩ => ⟨S8192x64, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32x1, .f32⟩
  | .hbm, ⟨44, _⟩ => ⟨S8192x32x1, .f32⟩
  | .hbm, ⟨45, _⟩ => ⟨S8192x32x2, .f32⟩
  | .hbm, ⟨46, _⟩ => ⟨S8192x64, .f32⟩
  | .hbm, ⟨47, _⟩ => ⟨S1x8192x1x64, .f32⟩
  | .hbm, ⟨48, _⟩ => ⟨S1x8192x4x64, .f32⟩
  | .hbm, ⟨49, _⟩ => ⟨S8192x256, .f32⟩
  | .hbm, ⟨50, _⟩ => ⟨S1x8192x1x64, .f32⟩
  | .hbm, ⟨51, _⟩ => ⟨S1x8192x4x64, .f32⟩
  | .hbm, ⟨52, _⟩ => ⟨S8192x256, .f32⟩
  | .hbm, ⟨53, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x32x1792, .f32⟩
  | .local _ .vmem, ⟨11, _⟩ => ⟨S256x512, .f32⟩
  | .local _ .vmem, ⟨12, _⟩ => ⟨S256x512, .f32⟩
  | .local _ .vmem, ⟨13, _⟩ => ⟨S2x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S8192x7168 : Shape := ⟨2, ![8192, 7168]⟩
abbrev S2x32x1792 : Shape := ⟨3, ![2, 32, 1792]⟩
abbrev S8192x1536 : Shape := ⟨2, ![8192, 1536]⟩
abbrev S1x1x512 : Shape := ⟨3, ![1, 1, 512]⟩
abbrev S512 : Shape := ⟨1, ![512]⟩
abbrev S8192x256 : Shape := ⟨2, ![8192, 256]⟩
abbrev S8192x512 : Shape := ⟨2, ![8192, 512]⟩
abbrev S8192x4x64 : Shape := ⟨3, ![8192, 4, 64]⟩
abbrev S_ : Shape := ⟨0, ![]⟩
abbrev S31 : Shape := ⟨1, ![31]⟩
abbrev S1 : Shape := ⟨1, ![1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x4x32x2 : Shape := ⟨4, ![8192, 4, 32, 2]⟩
abbrev S8192x4x32x1 : Shape := ⟨4, ![8192, 4, 32, 1]⟩
abbrev S8192x4x32 : Shape := ⟨3, ![8192, 4, 32]⟩
abbrev S8192x4x128 : Shape := ⟨3, ![8192, 4, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S128x64x4x64 : Shape := ⟨4, ![128, 64, 4, 64]⟩
abbrev S4x128x64x64 : Shape := ⟨4, ![4, 128, 64, 64]⟩
abbrev S128x64x4x128 : Shape := ⟨4, ![128, 64, 4, 128]⟩
abbrev S4x128x64x128 : Shape := ⟨4, ![4, 128, 64, 128]⟩
abbrev S4x1x64x64 : Shape := ⟨4, ![4, 1, 64, 64]⟩
abbrev S4x1 : Shape := ⟨2, ![4, 1]⟩
abbrev S4x64 : Shape := ⟨2, ![4, 64]⟩
abbrev S4x1x64x1 : Shape := ⟨4, ![4, 1, 64, 1]⟩
abbrev S4x64x128 : Shape := ⟨3, ![4, 64, 128]⟩
abbrev S128x4x64x128 : Shape := ⟨4, ![128, 4, 64, 128]⟩
abbrev S1x4x64x128 : Shape := ⟨4, ![1, 4, 64, 128]⟩
abbrev S8192x4 : Shape := ⟨2, ![8192, 4]⟩
abbrev S8192x4x1 : Shape := ⟨3, ![8192, 4, 1]⟩
abbrev S4x128 : Shape := ⟨2, ![4, 128]⟩
abbrev S1x4x128 : Shape := ⟨3, ![1, 4, 128]⟩

abbrev nBuf : Space → Nat
  | .hbm => 272
  | .vmem => 0
  | .smem => 0
  | _ => 0

abbrev hbmTy0_0 (i : Nat) : BufTy := match i % 128 with
  | 0 => ⟨S8192x7168, .f32⟩
  | 1 => ⟨S2x32x1792, .f32⟩
  | 2 => ⟨S8192x1536, .f32⟩
  | 3 => ⟨S1x1x512, .f32⟩
  | 4 => ⟨S512, .f32⟩
  | 5 => ⟨S8192x256, .f32⟩
  | 6 => ⟨S8192x256, .f32⟩
  | 7 => ⟨S8192x512, .f32⟩
  | 8 => ⟨S8192x512, .f32⟩
  | 9 => ⟨S8192x4x64, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S31, .f32⟩
  | 18 => ⟨S_, .f32⟩
  | 19 => ⟨S31, .f32⟩
  | 20 => ⟨S31, .f32⟩
  | 21 => ⟨S1, .f32⟩
  | 22 => ⟨S_, .f32⟩
  | 23 => ⟨S31, .f32⟩
  | 24 => ⟨S31, .f32⟩
  | 25 => ⟨S31, .f32⟩
  | 26 => ⟨S31, .f32⟩
  | 27 => ⟨S1, .f32⟩
  | 28 => ⟨S31, .f32⟩
  | 29 => ⟨S31, .f32⟩
  | 30 => ⟨S31, .f32⟩
  | 31 => ⟨S1, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S8192, .f32⟩
  | 40 => ⟨S8192x1, .f32⟩
  | 41 => ⟨S1x32, .f32⟩
  | 42 => ⟨S8192x32, .f32⟩
  | 43 => ⟨S8192x32, .f32⟩
  | 44 => ⟨S8192x32, .f32⟩
  | 45 => ⟨S8192x32, .f32⟩
  | 46 => ⟨S8192x1x32, .f32⟩
  | 47 => ⟨S8192x32, .f32⟩
  | 48 => ⟨S8192x1x32, .f32⟩
  | 49 => ⟨S8192x4x32x2, .f32⟩
  | 50 => ⟨S8192x4x32x1, .f32⟩
  | 51 => ⟨S8192x4x32, .f32⟩
  | 52 => ⟨S8192x4x32x1, .f32⟩
  | 53 => ⟨S8192x4x32, .f32⟩
  | 54 => ⟨S8192x4x32, .f32⟩
  | 55 => ⟨S8192x4x32, .f32⟩
  | 56 => ⟨S8192x4x32, .f32⟩
  | 57 => ⟨S8192x4x32, .f32⟩
  | 58 => ⟨S8192x4x32, .f32⟩
  | 59 => ⟨S8192x4x32, .f32⟩
  | 60 => ⟨S8192x4x32, .f32⟩
  | 61 => ⟨S8192x4x32, .f32⟩
  | 62 => ⟨S8192x4x32, .f32⟩
  | 63 => ⟨S8192x4x32, .f32⟩
  | 64 => ⟨S8192x4x32x1, .f32⟩
  | 65 => ⟨S8192x4x32x1, .f32⟩
  | 66 => ⟨S8192x4x32x2, .f32⟩
  | 67 => ⟨S8192x4x64, .f32⟩
  | 68 => ⟨S8192x4x64, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S31, .f32⟩
  | 77 => ⟨S_, .f32⟩
  | 78 => ⟨S31, .f32⟩
  | 79 => ⟨S31, .f32⟩
  | 80 => ⟨S1, .f32⟩
  | 81 => ⟨S_, .f32⟩
  | 82 => ⟨S31, .f32⟩
  | 83 => ⟨S31, .f32⟩
  | 84 => ⟨S31, .f32⟩
  | 85 => ⟨S31, .f32⟩
  | 86 => ⟨S1, .f32⟩
  | 87 => ⟨S31, .f32⟩
  | 88 => ⟨S31, .f32⟩
  | 89 => ⟨S31, .f32⟩
  | 90 => ⟨S1, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S8192, .f32⟩
  | 99 => ⟨S8192x1, .f32⟩
  | 100 => ⟨S1x32, .f32⟩
  | 101 => ⟨S8192x32, .f32⟩
  | 102 => ⟨S8192x32, .f32⟩
  | 103 => ⟨S8192x32, .f32⟩
  | 104 => ⟨S8192x32, .f32⟩
  | 105 => ⟨S8192x1x32, .f32⟩
  | 106 => ⟨S8192x32, .f32⟩
  | 107 => ⟨S8192x1x32, .f32⟩
  | 108 => ⟨S8192x4x32x2, .f32⟩
  | 109 => ⟨S8192x4x32x1, .f32⟩
  | 110 => ⟨S8192x4x32, .f32⟩
  | 111 => ⟨S8192x4x32x1, .f32⟩
  | 112 => ⟨S8192x4x32, .f32⟩
  | 113 => ⟨S8192x4x32, .f32⟩
  | 114 => ⟨S8192x4x32, .f32⟩
  | 115 => ⟨S8192x4x32, .f32⟩
  | 116 => ⟨S8192x4x32, .f32⟩
  | 117 => ⟨S8192x4x32, .f32⟩
  | 118 => ⟨S8192x4x32, .f32⟩
  | 119 => ⟨S8192x4x32, .f32⟩
  | 120 => ⟨S8192x4x32, .f32⟩
  | 121 => ⟨S8192x4x32, .f32⟩
  | 122 => ⟨S8192x4x32, .f32⟩
  | 123 => ⟨S8192x4x32x1, .f32⟩
  | 124 => ⟨S8192x4x32x1, .f32⟩
  | 125 => ⟨S8192x4x32x2, .f32⟩
  | 126 => ⟨S8192x4x64, .f32⟩
  | 127 => ⟨S_, .f32⟩
  | _ => ⟨S8192x7168, .f32⟩

abbrev hbmTy0_1 (i : Nat) : BufTy := match i % 128 with
  | 0 => ⟨S8192x4x64, .f32⟩
  | 1 => ⟨S8192x4x64, .f32⟩
  | 2 => ⟨S8192x4x128, .f32⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S64, .f32⟩
  | 13 => ⟨S64x1, .f32⟩
  | 14 => ⟨S1x64, .f32⟩
  | 15 => ⟨S64x64, .f32⟩
  | 16 => ⟨S64x64, .f32⟩
  | 17 => ⟨S64x64, .i1⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S4x1x1, .f32⟩
  | 24 => ⟨S1x64x64, .f32⟩
  | 25 => ⟨S4x64x64, .f32⟩
  | 26 => ⟨S4x64x64, .f32⟩
  | 27 => ⟨S4x64x64, .f32⟩
  | 28 => ⟨S_, .f32⟩
  | 29 => ⟨S_, .f32⟩
  | 30 => ⟨S4x64x64, .i1⟩
  | 31 => ⟨S4x64x64, .f32⟩
  | 32 => ⟨S4x64x64, .f32⟩
  | 33 => ⟨S4x64x64, .f32⟩
  | 34 => ⟨S128x64x4x64, .f32⟩
  | 35 => ⟨S4x128x64x64, .f32⟩
  | 36 => ⟨S128x64x4x64, .f32⟩
  | 37 => ⟨S4x128x64x64, .f32⟩
  | 38 => ⟨S128x64x4x128, .f32⟩
  | 39 => ⟨S4x128x64x128, .f32⟩
  | 40 => ⟨S4x128x64x64, .f32⟩
  | 41 => ⟨S4x1x64x64, .f32⟩
  | 42 => ⟨S4x128x64x64, .f32⟩
  | 43 => ⟨S4x128x64x64, .f32⟩
  | 44 => ⟨S4x128x64x128, .f32⟩
  | 45 => ⟨S_, .f32⟩
  | 46 => ⟨S64, .f32⟩
  | 47 => ⟨S64, .f32⟩
  | 48 => ⟨S4x1, .f32⟩
  | 49 => ⟨S1x64, .f32⟩
  | 50 => ⟨S4x64, .f32⟩
  | 51 => ⟨S4x64, .f32⟩
  | 52 => ⟨S4x64, .f32⟩
  | 53 => ⟨S4x64, .f32⟩
  | 54 => ⟨S4x1x64x1, .f32⟩
  | 55 => ⟨S4x128x64x64, .f32⟩
  | 56 => ⟨S4x128x64x64, .f32⟩
  | 57 => ⟨S4x128x64x128, .f32⟩
  | 58 => ⟨S_, .f32⟩
  | 59 => ⟨S4, .f32⟩
  | 60 => ⟨S4, .f32⟩
  | 61 => ⟨S4, .f32⟩
  | 62 => ⟨S_, .f32⟩
  | 63 => ⟨S4x64x128, .f32⟩
  | 64 => ⟨S128x4x64x128, .f32⟩
  | 65 => ⟨S_, .f32⟩
  | 66 => ⟨S128x4x64x128, .f32⟩
  | 67 => ⟨S_, .i32⟩
  | 68 => ⟨S128x4x64x128, .f32⟩
  | 69 => ⟨S4, .f32⟩
  | 70 => ⟨S_, .i32⟩
  | 71 => ⟨S4x64x128, .f32⟩
  | 72 => ⟨S128x4x64x128, .f32⟩
  | 73 => ⟨S_, .i32⟩
  | 74 => ⟨S_, .i1⟩
  | 75 => ⟨S_, .i32⟩
  | 76 => ⟨S_, .i32⟩
  | 77 => ⟨S_, .i32⟩
  | 78 => ⟨S1x4x64x128, .f32⟩
  | 79 => ⟨S4x64x128, .f32⟩
  | 80 => ⟨S4x1x1, .f32⟩
  | 81 => ⟨S4x64x128, .f32⟩
  | 82 => ⟨S4x64x128, .f32⟩
  | 83 => ⟨S4x64x128, .f32⟩
  | 84 => ⟨S1x4x64x128, .f32⟩
  | 85 => ⟨S_, .i32⟩
  | 86 => ⟨S_, .i32⟩
  | 87 => ⟨S_, .i32⟩
  | 88 => ⟨S128x4x64x128, .f32⟩
  | 89 => ⟨S_, .i32⟩
  | 90 => ⟨S_, .i32⟩
  | 91 => ⟨S4x128x64x128, .f32⟩
  | 92 => ⟨S_, .f32⟩
  | 93 => ⟨S64, .f32⟩
  | 94 => ⟨S64, .f32⟩
  | 95 => ⟨S4x1, .f32⟩
  | 96 => ⟨S1x64, .f32⟩
  | 97 => ⟨S4x64, .f32⟩
  | 98 => ⟨S4x64, .f32⟩
  | 99 => ⟨S4x64, .f32⟩
  | 100 => ⟨S4x64, .f32⟩
  | 101 => ⟨S4x1x64x1, .f32⟩
  | 102 => ⟨S4x128x64x64, .f32⟩
  | 103 => ⟨S4x128x64x64, .f32⟩
  | 104 => ⟨S4x128x64x128, .f32⟩
  | 105 => ⟨S4x128x64x128, .f32⟩
  | 106 => ⟨S128x64x4x128, .f32⟩
  | 107 => ⟨S8192x4x128, .f32⟩
  | 108 => ⟨S_, .f32⟩
  | 109 => ⟨S8192x4, .f32⟩
  | 110 => ⟨S8192x4x1, .f32⟩
  | 111 => ⟨S_, .f32⟩
  | 112 => ⟨S8192x4x1, .f32⟩
  | 113 => ⟨S8192x4x1, .f32⟩
  | 114 => ⟨S8192x4x128, .f32⟩
  | 115 => ⟨S8192x4x128, .f32⟩
  | 116 => ⟨S8192x4x128, .f32⟩
  | 117 => ⟨S_, .f32⟩
  | 118 => ⟨S8192x4, .f32⟩
  | 119 => ⟨S8192x4x1, .f32⟩
  | 120 => ⟨S_, .f32⟩
  | 121 => ⟨S8192x4x1, .f32⟩
  | 122 => ⟨S8192x4x1, .f32⟩
  | 123 => ⟨S_, .f32⟩
  | 124 => ⟨S8192x4x1, .f32⟩
  | 125 => ⟨S8192x4x1, .f32⟩
  | 126 => ⟨S8192x4x1, .f32⟩
  | 127 => ⟨S8192x4x128, .f32⟩
  | _ => ⟨S8192x7168, .f32⟩

abbrev hbmTy0_2 (i : Nat) : BufTy := match i % 128 with
  | 0 => ⟨S8192x4x128, .f32⟩
  | 1 => ⟨S4x128, .f32⟩
  | 2 => ⟨S1x4x128, .f32⟩
  | 3 => ⟨S8192x4x128, .f32⟩
  | 4 => ⟨S8192x4x128, .f32⟩
  | 5 => ⟨S8192x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S8192x512, .f32⟩
  | 15 => ⟨S8192x512, .f32⟩
  | _ => ⟨S8192x7168, .f32⟩

abbrev hbmTy (i : Nat) : BufTy := match i / 128 with
  | 0 => hbmTy0_0 i
  | 1 => hbmTy0_1 i
  | 2 => hbmTy0_2 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_cst : Ref sig .tc := ⟨.hbm, 74, rfl⟩
abbrev main_call1_v3 : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_v15 : Ref sig .tc := ⟨.hbm, 89, rfl⟩
abbrev main_call1_v16 : Ref sig .tc := ⟨.hbm, 90, rfl⟩
abbrev main_v43 : Ref sig .tc := ⟨.hbm, 91, rfl⟩
abbrev main_cst_5 : Ref sig .tc := ⟨.hbm, 92, rfl⟩
abbrev main_v44 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_7 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_8 : Ref sig .tc := ⟨.hbm, 132, rfl⟩
abbrev main_v81 : Ref sig .tc := ⟨.hbm, 133, rfl⟩
abbrev main_v82 : Ref sig .tc := ⟨.hbm, 134, rfl⟩
abbrev main_cst_9 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_10 : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_11 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_12 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_cst_13 : Ref sig .tc := ⟨.hbm, 190, rfl⟩
abbrev main_v131 : Ref sig .tc := ⟨.hbm, 191, rfl⟩
abbrev main_v132 : Ref sig .tc := ⟨.hbm, 192, rfl⟩
abbrev main_cst_14 : Ref sig .tc := ⟨.hbm, 193, rfl⟩
abbrev main_v133 : Ref sig .tc := ⟨.hbm, 194, rfl⟩
abbrev main_c : Ref sig .tc := ⟨.hbm, 195, rfl⟩
abbrev main_v134_0 : Ref sig .tc := ⟨.hbm, 196, rfl⟩
abbrev main_v134_1 : Ref sig .tc := ⟨.hbm, 197, rfl⟩
abbrev main_v134_2 : Ref sig .tc := ⟨.hbm, 198, rfl⟩
abbrev main_v134_3 : Ref sig .tc := ⟨.hbm, 199, rfl⟩
abbrev main_v134_4 : Ref sig .tc := ⟨.hbm, 200, rfl⟩
abbrev main_while0c_c_25 : Ref sig .tc := ⟨.hbm, 201, rfl⟩
abbrev main_while0c_v174 : Ref sig .tc := ⟨.hbm, 202, rfl⟩
abbrev main_while0b_call3_c : Ref sig .tc := ⟨.hbm, 203, rfl⟩
abbrev main_while0b_call3_c_0 : Ref sig .tc := ⟨.hbm, 204, rfl⟩
abbrev main_while0b_call3_c_1 : Ref sig .tc := ⟨.hbm, 205, rfl⟩
abbrev main_while0b_call3_v0 : Ref sig .tc := ⟨.hbm, 206, rfl⟩
abbrev main_while0b_v174 : Ref sig .tc := ⟨.hbm, 207, rfl⟩
abbrev main_while0b_v175 : Ref sig .tc := ⟨.hbm, 208, rfl⟩
abbrev main_while0b_v176 : Ref sig .tc := ⟨.hbm, 209, rfl⟩
abbrev main_while0b_v177 : Ref sig .tc := ⟨.hbm, 210, rfl⟩
abbrev main_while0b_v178 : Ref sig .tc := ⟨.hbm, 211, rfl⟩
abbrev main_while0b_call4_v0 : Ref sig .tc := ⟨.hbm, 212, rfl⟩
abbrev main_while0b_call4_c : Ref sig .tc := ⟨.hbm, 213, rfl⟩
abbrev main_while0b_call4_c_0 : Ref sig .tc := ⟨.hbm, 214, rfl⟩
abbrev main_while0b_call4_c_1 : Ref sig .tc := ⟨.hbm, 215, rfl⟩
abbrev main_while0b_v179 : Ref sig .tc := ⟨.hbm, 216, rfl⟩
abbrev main_while0b_c_25 : Ref sig .tc := ⟨.hbm, 217, rfl⟩
abbrev main_while0b_v180 : Ref sig .tc := ⟨.hbm, 218, rfl⟩
abbrev main_v135 : Ref sig .tc := ⟨.hbm, 219, rfl⟩
abbrev main_cst_15 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_16 : Ref sig .tc := ⟨.hbm, 236, rfl⟩
abbrev main_v151 : Ref sig .tc := ⟨.hbm, 237, rfl⟩
abbrev main_v152 : Ref sig .tc := ⟨.hbm, 238, rfl⟩
abbrev main_cst_17 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_cst_18 : Ref sig .tc := ⟨.hbm, 245, rfl⟩
abbrev main_v158 : Ref sig .tc := ⟨.hbm, 246, rfl⟩
abbrev main_v159 : Ref sig .tc := ⟨.hbm, 247, rfl⟩
abbrev main_cst_19 : Ref sig .tc := ⟨.hbm, 248, rfl⟩
abbrev main_v160 : Ref sig .tc := ⟨.hbm, 249, rfl⟩
abbrev main_v161 : Ref sig .tc := ⟨.hbm, 250, rfl⟩
abbrev main_cst_20 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_call5_v0 : Ref sig .tc := ⟨.hbm, 262, rfl⟩
abbrev main_call5_v1 : Ref sig .tc := ⟨.hbm, 263, rfl⟩
abbrev main_call5_cst : Ref sig .tc := ⟨.hbm, 264, rfl⟩
abbrev main_call5_v2 : Ref sig .tc := ⟨.hbm, 265, rfl⟩
abbrev main_call5_v3 : Ref sig .tc := ⟨.hbm, 266, rfl⟩
abbrev main_call5_cst_0 : Ref sig .tc := ⟨.hbm, 267, rfl⟩
abbrev main_call5_v4 : Ref sig .tc := ⟨.hbm, 268, rfl⟩
abbrev main_call5_v5 : Ref sig .tc := ⟨.hbm, 269, rfl⟩
abbrev main_v172 : Ref sig .tc := ⟨.hbm, 270, rfl⟩
abbrev main_v173 : Ref sig .tc := ⟨.hbm, 271, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S2x1x2048 : Shape := ⟨3, ![2, 1, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S2x1x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S8192x2048 : Shape := ⟨2, ![8192, 2048]⟩
abbrev S2x2048 : Shape := ⟨2, ![2, 2048]⟩
abbrev S2x2048x6832 : Shape := ⟨3, ![2, 2048, 6832]⟩
abbrev S2x1x2048 : Shape := ⟨3, ![2, 1, 2048]⟩
abbrev S2x2048x1536 : Shape := ⟨3, ![2, 2048, 1536]⟩
abbrev S_ : Shape := ⟨0, ![]⟩
abbrev S2x2048x1024 : Shape := ⟨3, ![2, 2048, 1024]⟩
abbrev S2x2048x512 : Shape := ⟨3, ![2, 2048, 512]⟩
abbrev S2x2048x8 : Shape := ⟨3, ![2, 2048, 8]⟩
abbrev S2x2048x128 : Shape := ⟨3, ![2, 2048, 128]⟩
abbrev S2x2048x160 : Shape := ⟨3, ![2, 2048, 160]⟩
abbrev S2x2048x256 : Shape := ⟨3, ![2, 2048, 256]⟩
abbrev S2x2048x7168 : Shape := ⟨3, ![2, 2048, 7168]⟩
abbrev S8192x7168 : Shape := ⟨2, ![8192, 7168]⟩
abbrev S1024x2048 : Shape := ⟨2, ![1024, 2048]⟩
abbrev S1x1x2048 : Shape := ⟨3, ![1, 1, 2048]⟩
abbrev S1x2048x1792 : Shape := ⟨3, ![1, 2048, 1792]⟩
abbrev S1024x1792 : Shape := ⟨2, ![1024, 1792]⟩
abbrev S1024 : Shape := ⟨1, ![1024]⟩
abbrev S1024x1 : Shape := ⟨2, ![1024, 1]⟩
abbrev S1x2048 : Shape := ⟨2, ![1, 2048]⟩
abbrev S2048x1792 : Shape := ⟨2, ![2048, 1792]⟩

abbrev nBuf : Space → Nat
  | .hbm => 51
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6832, .f32⟩
  | .hbm, ⟨3, _⟩ => ⟨S2x1x2048, .f32⟩
  | .hbm, ⟨4, _⟩ => ⟨S2x2048x1536, .f32⟩
  | .hbm, ⟨5, _⟩ => ⟨S_, .i32⟩
  | .hbm, ⟨6, _⟩ => ⟨S_, .f32⟩
  | .hbm, ⟨7, _⟩ => ⟨S2x2048x1536, .f32⟩
  | .hbm, ⟨8, _⟩ => ⟨S2x2048x1536, .f32⟩
  | .hbm, ⟨9, _⟩ => ⟨S_, .i32⟩
  | .hbm, ⟨10, _⟩ => ⟨S_, .f32⟩
  | .hbm, ⟨11, _⟩ => ⟨S2x2048x1536, .f32⟩
  | .hbm, ⟨12, _⟩ => ⟨S2x2048x1024, .f32⟩
  | .hbm, ⟨13, _⟩ => ⟨S_, .i32⟩
  | .hbm, ⟨14, _⟩ => ⟨S_, .f32⟩
  | .hbm, ⟨15, _⟩ => ⟨S2x2048x1024, .f32⟩
  | .hbm, ⟨16, _⟩ => ⟨S2x2048x512, .f32⟩
  | .hbm, ⟨17, _⟩ => ⟨S_, .i32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S_, .i32⟩
  | .hbm, ⟨22, _⟩ => ⟨S_, .f32⟩
  | .hbm, ⟨23, _⟩ => ⟨S2x2048x512, .f32⟩
  | .hbm, ⟨24, _⟩ => ⟨S2x2048x512, .f32⟩
  | .hbm, ⟨25, _⟩ => ⟨S_, .i32⟩
  | .hbm, ⟨26, _⟩ => ⟨S_, .f32⟩
  | .hbm, ⟨27, _⟩ => ⟨S2x2048x512, .f32⟩
  | .hbm, ⟨28, _⟩ => ⟨S2x2048x512, .f32⟩
  | .hbm, ⟨29, _⟩ => ⟨S_, .i32⟩
  | .hbm, ⟨30, _⟩ => ⟨S_, .f32⟩
  | .hbm, ⟨31, _⟩ => ⟨S2x2048x512, .f32⟩
  | .hbm, ⟨32, _⟩ => ⟨S2x2048x512, .f32⟩
  | .hbm, ⟨33, _⟩ => ⟨S_, .i32⟩
  | .hbm, ⟨34, _⟩ => ⟨S_, .f32⟩
  | .hbm, ⟨35, _⟩ => ⟨S2x2048x512, .f32⟩
  | .hbm, ⟨36, _⟩ => ⟨S2x2048x8, .f32⟩
  | .hbm, ⟨37, _⟩ => ⟨S_, .i32⟩
  | .hbm, ⟨38, _⟩ => ⟨S_, .f32⟩
  | .hbm, ⟨39, _⟩ => ⟨S2x2048x128, .f32⟩
  | .hbm, ⟨40, _⟩ => ⟨S2x2048x8, .f32⟩
  | .hbm, ⟨41, _⟩ => ⟨S_, .i32⟩
  | .hbm, ⟨42, _⟩ => ⟨S_, .f32⟩
  | .hbm, ⟨43, _⟩ => ⟨S2x2048x128, .f32⟩
  | .hbm, ⟨44, _⟩ => ⟨S2x2048x160, .f32⟩
  | .hbm, ⟨45, _⟩ => ⟨S_, .i32⟩
  | .hbm, ⟨46, _⟩ => ⟨S_, .f32⟩
  | .hbm, ⟨47, _⟩ => ⟨S2x2048x256, .f32⟩
  | .hbm, ⟨48, _⟩ => ⟨S2x2048x7168, .f32⟩
  | .hbm, ⟨49, _⟩ => ⟨S2x2048x7168, .bf16⟩
  | .hbm, ⟨50, _⟩ => ⟨S8192x7168, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call4_v0 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_call5_v0 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_call6_v0 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_call7_v0 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_call8_v0 : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_call9_v0 : Ref sig .tc := ⟨.hbm, 42, rfl⟩
abbrev main_v20 : Ref sig .tc := ⟨.hbm, 43, rfl⟩
abbrev main_v21 : Ref sig .tc := ⟨.hbm, 44, rfl⟩
abbrev main_c_9 : Ref sig .tc := ⟨.hbm, 45, rfl⟩
abbrev main_call10_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2x2048 : Shape := ⟨2, ![2, 2048]⟩
abbrev S2x2048x6832 : Shape := ⟨3, ![2, 2048, 6832]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x6832 : Shape := ⟨3, ![1, 2048, 6832]⟩
abbrev S2048x6832 : Shape := ⟨2, ![2048, 6832]⟩
abbrev S8192x6832 : Shape := ⟨2, ![8192, 6832]⟩
abbrev S8192x1536 : Shape := ⟨2, ![8192, 1536]⟩
abbrev S8192x512 : Shape := ⟨2, ![8192, 512]⟩
abbrev S8192x8 : Shape := ⟨2, ![8192, 8]⟩
abbrev S8192x1024 : Shape := ⟨2, ![8192, 1024]⟩
abbrev S8192x160 : Shape := ⟨2, ![8192, 160]⟩
abbrev S8192x120 : Shape := ⟨2, ![8192, 120]⟩
abbrev S8192x96 : Shape := ⟨2, ![8192, 96]⟩
abbrev S8192x7168 : Shape := ⟨2, ![8192, 7168]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6832, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6832, .f32⟩
  | .hbm, ⟨22, _⟩ => ⟨S2048x6832, .f32⟩
  | .hbm, ⟨23, _⟩ => ⟨S8192x6832, .f32⟩
  | .hbm, ⟨24, _⟩ => ⟨S8192x1536, .f32⟩
  | .hbm, ⟨25, _⟩ => ⟨S8192x512, .f32⟩
  | .hbm, ⟨26, _⟩ => ⟨S8192x8, .f32⟩
  | .hbm, ⟨27, _⟩ => ⟨S8192x1536, .f32⟩
  | .hbm, ⟨28, _⟩ => ⟨S8192x512, .f32⟩
  | .hbm, ⟨29, _⟩ => ⟨S8192x1024, .f32⟩
  | .hbm, ⟨30, _⟩ => ⟨S8192x8, .f32⟩
  | .hbm, ⟨31, _⟩ => ⟨S8192x1536, .f32⟩
  | .hbm, ⟨32, _⟩ => ⟨S8192x160, .f32⟩
  | .hbm, ⟨33, _⟩ => ⟨S_, .f32⟩
  | .hbm, ⟨34, _⟩ => ⟨S8192x120, .f32⟩
  | .hbm, ⟨35, _⟩ => ⟨S_, .f32⟩
  | .hbm, ⟨36, _⟩ => ⟨S8192x120, .f32⟩
  | .hbm, ⟨37, _⟩ => ⟨S_, .f32⟩
  | .hbm, ⟨38, _⟩ => ⟨S8192x96, .f32⟩
  | .hbm, ⟨39, _⟩ => ⟨S8192x7168, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel4.lean ====
abbrev S8192x2048 : Shape := ⟨2, ![8192, 2048]⟩
abbrev S8192x512 : Shape := ⟨2, ![8192, 512]⟩
abbrev S2x2048x2048 : Shape := ⟨3, ![2, 2048, 2048]⟩
abbrev S512x2048 : Shape := ⟨2, ![512, 2048]⟩
abbrev S512x512 : Shape := ⟨2, ![512, 512]⟩
abbrev S1x2048x2048 : Shape := ⟨3, ![1, 2048, 2048]⟩
abbrev S1x512x2048 : Shape := ⟨3, ![1, 512, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S2x2048x2048, .f32⟩
  | .hbm, ⟨6, _⟩ => ⟨S2x2048x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x2048x2048, .bf16⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S8192x512 : Shape := ⟨2, ![8192, 512]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S2x2048x2048, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel5.lean ====
abbrev S8192x7168 : Shape := ⟨2, ![8192, 7168]⟩
abbrev S2x32x1792 : Shape := ⟨3, ![2, 32, 1792]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S8192x512 : Shape := ⟨2, ![8192, 512]⟩
abbrev S256x512 : Shape := ⟨2, ![256, 512]⟩
abbrev S256x1024 : Shape := ⟨2, ![256, 1024]⟩
abbrev S256x128 : Shape := ⟨2, ![256, 128]⟩
abbrev S1x32x1792 : Shape := ⟨3, ![1, 32, 1792]⟩
abbrev S264x1024 : Shape := ⟨2, ![264, 1024]⟩
abbrev S2x128x256 : Shape := ⟨3, ![2, 128, 256]⟩
abbrev S8x1024 : Shape := ⟨2, ![8, 1024]⟩
abbrev S1x4x1024 : Shape := ⟨3, ![1, 4, 1024]⟩
abbrev S4x1024 : Shape := ⟨2, ![4, 1024]⟩
abbrev S1x1024 : Shape := ⟨2, ![1, 1024]⟩
abbrev S1x1x1024 : Shape := ⟨3, ![1, 1, 1024]⟩
abbrev S64x128 : Shape := ⟨2, ![64, 128]⟩
abbrev S1x1x128 : Shape := ⟨3, ![1, 1, 128]⟩
abbrev S1x128 : Shape := ⟨2, ![1, 128]⟩
abbrev S128x256 : Shape := ⟨2, ![128, 256]⟩
abbrev S512x128 : Shape := ⟨2, ![512, 128]⟩
abbrev S512x512 : Shape := ⟨2, ![512, 512]⟩
abbrev S64x512 : Shape := ⟨2, ![64, 512]⟩
abbrev S1x1x512 : Shape := ⟨3, ![1, 1, 512]⟩
abbrev S128x128 : Shape := ⟨2, ![128, 128]⟩
abbrev S64x256 : Shape := ⟨2, ![64, 256]⟩
abbrev S64x1 : Shape := ⟨2, ![64, 1]⟩
abbrev S1x64 : Shape := ⟨2, ![1, 64]⟩
abbrev S1x128x256 : Shape := ⟨3, ![1, 128, 256]⟩
abbrev S64 : Shape := ⟨1, ![64]⟩

abbrev nBuf : Space → Nat
  | .hbm => 84
  | .vmem => 14
  | .smem => 0
  | _ => 0

abbrev bufTy : (tb : Table) → Fin (tcTables nBuf tb) → BufTy
  | .hbm, ⟨0, _⟩ => ⟨S8192x7168, .f32⟩
  | .hbm, ⟨1, _⟩ => ⟨S2x32x1792, .f32⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S_, .i32⟩
  | .hbm, ⟨26, _⟩ => ⟨S1x256, .i32⟩
  | .hbm, ⟨27, _⟩ => ⟨S1x256, .i32⟩
  | .hbm, ⟨28, _⟩ => ⟨S1x256, .i32⟩
  | .hbm, ⟨29, _⟩ => ⟨S_, .i32⟩
  | .hbm, ⟨30, _⟩ => ⟨S1x256, .i32⟩
  | .hbm, ⟨31, _⟩ => ⟨S1x256, .i1⟩
  | .hbm, ⟨32, _⟩ => ⟨S1x256, .i32⟩
  | .hbm, ⟨33, _⟩ => ⟨S1x256, .i32⟩
  | .hbm, ⟨34, _⟩ => ⟨S_, .i32⟩
  | .hbm, ⟨35, _⟩ => ⟨S1x256, .i32⟩
  | .hbm, ⟨36, _⟩ => ⟨S1x256, .i1⟩
  | .hbm, ⟨37, _⟩ => ⟨S1x256, .i1⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .i1⟩
  | .hbm, ⟨49, _⟩ => ⟨S256x256, .bf16⟩
  | .hbm, ⟨50, _⟩ => ⟨S256x256, .i32⟩
  | .hbm, ⟨51, _⟩ => ⟨S256x256, .i32⟩
  | .hbm, ⟨52, _⟩ => ⟨S_, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S128, .i32⟩
  | .hbm, ⟨58, _⟩ => ⟨S128x1, .i32⟩
  | .hbm, ⟨59, _⟩ => ⟨S512, .i32⟩
  | .hbm, ⟨60, _⟩ => ⟨S1x512, .i32⟩
  | .hbm, ⟨61, _⟩ => ⟨S_, .i32⟩
  | .hbm, ⟨62, _⟩ => ⟨S_, .i32⟩
  | .hbm, ⟨63, _⟩ => ⟨S1x512, .i32⟩
  | .hbm, ⟨64, _⟩ => ⟨S1x512, .i32⟩
  | .hbm, ⟨65, _⟩ => ⟨S1x512, .i32⟩
  | .hbm, ⟨66, _⟩ => ⟨S_, .i32⟩
  | .hbm, ⟨67, _⟩ => ⟨S1x512, .i32⟩
  | .hbm, ⟨68, _⟩ => ⟨S1x512, .i1⟩
  | .hbm, ⟨69, _⟩ => ⟨S1x512, .i32⟩
  | .hbm, ⟨70, _⟩ => ⟨S1x512, .i32⟩
  | .hbm, ⟨71, _⟩ => ⟨S_, .i32⟩
  | .hbm, ⟨72, _⟩ => ⟨S1x512, .i32⟩
  | .hbm, ⟨73, _⟩ => ⟨S1x512, .i1⟩
  | .hbm, ⟨74, _⟩ => ⟨S1x512, .i1⟩
  | .hbm, ⟨75, _⟩ => ⟨S_, .i32⟩
  | .hbm, ⟨76, _⟩ => ⟨S1x512, .i32⟩
  | .hbm, ⟨77, _⟩ => ⟨S1x512, .i32⟩
  | .hbm, ⟨78, _⟩ => ⟨S1x512, .i32⟩
  | .hbm, ⟨79, _⟩ => ⟨S128x512, .i32⟩
  | .hbm, ⟨80, _⟩ => ⟨S128x512, .i32⟩
  | .hbm, ⟨81, _⟩ => ⟨S128x512, .i1⟩
  | .hbm, ⟨82, _⟩ => ⟨S128x512, .bf16⟩
  | .hbm, ⟨83, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S1x32x1792, .f32⟩
  | .local _ .vmem, ⟨7, _⟩ => ⟨S256x256, .bf16⟩
  | .local _ .vmem, ⟨8, _⟩ => ⟨S256x256, .bf16⟩
  | .local _ .vmem, ⟨9, _⟩ => ⟨S128x512, .bf16⟩
  | .local _ .vmem, ⟨10, _⟩ => ⟨S256x512, .f32⟩
  | .local _ .vmem, ⟨11, _⟩ => ⟨S256x512, .f32⟩
  | .local _ .vmem, ⟨12, _⟩ => ⟨S264x1024, .f32⟩
  | .local _ .vmem, ⟨13, _⟩ => ⟨S2x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_c_1 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c53_i32 : BitVec 32 := 53#32
  let c0_i32 : BitVec 32 := 0#32
  ![arg0.toNat, c53_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x7168 : Shape := ⟨2, ![8192, 7168]⟩
abbrev S2x32x1792 : Shape := ⟨3, ![2, 32, 1792]⟩
abbrev S8192x512 : Shape := ⟨2, ![8192, 512]⟩
abbrev S8192x1024 : Shape := ⟨2, ![8192, 1024]⟩
abbrev S8192x8 : Shape := ⟨2, ![8192, 8]⟩
abbrev S1x4x1024 : Shape := ⟨3, ![1, 4, 1024]⟩
abbrev S4x1024 : Shape := ⟨2, ![4, 1024]⟩
abbrev S1x1x1024 : Shape := ⟨3, ![1, 1, 1024]⟩
abbrev S1024 : Shape := ⟨1, ![1024]⟩
abbrev S1x1x8 : Shape := ⟨3, ![1, 1, 8]⟩
abbrev S8 : Shape := ⟨1, ![8]⟩
abbrev S1x1x512 : Shape := ⟨3, ![1, 1, 512]⟩
abbrev S512 : Shape := ⟨1, ![512]⟩
abbrev S_ : Shape := ⟨0, ![]⟩
abbrev S8195x1024 : Shape := ⟨2, ![8195, 1024]⟩
abbrev S1x1024 : Shape := ⟨2, ![1, 1024]⟩
abbrev S8192x256 : Shape := ⟨2, ![8192, 256]⟩
abbrev S8192x8x64 : Shape := ⟨3, ![8192, 8, 64]⟩
abbrev S1x8 : Shape := ⟨2, ![1, 8]⟩
abbrev S8192x2x128 : Shape := ⟨3, ![8192, 2, 128]⟩
abbrev S128x64x2x4x64 : Shape := ⟨5, ![128, 64, 2, 4, 64]⟩
abbrev S2x4x128x64x64 : Shape := ⟨5, ![2, 4, 128, 64, 64]⟩
abbrev S128x64x2x4 : Shape := ⟨4, ![128, 64, 2, 4]⟩
abbrev S2x4x128x64 : Shape := ⟨4, ![2, 4, 128, 64]⟩
abbrev S128x64x2x128 : Shape := ⟨4, ![128, 64, 2, 128]⟩
abbrev S2x128x64x128 : Shape := ⟨4, ![2, 128, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x128x64x1 : Shape := ⟨5, ![2, 4, 128, 64, 1]⟩
abbrev S2x4x128x1x64 : Shape := ⟨5, ![2, 4, 128, 1, 64]⟩
abbrev S2x128x64x64 : Shape := ⟨4, ![2, 128, 64, 64]⟩
abbrev S2x1x128x64x64 : Shape := ⟨5, ![2, 1, 128, 64, 64]⟩
abbrev S2x4x128x1 : Shape := ⟨4, ![2, 4, 128, 1]⟩
abbrev S2x4x128 : Shape := ⟨3, ![2, 4, 128]⟩
abbrev S2x128x4x64x128 : Shape := ⟨5, ![2, 128, 4, 64, 128]⟩
abbrev S2x4x128x128x64 : Shape := ⟨5, ![2, 4, 128, 128, 64]⟩
abbrev S128x2x4x128x64 : Shape := ⟨5, ![128, 2, 4, 128, 64]⟩
abbrev S128x2x4 : Shape := ⟨3, ![128, 2, 4]⟩
abbrev S1x2x4x128x64 : Shape := ⟨5, ![1, 2, 4, 128, 64]⟩
abbrev S1x2x4 : Shape := ⟨3, ![1, 2, 4]⟩
abbrev S2x4 : Shape := ⟨2, ![2, 4]⟩
abbrev S2x4x1x1 : Shape := ⟨4, ![2, 4, 1, 1]⟩
abbrev S2x128x4x64x64 : Shape := ⟨5, ![2, 128, 4, 64, 64]⟩
abbrev S8x64 : Shape := ⟨2, ![8, 64]⟩
abbrev S1x8x64 : Shape := ⟨3, ![1, 8, 64]⟩
abbrev S8192x2x256 : Shape := ⟨3, ![8192, 2, 256]⟩
abbrev S2x256 : Shape := ⟨2, ![2, 256]⟩
abbrev S8192x2 : Shape := ⟨2, ![8192, 2]⟩
abbrev S8192x2x1 : Shape := ⟨3, ![8192, 2, 1]⟩
abbrev S1x2x256 : Shape := ⟨3, ![1, 2, 256]⟩

abbrev nBuf : Space → Nat
  | .hbm => 222
  | .vmem => 0
  | .smem => 0
  | _ => 0

abbrev hbmTy0_0 (i : Nat) : BufTy := match i % 128 with
  | 0 => ⟨S8192x7168, .f32⟩
  | 1 => ⟨S2x32x1792, .f32⟩
  | 2 => ⟨S8192x512, .f32⟩
  | 3 => ⟨S8192x1024, .f32⟩
  | 4 => ⟨S8192x8, .f32⟩
  | 5 => ⟨S1x4x1024, .f32⟩
  | 6 => ⟨S4x1024, .f32⟩
  | 7 => ⟨S1x1x1024, .f32⟩
  | 8 => ⟨S1024, .f32⟩
  | 9 => ⟨S1x1x8, .f32⟩
  | 10 => ⟨S8, .f32⟩
  | 11 => ⟨S1x1x8, .f32⟩
  | 12 => ⟨S8, .f32⟩
  | 13 => ⟨S1x1x512, .f32⟩
  | 14 => ⟨S512, .f32⟩
  | 15 => ⟨S1x1x512, .f32⟩
  | 16 => ⟨S512, .f32⟩
  | 17 => ⟨S_, .i32⟩
  | 18 => ⟨S_, .f32⟩
  | 19 => ⟨S8195x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S8192x512, .f32⟩
  | 63 => ⟨S8192x256, .f32⟩
  | 64 => ⟨S8192x256, .f32⟩
  | 65 => ⟨S8192x8x64, .f32⟩
  | 66 => ⟨S1x8, .f32⟩
  | 67 => ⟨S8192x8, .f32⟩
  | 68 => ⟨S8192x8, .f32⟩
  | 69 => ⟨S_, .f32⟩
  | 70 => ⟨S8192x8, .f32⟩
  | 71 => ⟨S8192x8, .f32⟩
  | 72 => ⟨S8192x8, .f32⟩
  | 73 => ⟨S8192x8, .f32⟩
  | 74 => ⟨S8192x8, .i1⟩
  | 75 => ⟨S8192x8, .f32⟩
  | 76 => ⟨S8192x8, .f32⟩
  | 77 => ⟨S8192x8, .f32⟩
  | 78 => ⟨S8192x8, .f32⟩
  | 79 => ⟨S8192x8, .f32⟩
  | 80 => ⟨S8192x8, .f32⟩
  | 81 => ⟨S8192x8, .f32⟩
  | 82 => ⟨S8192x8, .f32⟩
  | 83 => ⟨S8, .f32⟩
  | 84 => ⟨S8, .f32⟩
  | 85 => ⟨S8192x2x128, .f32⟩
  | 86 => ⟨S8192x2x128, .f32⟩
  | 87 => ⟨S128x64x2x4x64, .f32⟩
  | 88 => ⟨S2x4x128x64x64, .f32⟩
  | 89 => ⟨S128x64x2x4, .f32⟩
  | 90 => ⟨S2x4x128x64, .f32⟩
  | 91 => ⟨S1x8, .f32⟩
  | 92 => ⟨S8192x8, .f32⟩
  | 93 => ⟨S8192x8, .f32⟩
  | 94 => ⟨S128x64x2x4, .f32⟩
  | 95 => ⟨S2x4x128x64, .f32⟩
  | 96 => ⟨S_, .f32⟩
  | 97 => ⟨S_, .f32⟩
  | 98 => ⟨S2x4x128x64, .f32⟩
  | 99 => ⟨S128x64x2x128, .f32⟩
  | 100 => ⟨S2x128x64x128, .f32⟩
  | 101 => ⟨S128x64x2x128, .f32⟩
  | 102 => ⟨S2x128x64x128, .f32⟩
  | 103 => ⟨S64, .i32⟩
  | 104 => ⟨S64x1, .i32⟩
  | 105 => ⟨S1x64, .i32⟩
  | 106 => ⟨S64x64, .i32⟩
  | 107 => ⟨S64x64, .i32⟩
  | 108 => ⟨S64x64, .i1⟩
  | 109 => ⟨S2x4x128x64x1, .f32⟩
  | 110 => ⟨S2x4x128x1x64, .f32⟩
  | 111 => ⟨S2x4x128x64x64, .f32⟩
  | 112 => ⟨S2x4x128x64x64, .f32⟩
  | 113 => ⟨S2x4x128x64x64, .f32⟩
  | 114 => ⟨S_, .f32⟩
  | 115 => ⟨S_, .f32⟩
  | 116 => ⟨S2x4x128x64x64, .i1⟩
  | 117 => ⟨S2x4x128x64x64, .f32⟩
  | 118 => ⟨S2x4x128x64x64, .f32⟩
  | 119 => ⟨S2x4x128x64x64, .f32⟩
  | 120 => ⟨S2x128x64x64, .f32⟩
  | 121 => ⟨S2x1x128x64x64, .f32⟩
  | 122 => ⟨S2x4x128x64x64, .f32⟩
  | 123 => ⟨S2x4x128x64x64, .f32⟩
  | 124 => ⟨S2x4x128x1x64, .f32⟩
  | 125 => ⟨S2x4x128x64x64, .f32⟩
  | 126 => ⟨S2x4x128x64x64, .f32⟩
  | 127 => ⟨S2x4x128x64x64, .f32⟩
  | _ => ⟨S8192x7168, .f32⟩

abbrev hbmTy0_1 (i : Nat) : BufTy := match i % 128 with
  | 0 => ⟨S2x4x128x1, .f32⟩
  | 1 => ⟨S2x4x128, .f32⟩
  | 2 => ⟨S2x4x128x1, .f32⟩
  | 3 => ⟨S2x4x128x64, .f32⟩
  | 4 => ⟨S2x4x128x64, .f32⟩
  | 5 => ⟨S2x4x128x64, .f32⟩
  | 6 => ⟨S2x4x128x64, .f32⟩
  | 7 => ⟨S2x4x128x64x1, .f32⟩
  | 8 => ⟨S2x4x128x64x64, .f32⟩
  | 9 => ⟨S2x4x128x64x64, .f32⟩
  | 10 => ⟨S2x128x4x64x128, .f32⟩
  | 11 => ⟨S2x4x128x128x64, .f32⟩
  | 12 => ⟨S_, .f32⟩
  | 13 => ⟨S2x4x128x64, .f32⟩
  | 14 => ⟨S128x2x4x128x64, .f32⟩
  | 15 => ⟨S128x2x4, .f32⟩
  | 16 => ⟨S_, .f32⟩
  | 17 => ⟨S128x2x4x128x64, .f32⟩
  | 18 => ⟨S_, .i32⟩
  | 19 => ⟨S128x2x4x128x64, .f32⟩
  | 20 => ⟨S128x2x4, .f32⟩
  | 21 => ⟨S_, .i32⟩
  | 22 => ⟨S2x4x128x64, .f32⟩
  | 23 => ⟨S128x2x4x128x64, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S1x2x4x128x64, .f32⟩
  | 31 => ⟨S2x4x128x64, .f32⟩
  | 32 => ⟨S_, .i32⟩
  | 33 => ⟨S_, .i32⟩
  | 34 => ⟨S1x2x4, .f32⟩
  | 35 => ⟨S2x4, .f32⟩
  | 36 => ⟨S2x4, .f32⟩
  | 37 => ⟨S2x4x1x1, .f32⟩
  | 38 => ⟨S2x4x128x64, .f32⟩
  | 39 => ⟨S2x4x128x64, .f32⟩
  | 40 => ⟨S2x4x128x64, .f32⟩
  | 41 => ⟨S1x2x4x128x64, .f32⟩
  | 42 => ⟨S_, .i32⟩
  | 43 => ⟨S_, .i32⟩
  | 44 => ⟨S_, .i32⟩
  | 45 => ⟨S_, .i32⟩
  | 46 => ⟨S128x2x4x128x64, .f32⟩
  | 47 => ⟨S_, .i32⟩
  | 48 => ⟨S_, .i32⟩
  | 49 => ⟨S2x4x128x128x64, .f32⟩
  | 50 => ⟨S2x128x4x64x64, .f32⟩
  | 51 => ⟨S2x4x128x64x64, .f32⟩
  | 52 => ⟨S2x4x128x64, .f32⟩
  | 53 => ⟨S2x4x128x64x1, .f32⟩
  | 54 => ⟨S2x4x128x64x64, .f32⟩
  | 55 => ⟨S2x4x128x64x64, .f32⟩
  | 56 => ⟨S2x4x128x64x64, .f32⟩
  | 57 => ⟨S128x64x2x4x64, .f32⟩
  | 58 => ⟨S8192x8x64, .f32⟩
  | 59 => ⟨S8x64, .f32⟩
  | 60 => ⟨S1x8x64, .f32⟩
  | 61 => ⟨S8192x8x64, .f32⟩
  | 62 => ⟨S8192x8x64, .f32⟩
  | 63 => ⟨S8192x8x64, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x512, .f32⟩
  | 75 => ⟨S8192x2x256, .f32⟩
  | 76 => ⟨S2x256, .f32⟩
  | 77 => ⟨S8192x2x256, .f32⟩
  | 78 => ⟨S_, .f32⟩
  | 79 => ⟨S8192x2, .f32⟩
  | 80 => ⟨S8192x2x1, .f32⟩
  | 81 => ⟨S_, .f32⟩
  | 82 => ⟨S8192x2x1, .f32⟩
  | 83 => ⟨S8192x2x1, .f32⟩
  | 84 => ⟨S_, .f32⟩
  | 85 => ⟨S8192x2x1, .f32⟩
  | 86 => ⟨S8192x2x1, .f32⟩
  | 87 => ⟨S8192x2x1, .f32⟩
  | 88 => ⟨S8192x2x256, .f32⟩
  | 89 => ⟨S8192x2x256, .f32⟩
  | 90 => ⟨S1x2x256, .f32⟩
  | 91 => ⟨S8192x2x256, .f32⟩
  | 92 => ⟨S8192x2x256, .f32⟩
  | 93 => ⟨S8192x512, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call3_call0_cst : Ref sig .tc := ⟨.hbm, 96, rfl⟩
abbrev main_call3_call0_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_0 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_1 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_2 : Ref sig .tc := ⟨.hbm, 144, rfl⟩
abbrev main_v111 : Ref sig .tc := ⟨.hbm, 145, rfl⟩
abbrev main_c_3 : Ref sig .tc := ⟨.hbm, 146, rfl⟩
abbrev main_v112_0 : Ref sig .tc := ⟨.hbm, 147, rfl⟩
abbrev main_v112_1 : Ref sig .tc := ⟨.hbm, 148, rfl⟩
abbrev main_v112_2 : Ref sig .tc := ⟨.hbm, 149, rfl⟩
abbrev main_v112_3 : Ref sig .tc := ⟨.hbm, 150, rfl⟩
abbrev main_v112_4 : Ref sig .tc := ⟨.hbm, 151, rfl⟩
abbrev main_while0c_c_11 : Ref sig .tc := ⟨.hbm, 152, rfl⟩
abbrev main_while0c_v147 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_c_1 : Ref sig .tc := ⟨.hbm, 156, rfl⟩
abbrev main_while0b_call5_c_2 : Ref sig .tc := ⟨.hbm, 157, rfl⟩
abbrev main_while0b_call5_v0 : Ref sig .tc := ⟨.hbm, 158, rfl⟩
abbrev main_while0b_v147 : Ref sig .tc := ⟨.hbm, 159, rfl⟩
abbrev main_while0b_call6_c : Ref sig .tc := ⟨.hbm, 160, rfl⟩
abbrev main_while0b_call6_c_0 : Ref sig .tc := ⟨.hbm, 161, rfl⟩
abbrev main_while0b_call6_v0 : Ref sig .tc := ⟨.hbm, 162, rfl⟩
abbrev main_while0b_v148 : Ref sig .tc := ⟨.hbm, 163, rfl⟩
abbrev main_while0b_v149 : Ref sig .tc := ⟨.hbm, 164, rfl⟩
abbrev main_while0b_v150 : Ref sig .tc := ⟨.hbm, 165, rfl⟩
abbrev main_while0b_v151 : Ref sig .tc := ⟨.hbm, 166, rfl⟩
abbrev main_while0b_v152 : Ref sig .tc := ⟨.hbm, 167, rfl⟩
abbrev main_while0b_v153 : Ref sig .tc := ⟨.hbm, 168, rfl⟩
abbrev main_while0b_call7_v0 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_call7_c_2 : Ref sig .tc := ⟨.hbm, 173, rfl⟩
abbrev main_while0b_v154 : Ref sig .tc := ⟨.hbm, 174, rfl⟩
abbrev main_while0b_c_11 : Ref sig .tc := ⟨.hbm, 175, rfl⟩
abbrev main_while0b_v155 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_call8_v0 : Ref sig .tc := ⟨.hbm, 193, rfl⟩
abbrev main_call8_v1 : Ref sig .tc := ⟨.hbm, 194, rfl⟩
abbrev main_call8_cst : Ref sig .tc := ⟨.hbm, 195, rfl⟩
abbrev main_call8_v2 : Ref sig .tc := ⟨.hbm, 196, rfl⟩
abbrev main_call8_v3 : Ref sig .tc := ⟨.hbm, 197, rfl⟩
abbrev main_call8_cst_0 : Ref sig .tc := ⟨.hbm, 198, rfl⟩
abbrev main_call8_v4 : Ref sig .tc := ⟨.hbm, 199, rfl⟩
abbrev main_call8_v5 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_4 : Ref sig .tc := ⟨.hbm, 206, rfl⟩
abbrev main_v134 : Ref sig .tc := ⟨.hbm, 207, rfl⟩
abbrev main_v135 : Ref sig .tc := ⟨.hbm, 208, rfl⟩
abbrev main_cst_5 : Ref sig .tc := ⟨.hbm, 209, rfl⟩
abbrev main_v136 : Ref sig .tc := ⟨.hbm, 210, rfl⟩
abbrev main_v137 : Ref sig .tc := ⟨.hbm, 211, rfl⟩
abbrev main_cst_6 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩

abbrev nD : Nat := 1
abbrev τ : Topo := Topo.v7x

variable {F : FTy → Type} [FloatOps F]

abbrev main_while0_count : Scf.Loop 32 := ⟨0#32, 128#32, 1#32⟩
-- ==== Proof.RetMath.lean ====
/-
  The retention written on extended reals, entry by entry: the rotary rotation, the decayed score matrix, the chunk's own
  contribution to the state, the state carried from chunk to chunk, the head's output and its normalisation and gate. Every
  function takes plain natural-number coordinates; `at2`/`at3` read an array there. Both programs are read against these.
-/
module

public import Idealize.ShloMosaic.Lib.Pointwise
public import Idealize.ShloMosaic.Init

@[expose] public section

set_option maxRecDepth 16384

noncomputable section

namespace Cert.Proof.Ret

open Idealize.ShloMosaic Idealize.ShloMosaic.Pointwise

/-- A matrix read at two natural numbers (zero outside). -/
def at2 {a b : ℕ} (X : FVec Ideal ⟨2, ![a, b]⟩ .f32) (i j : ℕ) : EReal :=
  if h : i < a ∧ j < b then X (ix2 ⟨i, h.1⟩ ⟨j, h.2⟩) else 0

/-- A three-axis array read at three natural numbers (zero outside). -/
def at3 {a b c : ℕ} (X : FVec Ideal ⟨3, ![a, b, c]⟩ .f32) (i j k : ℕ) : EReal :=
  if h : i < a ∧ j < b ∧ k < c then X (ix3 ⟨i, h.1⟩ ⟨j, h.2.1⟩ ⟨k, h.2.2⟩) else 0

/-- An entry of a matrix is its reading at the coordinates. -/
theorem at2_ix {a b : ℕ} (X : FVec Ideal ⟨2, ![a, b]⟩ .f32) (i : Fin a) (j : Fin b) : X (ix2 i j) = at2 X i.val j.val := by
  unfold at2; rw [dif_pos ⟨i.2, j.2⟩]

/-- An entry of a three-axis array is its reading at the coordinates. -/
theorem at3_ix {a b c : ℕ} (X : FVec Ideal ⟨3, ![a, b, c]⟩ .f32) (i : Fin a) (j : Fin b) (k : Fin c) :
    X (ix3 i j k) = at3 X i.val j.val k.val := by
  unfold at3; rw [dif_pos ⟨i.2, j.2, k.2⟩]

/-- A small number as an extended real: a signed word's value. -/
def num (n : ℕ) : EReal := FloatOps.sitofp (F := Ideal) FTy.f32 (BitVec.ofNat 32 n)

/-- `num n` is `n`. -/
theorem num_eq (n : ℕ) (h : n < 2147483648) : num n = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e, Int.cast_natCast]

/-- The logarithm of a head's decay, `log (1 - 2^(-5-h))`. -/
def lgam (h : ℕ) : EReal := ((Real.log (1 - 1 / (32 * 2 ^ h)) : ℝ) : EReal)

/-- The word of 2. -/
theorem word_two : Ideal.ofBits .f32 0x40000000#32 = ((2 : ℝ) : EReal) := by
  simp [Ideal.ofBits, Ideal.ieee, -EReal.coe_mul]
  norm_num
/-- The word of -5. -/
theorem word_neg_five : Ideal.ofBits .f32 3231711232#32 = ((-5 : ℝ) : EReal) := by
  simp [Ideal.ofBits, Ideal.ieee, -EReal.coe_mul, -EReal.coe_neg]
  norm_num
/-- The word of minus infinity. -/
theorem word_neg_inf : Ideal.ofBits .f32 0xFF800000#32 = ⊥ := by
  simp [Ideal.ofBits, Ideal.ieee]

/-- The head's log decay as the reference computes it from its index. -/
theorem lgam_eq (h : ℕ) (hh : h < 4) :
    Ideal.log1p (-Ideal.pow (Ideal.ofBits FTy.f32 1073741824#32) (Ideal.ofBits FTy.f32 3231711232#32 - num h)) = lgam h := by
  rw [word_two, word_neg_five, num_eq h (by omega)]
  have e : Ideal.pow ((2 : ℝ) : EReal) (((-5 : ℝ) : EReal) - ((h : ℝ) : EReal)) = (((1 / (32 * 2 ^ h) : ℝ)) : EReal) := by
    rw [← EReal.coe_sub]
    show ((Real.rpow 2 (-5 - h) : ℝ) : EReal) = _
    congr 1
    show (2 : ℝ) ^ (-5 - (h : ℝ)) = _
    rw [show (-5 - (h : ℝ)) = -((5 + h : ℕ) : ℝ) by push_cast; ring, Real.rpow_neg (by norm_num), Real.rpow_natCast, pow_add, one_div]
    norm_num
  rw [e]
  show Ideal.log (1 + -(((1 / (32 * 2 ^ h) : ℝ)) : EReal)) = _
  have hp : (1 : ℝ) ≤ 2 ^ h := one_le_pow₀ (by norm_num)
  have h1 : (1 / (32 * 2 ^ h) : ℝ) ≤ 1 / 32 := by
    apply one_div_le_one_div_of_le <;> nlinarith
  rw [← EReal.coe_neg, ← EReal.coe_one, ← EReal.coe_add, ← sub_eq_add_neg]
  show (if (1 - 1 / (32 * 2 ^ h) : ℝ) ≤ 0 then (⊥ : EReal) else _) = _
  rw [if_neg (by linarith)]; rfl

/-- The rotation's angle at position `t`, frequency `j` of a table `lin` of exponents. -/
def ang (lin : ℕ → EReal) (t j : ℕ) : EReal :=
  num t * Ideal.div 1 (Ideal.pow (Ideal.ofBits FTy.f32 1176256512#32) (lin j))

/-- Coordinate `d` of a row of channel pairs rotated by the position's angles. -/
def rot (lin : ℕ → EReal) (t d : ℕ) (x : ℕ → EReal) : EReal :=
  if d % 2 < 1 then x (d / 2 * 2) * Ideal.cos (ang lin t (d / 2)) - x (d / 2 * 2 + 1) * Ideal.sin (ang lin t (d / 2))
  else x (d / 2 * 2 + 1) * Ideal.cos (ang lin t (d / 2)) + x (d / 2 * 2) * Ideal.sin (ang lin t (d / 2))

/-- The evenly spaced exponents from 0 to 1. -/
def lin (j : ℕ) : EReal :=
  if j < 31 then
    0 * (1 - Ideal.div (num j) (Ideal.ofBits FTy.f32 1106771968#32)) + Ideal.div (num j) (Ideal.ofBits FTy.f32 1106771968#32)
  else 1

/-- Comparing two small numbers as extended reals. -/
theorem num_le (a b : ℕ) (ha : a < 2147483648) (hb : b < 2147483648) : num a ≤ num b ↔ a ≤ b := by
  rw [num_eq a ha, num_eq b hb, EReal.coe_le_coe_iff, Nat.cast_le]

section
variable (A : FVec Ideal ⟨2, ![8192, 7168]⟩ .f32) (N : FVec Ideal ⟨3, ![2, 32, 1792]⟩ .f32)

/-- The rotated query of head `h` at row `t`, coordinate `d`. -/
def qF (h t d : ℕ) : EReal := rot lin t d fun j => at2 A t (4608 + (h * 64 + j))
/-- The rotated and scaled key. -/
def kF (h t d : ℕ) : EReal := (rot lin t d fun j => at2 A t (4608 + (256 + (h * 64 + j)))) * Ideal.ofBits FTy.f32 1040187392#32
/-- The value. -/
def vF (h t e : ℕ) : EReal := at2 A t (4608 + (512 + (h * 128 + e)))

/-- The decay between two positions of a chunk, zero above the diagonal. -/
def dmask (h r m : ℕ) : EReal := if m ≤ r then Ideal.exp ((num r - num m) * lgam h) else 0

/-- A chunk's contribution to the state. -/
def updF (h n d e : ℕ) : EReal :=
  ∑ c : Fin 64, kF A h (n * 64 + c.val) d * Ideal.exp ((Ideal.ofBits FTy.f32 1115422720#32 - num c.val) * lgam h) * vF A h (n * 64 + c.val) e

/-- The state before chunk `n`. -/
def stF (h : ℕ) : ℕ → ℕ → ℕ → EReal
  | 0, _, _ => 0
  | n + 1, d, e => stF h n d e * Ideal.exp (Ideal.ofBits FTy.f32 1115684864#32 * lgam h) + updF A h n d e

/-- What the chunk's own rows contribute to the output. -/
def intraF (h n r e : ℕ) : EReal :=
  ∑ m : Fin 64, (∑ d : Fin 64, qF A h (n * 64 + r) d.val * kF A h (n * 64 + m.val) d.val) * dmask h r m.val * vF A h (n * 64 + m.val) e

/-- The head's output at row `r` of chunk `n`. -/
def oF (h n r e : ℕ) : EReal :=
  intraF A h n r e + ∑ d : Fin 64, qF A h (n * 64 + r) d.val * Ideal.exp ((num r + 1) * lgam h) * stF A h n d.val e

/-- The mean of 128 entries. -/
def mean (o : Fin 128 → EReal) : EReal := Ideal.div (∑ e : Fin 128, o e) (Ideal.ofBits FTy.f32 1124073472#32)

/-- A row of 128 entries centred and scaled to unit variance, at entry `e`. -/
def normed (o : Fin 128 → EReal) (e : Fin 128) : EReal :=
  (o e - mean o) * Ideal.rsqrt (mean (fun e => (o e - mean o) * (o e - mean o)) + Ideal.ofBits FTy.f32 897988541#32)

/-- The gate `x * (1 / (1 + exp (-x)))`. -/
def silu (x : EReal) : EReal := x * Ideal.div 1 (1 + Ideal.exp (-x))

/-- The layer's retention output at row `r` of chunk `n`, channel `e` of head `h`. -/
def outF (h n r : ℕ) (e : Fin 128) : EReal :=
  normed (fun x => oF A h n r x.val) e * at3 N 0 7 (h * 128 + e.val) * silu (at2 A (n * 64 + r) (4608 + (1024 + (h * 128 + e.val))))

/-- The whole result. -/
def result : FVec Ideal ⟨2, ![8192, 512]⟩ .f32 := fun j =>
  outF A N ((j 1).val / 128) ((j 0).val / 64) ((j 0).val % 64) ⟨(j 1).val % 128, Nat.mod_lt _ (by omega)⟩

end

end Cert.Proof.Ret
end
-- ==== Proof.RefRead.lean ====
/-
  What each stretch of the reference's host program leaves, entry by entry, from any contents before it.
-/
module

public import proofs.«01_k».proof.Proof.RetMath
public import proofs.«01_k».proof.Proof.Gen.ReferenceIdeal.Run
public import Idealize.ShloMosaic.Lib.Tactic.CleanTypes
public import Idealize.ShloMosaic.Lib.StableHlo.RunClose

@[expose] public section

set_option maxRecDepth 16384

noncomputable section

namespace Cert.Proof.Ret

open Idealize.ShloMosaic Idealize.ShloMosaic.TcCoe Idealize.ShloMosaic.StableHlo Idealize.ShloMosaic.Pointwise
open Cert.ReferenceIdeal Cert.ReferenceIdeal.Gen

variable (V : Valuation τ sig (Elt Ideal))

/-- The first argument in given contents. -/
def proj : FVec Ideal S8192x7168 .f32 := V (Proc.devRef .tc main_arg0)
/-- The second argument. -/
def parm : FVec Ideal S2x32x1792 .f32 := V (Proc.devRef .tc main_arg1)

/-- The contents after the reference's first six stretches, from contents `V`. -/
def pre6 : Valuation τ sig (Elt Ideal) :=
  after hostOps0_5 (after hostOps0_4 (after hostOps0_3 (after hostOps0_2 (after hostOps0_1 (after hostOps0 V)))))

/-- The rotated query. -/
theorem pre6_q (t : Fin 8192) (h : Fin 4) (d : Fin 64) : pre6 V (Proc.devRef .tc main_v41) (ix3 t h d) = qF (proj V) h.val t.val d.val := by
  unfold pre6
  after_reads_simp
  pointwise
  repeat (after_reads_simp; try simp only [TRef.toBuf, TRef.ofBuf, TRef.of, cast_eq, id_eq]; pointwise)
  simp only [at2_ix]
  rfl

/-- The rotated and scaled key. -/
theorem pre6_k (t : Fin 8192) (h : Fin 4) (d : Fin 64) : pre6 V (Proc.devRef .tc main_v78) (ix3 t h d) = kF (proj V) h.val t.val d.val := by
  unfold pre6
  after_reads_simp
  pointwise
  repeat (after_reads_simp; try simp only [TRef.toBuf, TRef.ofBuf, TRef.of, cast_eq, id_eq]; pointwise)
  simp only [at2_ix]
  rfl

/-- The value. -/
theorem pre6_v (t : Fin 8192) (h : Fin 4) (d : Fin 128) : pre6 V (Proc.devRef .tc main_v79) (ix3 t h d) = vF (proj V) h.val t.val d.val := by
  unfold pre6
  after_reads_simp
  pointwise
  exact at2_ix (proj V) _ _

/-- The gate's input. -/
theorem pre6_g (t : Fin 8192) (d : Fin 512) : pre6 V (Proc.devRef .tc main_v6) (ix2 t d) = at2 (proj V) t.val (4608 + (1024 + d.val)) := by
  unfold pre6
  after_reads_simp
  pointwise
  exact at2_ix (proj V) _ _

/-- The norm's weight. -/
theorem pre6_n (d : Fin 512) : pre6 V (Proc.devRef .tc main_v2) (ix1 d) = at3 (parm V) 0 7 d.val := by
  unfold pre6
  after_reads_simp
  pointwise
  exact at3_ix (parm V) _ _ _

/-- The heads' log decays. -/
theorem pre6_lg (h : Fin 4) : pre6 V (Proc.devRef .tc main_v86) (ix1 h) = lgam h.val := by
  unfold pre6
  after_reads_simp
  pointwise
  exact lgam_eq h.val h.isLt

/-- The positions of a chunk. -/
theorem pre6_pos (r : Fin 64) : pre6 V (Proc.devRef .tc main_v87) (ix1 r) = num r.val := by
  unfold pre6
  after_reads_simp
  pointwise
  rfl

/-- The exponents of the decay mask. -/
theorem pre6_dm (h : Fin 4) (r m : Fin 64) : Ideal.exp (pre6 V (Proc.devRef .tc main_v103) (ix3 h r m)) = dmask h.val r.val m.val := by
  unfold pre6
  after_reads_simp
  try simp only [TRef.toBuf, TRef.ofBuf, TRef.of, cast_eq, id_eq]
  pointwise
  have hr := r.isLt
  have hm := m.isLt
  have hc := num_le m.val r.val (by omega) (by omega)
  unfold dmask
  rw [← lgam_eq h.val h.isLt]
  by_cases hmr : m.val ≤ r.val
  · rw [if_pos hmr]
    exact congrArg Ideal.exp (if_pos (hc.mpr hmr))
  · rw [if_neg hmr]
    refine (congrArg Ideal.exp ((if_neg (fun h => hmr (hc.mp h))).trans word_neg_inf)).trans ?_
    rfl

end Cert.Proof.Ret
end
-- ==== Proof.RefRun.lean ====
/-
  The reference's loop over the chunks and its last stretches: the carried state is the retention state, the stacked
  states are the states before each chunk, and the result is the retention written entry by entry.
-/
module

public import proofs.«01_k».proof.Proof.RefRead
public import Idealize.ShloMosaic.Lib.DynamicIndex

@[expose] public section

set_option maxRecDepth 16384

noncomputable section

namespace Cert.Proof.Ret

open Idealize.ShloMosaic Idealize.ShloMosaic.TcCoe Idealize.ShloMosaic.StableHlo Idealize.ShloMosaic.Pointwise
open Cert.ReferenceIdeal Cert.ReferenceIdeal.Gen Cert.ReferenceIdeal.Value

variable (V : Valuation τ sig (Elt Ideal))

/-- The chunks' contributions in given contents. -/
def updV : FVec Ideal S128x4x64x128 .f32 := V (Proc.devRef .tc main_v134_0)
/-- The heads' chunk decays. -/
def cdV : FVec Ideal S4 .f32 := V (Proc.devRef .tc main_v134_1)
/-- The carried state. -/
def stV : FVec Ideal S4x64x128 .f32 := V (Proc.devRef .tc main_v134_3)
/-- The stacked states. -/
def stackV : FVec Ideal S128x4x64x128 .f32 := V (Proc.devRef .tc main_v134_4)

/-- What the chunks' own rows contribute to the output. -/
def intraV : FVec Ideal S4x128x64x128 .f32 := V (Proc.devRef .tc main_v115)
/-- The queries by chunks. -/
def qV : FVec Ideal S4x128x64x64 .f32 := V (Proc.devRef .tc main_v106)

/-- The positions of a chunk. -/
def posV : FVec Ideal S64 .f32 := V (Proc.devRef .tc main_v87)
/-- The log decays. -/
def lgV : FVec Ideal S4 .f32 := V (Proc.devRef .tc main_v86)

/-- A trip's start indices, read signed. -/
theorem starts (k : Fin 128) (w : IVec S_ 32) (hw : w = fun _ => Scf.iv 0#32 1#32 k.val) (a : Fin 4) :
    BitVec.toInt ((![w, constantI S_ 32 0#32, constantI S_ 32 0#32, constantI S_ 32 0#32] : Fin 4 → IVec S_ 32) a (Shape.Idx.first h_S_))
      = ((![k.val, 0, 0, 0] : Fin 4 → ℕ) a : ℤ) := by
  subst hw
  fin_cases a
  · exact (by decide +kernel : ∀ k : Fin 128, BitVec.toInt (Scf.iv 0#32 1#32 k.val) = (k.val : ℤ)) k
  all_goals rfl

/-- One slot of the stack lies inside it. -/
theorem slot (k : Fin 128) : S128x4x64x128.Slices ![k.val, 0, 0, 0] S1x4x64x128 :=
  ⟨rfl, fun a => by have := k.isLt; fin_cases a <;> simp [Shape.size] <;> omega⟩

/-- The slot's start is inside, so clamping it changes nothing. -/
theorem clamp (k : Fin 128) (a : Fin 4) :
    (min (max (((![k.val, 0, 0, 0] : Fin 4 → ℕ) a : ℕ) : ℤ) 0) (((![128, 4, 64, 128] : Fin 4 → ℕ) a - (![1, 4, 64, 128] : Fin 4 → ℕ) a : ℕ) : ℤ)).toNat
      = (![k.val, 0, 0, 0] : Fin 4 → ℕ) a := by
  have := k.isLt
  fin_cases a <;> simp <;> omega

/-- One trip's new state. -/
theorem trip_state (k : Fin 128) (hk : V (Proc.devRef .tc main_v134_2) = fun _ => Scf.iv 0#32 1#32 k.val) (h : Fin 4) (d : Fin 64) (e : Fin 128) :
    stV (afterL bodyI V) (ix3 h d e) = stV V (ix3 h d e) * cdV V (ix1 h) + updV V (ix4 k h d e) := by
  unfold stV
  rw [trip_main_v134_3]
  rw [Host.dynamicSlice_eq_extractStridedSlice _ _ _ ![k.val, 0, 0, 0] _ (slot k) (starts k _ hk), id_eq]
  pointwise
  rfl

/-- Writing at a trip's start indices writes the slot. -/
theorem write_slot (k : Fin 128) (x : FVec Ideal S128x4x64x128 .f32) (u : FVec Ideal S1x4x64x128 .f32) (w : IVec S_ 32)
    (hw : w = fun _ => Scf.iv 0#32 1#32 k.val) :
    Host.dynamicUpdateSlice x u (fun a => BitVec.toInt ((![w, constantI S_ 32 0#32, constantI S_ 32 0#32, constantI S_ 32 0#32] : Fin 4 → IVec S_ 32) a (Shape.Idx.first h_S_))) updateFits_S128x4x64x128_S1x4x64x128
      = updateSlice x u ![k.val, 0, 0, 0] (slot k) :=
  Host.dynamicUpdateSlice_eq_updateSlice x u _ _ ![k.val, 0, 0, 0] (fun a => by rw [starts k w hw a]; exact clamp k a) (slot k)

/-- One trip's new stack. -/
theorem trip_stack (k : Fin 128) (hk : V (Proc.devRef .tc main_v134_2) = fun _ => Scf.iv 0#32 1#32 k.val) (n : Fin 128) (h : Fin 4) (d : Fin 64) (e : Fin 128) :
    stackV (afterL bodyI V) (ix4 n h d e) = if n = k then stV V (ix3 h d e) else stackV V (ix4 n h d e) := by
  unfold stackV
  rw [trip_main_v134_4]
  rw [id_eq]
  refine (congrFun (write_slot k _ _ _ hk) _).trans ?_
  pointwise
  by_cases g : n = k
  · rw [if_pos g]
    exact dif_pos (by subst g; exact ⟨le_refl _, Nat.lt_succ_self _⟩)
  · rw [if_neg g]
    exact dif_neg (fun q => g (Fin.ext (by have q1 : k.val ≤ n.val := q.1; have q2 : n.val < k.val + 1 := q.2; omega)))

/-- A buffer the loop does not write, after one trip. -/
theorem trip_keep (r : Ref sig .tc) (h0 : r ∉ while0Ops0_W) (h1 : r ∉ while0Ops0_1_W) (h2 : r ∉ while0Ops0_2_W) (h3 : r ∉ while0Ops0_3_W) :
    afterL bodyI V (Proc.devRef .tc r) = V (Proc.devRef .tc r) := by
  simp only [bodyI, afterL_cons, afterL_nil]
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0]

/-- A buffer the loop's condition does not write. -/
theorem cond_keep (r : Ref sig .tc) (h : r ∉ condOps_W) : after condOps V (Proc.devRef .tc r) = V (Proc.devRef .tc r) :=
  after_of_writes_sub condOps V condOps_writes h

variable (m : (ℓ : Loc nD τ sig) → Buf (Elt Ideal) ℓ) (c : Dev nD)

/-- A buffer the loop does not write, after any number of trips. -/
theorem loop_keep (r : Ref sig .tc) (hc : r ∉ condOps_W) (h0 : r ∉ while0Ops0_W) (h1 : r ∉ while0Ops0_1_W) (h2 : r ∉ while0Ops0_2_W) (h3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl, trip_keep _ r h0 h1 h2 h3, cond_keep _ r hc,
      loop_keep r hc h0 h1 h2 h3 k]

/-- The contents before the last stretch before the loop. -/
abbrev P6 : Valuation τ sig (Elt Ideal) := pre6 (launchContents m c)

/-- The contents the loop starts from. -/
theorem entry_eq : entryContents preI m c = after hostOps0_6 (P6 m c) := by
  simp only [entryContents, preI, afterL_cons, afterL_nil]
  rfl

/-- The chunks' contributions at the loop's entry. -/
theorem entry_upd (n : Fin 128) (h : Fin 4) (d : Fin 64) (e : Fin 128) :
    updV (after hostOps0_6 (P6 m c)) (ix4 n h d e) = updF (proj (launchContents m c)) h.val n.val d.val e.val := by
  unfold updV
  after_reads_simp
  pointwise
  try simp only [id_eq]
  pointwise
  unfold updF
  refine Finset.sum_congr rfl fun x _ => congrArg₂ (· * ·) (congrArg₂ (· * ·) (pre6_k _ _ h d) ?_) (pre6_v _ _ h e)
  exact congrArg₂ (fun a b => Ideal.exp ((Ideal.ofBits FTy.f32 1115422720#32 - a) * b)) (pre6_pos _ x) (pre6_lg _ h)

/-- The chunk decays at the loop's entry. -/
theorem entry_cd (h : Fin 4) :
    cdV (after hostOps0_6 (P6 m c)) (ix1 h) = Ideal.exp (Ideal.ofBits FTy.f32 1115684864#32 * lgam h.val) := by
  unfold cdV
  after_reads_simp
  pointwise
  try simp only [id_eq]
  pointwise
  exact congrArg (fun b => Ideal.exp (Ideal.ofBits FTy.f32 1115684864#32 * b)) (pre6_lg _ h)

/-- The state at the loop's entry. -/
theorem entry_st (h : Fin 4) (d : Fin 64) (e : Fin 128) : stV (after hostOps0_6 (P6 m c)) (ix3 h d e) = 0 := by
  unfold stV
  after_reads_simp
  try simp only [TRef.toBuf, TRef.ofBuf, TRef.of, cast_eq, id_eq]
  pointwise

/-- What a chunk's own rows contribute, at the loop's entry. -/
theorem entry_intra (h : Fin 4) (n : Fin 128) (r : Fin 64) (e : Fin 128) :
    intraV (after hostOps0_6 (P6 m c)) (ix4 h n r e) = intraF (proj (launchContents m c)) h.val n.val r.val e.val := by
  unfold intraV
  after_reads_simp
  pointwise
  unfold intraF
  refine Finset.sum_congr rfl fun x _ => congrArg₂ (· * ·) (congrArg₂ (· * ·) ?_ (pre6_dm _ h r x)) (pre6_v _ _ h e)
  exact Finset.sum_congr rfl fun y _ => congrArg₂ (· * ·) (pre6_q _ _ h y) (pre6_k _ _ h y)

/-- The queries by chunks, at the loop's entry. -/
theorem entry_q (h : Fin 4) (n : Fin 128) (r : Fin 64) (d : Fin 64) :
    qV (after hostOps0_6 (P6 m c)) (ix4 h n r d) = qF (proj (launchContents m c)) h.val (n.val * 64 + r.val) d.val := by
  unfold qV
  after_reads_simp
  pointwise
  exact pre6_q _ _ h d

/-- The chunks' contributions are only read by the loop. -/
theorem carried_keep0 : ∀ k, atK m k c (Proc.devRef .tc main_v134_0) = entryContents preI m c (Proc.devRef .tc main_v134_0)
  | 0 => rfl
  | k + 1 => by
    rw [show atK m (k + 1) c = afterL bodyI (after condOps (atK m k c)) from rfl, trip_main_v134_0, cond_keep _ main_v134_0 (by decide),
      carried_keep0 k]

/-- The chunk decays are only read by the loop. -/
theorem carried_keep1 : ∀ k, atK m k c (Proc.devRef .tc main_v134_1) = entryContents preI m c (Proc.devRef .tc main_v134_1)
  | 0 => rfl
  | k + 1 => by
    rw [show atK m (k + 1) c = afterL bodyI (after condOps (atK m k c)) from rfl, trip_main_v134_1, cond_keep _ main_v134_1 (by decide),
      carried_keep1 k]

/-- Before trip `k` the carried state is the retention state before chunk `k`, and the stack's earlier slots hold the
    states before their chunks. -/
theorem loop_state : ∀ k : ℕ, k ≤ 128 →
    (∀ (h : Fin 4) (d : Fin 64) (e : Fin 128), stV (atK m k c) (ix3 h d e) = stF (proj (launchContents m c)) h.val k d.val e.val)
    ∧ (∀ (n : Fin 128) (h : Fin 4) (d : Fin 64) (e : Fin 128), n.val < k →
      stackV (atK m k c) (ix4 n h d e) = stF (proj (launchContents m c)) h.val n.val d.val e.val)
  | 0, _ => ⟨fun h d e => by
      rw [show atK m 0 c = entryContents preI m c from rfl, entry_eq, entry_st]; rfl, fun n _ _ _ hn => absurd hn (Nat.not_lt_zero _)⟩
  | k + 1, hk => by
    obtain ⟨ih, ih'⟩ := loop_state k (by omega)
    have hctr : after condOps (atK m k c) (Proc.devRef .tc main_v134_2) = fun _ => Scf.iv 0#32 1#32 (⟨k, by omega⟩ : Fin 128).val := by
      rw [cond_keep _ main_v134_2 (by decide)]; exact atK_ctr m c k
    have e3 : stV (after condOps (atK m k c)) = stV (atK m k c) := cond_keep _ main_v134_3 (by decide)
    have e4 : stackV (after condOps (atK m k c)) = stackV (atK m k c) := cond_keep _ main_v134_4 (by decide)
    have e1 : cdV (after condOps (atK m k c)) = cdV (after hostOps0_6 (P6 m c)) := by
      refine (cond_keep _ main_v134_1 (by decide)).trans ?_
      rw [← entry_eq]; exact carried_keep1 m c k
    have e0 : updV (after condOps (atK m k c)) = updV (after hostOps0_6 (P6 m c)) := by
      refine (cond_keep _ main_v134_0 (by decide)).trans ?_
      rw [← entry_eq]; exact carried_keep0 m c k
    rw [show atK m (k + 1) c = afterL bodyI (after condOps (atK m k c)) from rfl]
    refine ⟨fun h d e => ?_, fun n h d e hn => ?_⟩
    · rw [trip_state _ _ hctr, e3, e1, e0, ih, entry_cd, entry_upd]
      rfl
    · rw [trip_stack _ _ hctr, e3, e4]
      by_cases g : n = ⟨k, by omega⟩
      · rw [if_pos g, ih, g]
      · rw [if_neg g]
        exact ih' n h d e (by have : n.val ≠ k := fun q => g (Fin.ext q); omega)

/-- The contents after the loop. -/
abbrev L : Valuation τ sig (Elt Ideal) := after condOps (atK m 128 c)

/-- The program's last contents. -/
theorem final_eq : finalContents condOps preI bodyI postI 128 m c = after hostOps0_9 (after hostOps0_8 (after hostOps0_7 (L m c))) := rfl

/-- A buffer the loop does not write, after the loop. -/
theorem L_keep (r : Ref sig .tc) (hc : r ∉ condOps_W) (h0 : r ∉ while0Ops0_W) (h1 : r ∉ while0Ops0_1_W) (h2 : r ∉ while0Ops0_2_W) (h3 : r ∉ while0Ops0_3_W) :
    L m c (Proc.devRef .tc r) = after hostOps0_6 (P6 m c) (Proc.devRef .tc r) :=
  (cond_keep _ r hc).trans ((loop_keep m c r hc h0 h1 h2 h3 128).trans (congrFun (entry_eq m c) _))

/-- A buffer neither the loop nor the stretch before it writes, after the loop. -/
theorem L_keep6 (r : Ref sig .tc) (hp : r ∉ hostOps0_6_W) (hc : r ∉ condOps_W) (h0 : r ∉ while0Ops0_W) (h1 : r ∉ while0Ops0_1_W) (h2 : r ∉ while0Ops0_2_W) (h3 : r ∉ while0Ops0_3_W) :
    L m c (Proc.devRef .tc r) = P6 m c (Proc.devRef .tc r) :=
  (L_keep m c r hc h0 h1 h2 h3).trans (after_of_writes_sub hostOps0_6 _ hostOps0_6_writes hp)

/-- The head's output after the loop. -/
theorem L_out (h : Fin 4) (n : Fin 128) (r : Fin 64) (e : Fin 128) :
    intraV (L m c) (ix4 h n r e) + ∑ d : Fin 64, qV (L m c) (ix4 h n r d)
      * Ideal.exp ((posV (L m c) (ix1 r) + 1) * lgV (L m c) (ix1 h))
      * stackV (L m c) (ix4 n h d e) = oF (proj (launchContents m c)) h.val n.val r.val e.val := by
  have hi : intraV (L m c) = intraV (after hostOps0_6 (P6 m c)) := L_keep m c main_v115 (by decide) (by decide) (by decide) (by decide) (by decide)
  have hq : qV (L m c) = qV (after hostOps0_6 (P6 m c)) := L_keep m c main_v106 (by decide) (by decide) (by decide) (by decide) (by decide)
  have hp : posV (L m c) = posV (P6 m c) := L_keep6 m c main_v87 (by decide) (by decide) (by decide) (by decide) (by decide) (by decide)
  have hl : lgV (L m c) = lgV (P6 m c) := L_keep6 m c main_v86 (by decide) (by decide) (by decide) (by decide) (by decide) (by decide)
  have hs : stackV (L m c) = stackV (atK m 128 c) := cond_keep _ main_v134_4 (by decide)
  rw [hi, hq, hp, hl, hs, entry_intra]
  unfold oF
  refine congrArg (intraF _ _ _ _ _ + ·) (Finset.sum_congr rfl fun d _ => congrArg₂ (· * ·) (congrArg₂ (· * ·) (entry_q m c h n r d) ?_) ((loop_state m c 128 le_rfl).2 n h d e n.isLt))
  exact congrArg₂ (fun a b => Ideal.exp ((a + 1) * b)) (pre6_pos _ r) (pre6_lg _ h)

/-- A head's output row, read off the contents after the loop. -/
def outV (h : Fin 4) (n : Fin 128) (r : Fin 64) (e : Fin 128) : EReal :=
  intraV V (ix4 h n r e) + ∑ d : Fin 64, qV V (ix4 h n r d) * Ideal.exp ((posV V (ix1 r) + 1) * lgV V (ix1 h)) * stackV V (ix4 n h d e)

/-- The normalised rows' buffer. -/
def nrmV : FVec Ideal S8192x512 .f32 := V (Proc.devRef .tc main_v171)
/-- The gate's buffer. -/
def gateV : FVec Ideal S8192x512 .f32 := V (Proc.devRef .tc main_v172)
/-- The gate's input. -/
def gV : FVec Ideal S8192x512 .f32 := V (Proc.devRef .tc main_v6)
/-- The norm's weight. -/
def wV : FVec Ideal S512 .f32 := V (Proc.devRef .tc main_v2)
/-- The result's buffer in the last contents. -/
def resV : FVec Ideal S8192x512 .f32 := V (Proc.devRef .tc main_v173)

/-- The normalised rows. -/
theorem post_norm (i : Fin 8192) (j : Fin 512) :
    nrmV (after hostOps0_7 V) (ix2 i j)
      = normed (outV V ⟨j.val / 128, by omega⟩ ⟨i.val / 64, by omega⟩ ⟨i.val % 64, by omega⟩) ⟨j.val % 128, by omega⟩
        * wV V (ix1 ⟨j.val / 128 * 128 + j.val % 128, by omega⟩) := by
  unfold nrmV
  after_reads_simp
  pointwise
  rfl

/-- The gate. -/
theorem post_gate (i : Fin 8192) (j : Fin 512) : gateV (after hostOps0_8 V) (ix2 i j) = silu (gV V (ix2 i j)) := by
  unfold gateV
  after_reads_simp
  try simp only [TRef.toBuf, TRef.ofBuf, TRef.of, cast_eq, id_eq]
  pointwise
  rfl

/-- The result from the last stretches' values. -/
theorem post_res (i : Fin 8192) (j : Fin 512) :
    resV (after hostOps0_9 (after hostOps0_8 (after hostOps0_7 V))) (ix2 i j)
      = normed (outV V ⟨j.val / 128, by omega⟩ ⟨i.val / 64, by omega⟩ ⟨i.val % 64, by omega⟩) ⟨j.val % 128, by omega⟩
        * wV V (ix1 ⟨j.val / 128 * 128 + j.val % 128, by omega⟩) * silu (gV V (ix2 i j)) := by
  have e1 : resV (after hostOps0_9 (after hostOps0_8 (after hostOps0_7 V)))
      = mulf (nrmV (after hostOps0_8 (after hostOps0_7 V))) (gateV (after hostOps0_8 (after hostOps0_7 V))) := by
    unfold resV
    after_reads_simp
    rfl
  have e2 : nrmV (after hostOps0_8 (after hostOps0_7 V)) = nrmV (after hostOps0_7 V) := by
    unfold nrmV
    after_reads_simp
  have e3 : gV (after hostOps0_7 V) = gV V := by
    unfold gV
    after_reads_simp
  rw [e1, e2]
  show nrmV _ _ * gateV _ _ = _
  rw [post_norm, post_gate, e3]

/-- The reference's result is the retention. -/
theorem ref_result : resV (finalContents condOps preI bodyI postI 128 m c) = result (proj (launchContents m c)) (parm (launchContents m c)) := by
  refine funext fun x => ?_
  obtain ⟨i, j, rfl⟩ : ∃ i j, x = ix2 i j := ⟨x 0, x 1, (ix2_eta x).symm⟩
  have hg : gV (L m c) = gV (P6 m c) := L_keep6 m c main_v6 (by decide) (by decide) (by decide) (by decide) (by decide) (by decide)
  have hw : wV (L m c) = wV (P6 m c) := L_keep6 m c main_v2 (by decide) (by decide) (by decide) (by decide) (by decide) (by decide)
  have ho : ∀ h n r, outV (L m c) h n r = fun e => oF (proj (launchContents m c)) h.val n.val r.val e.val :=
    fun h n r => funext fun e => L_out m c h n r e
  rw [final_eq, post_res, hg, hw, ho]
  refine congrArg₂ (· * ·) (congrArg₂ (· * ·) rfl (pre6_n _ _)) (congrArg silu ((pre6_g _ i j).trans ?_))
  show at2 _ i.val _ = at2 _ (i.val / 64 * 64 + i.val % 64) _
  congr 1
  · omega
  · show 4608 + (1024 + j.val) = 4608 + (1024 + (j.val / 128 * 128 + j.val % 128))
    omega

/-- The first argument is not written before the loop. -/
theorem pre6_arg0 : pre6 V (Proc.devRef .tc main_arg0) = V (Proc.devRef .tc main_arg0) := by
  unfold pre6
  after_reads_simp

/-- Nor is the second. -/
theorem pre6_arg1 : pre6 V (Proc.devRef .tc main_arg1) = V (Proc.devRef .tc main_arg1) := by
  unfold pre6
  after_reads_simp

/-- The first argument is not written after the loop. -/
theorem post_arg0 : after hostOps0_9 (after hostOps0_8 (after hostOps0_7 V)) (Proc.devRef .tc main_arg0) = V (Proc.devRef .tc main_arg0) := by
  after_reads_simp

/-- Nor is the second. -/
theorem post_arg1 : after hostOps0_9 (after hostOps0_8 (after hostOps0_7 V)) (Proc.devRef .tc main_arg1) = V (Proc.devRef .tc main_arg1) := by
  after_reads_simp

/-- The last contents of the two arguments. -/
theorem final_args :
    finalContents condOps preI bodyI postI 128 m c (Proc.devRef .tc main_arg0) = launchContents m c (Proc.devRef .tc main_arg0)
    ∧ finalContents condOps preI bodyI postI 128 m c (Proc.devRef .tc main_arg1) = launchContents m c (Proc.devRef .tc main_arg1) := by
  rw [final_eq]
  constructor
  · exact (post_arg0 _).trans ((L_keep6 m c main_arg0 (by decide) (by decide) (by decide) (by decide) (by decide) (by decide)).trans (pre6_arg0 _))
  · exact (post_arg1 _).trans ((L_keep6 m c main_arg1 (by decide) (by decide) (by decide) (by decide) (by decide) (by decide)).trans (pre6_arg1 _))

/-- The reference runs, ends with the retention of its arguments, keeps them, and leaves no signal pending. -/
theorem run_ref (ρ : Dev nD → PrngReg) :
    θ_run (defs (F := Ideal)) (onTc (τ := τ) (main (F := Ideal))) ⟨m, fun _ => 0, ρ⟩ (fun r => (∀ c : Dev nD,
      r.2.mem ((c.tc : Thread nD τ).loc main_v173) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨(h c main_v173 rfl).trans (ref_result m c), (h c main_arg0 rfl).trans (final_args m c).1,
    (h c main_arg1 rfl).trans (final_args m c).2⟩, Idealize.ShloMosaic.sem_eq_zero_of_no_sems (by decide) r.2⟩) (run_fold m ρ)

end Cert.Proof.Ret
end
-- ==== Proof.KTile.lean ====
/-
  One chunk of one pair of heads in the kernel, as functions of its tiles: the decayed scores, the state after the chunk,
  the pair's output and a head's normalised and gated rows; and what each of them is, entry by entry. The pair's two heads
  lie side by side, separated by zeros, so every sum over both heads' lanes is the sum over one head's.
-/
module

public import proofs.«01_k».proof.Proof.RetMath
public import proofs.«01_k».proof.Proof.Gen.KernelIdeal.Value
public import Idealize.ShloMosaic.Lib.Pipeline.ValueKit

@[expose] public section

set_option maxRecDepth 16384

noncomputable section

namespace Cert.Proof.Ret

open Idealize.ShloMosaic Idealize.ShloMosaic.Pointwise
open Cert.KernelIdeal Cert.KernelIdeal.Gen

/-- Lane `d` of the pair's head `u`, 64 lanes a head. -/
abbrev lane (u : Fin 2) (d : Fin 64) : Fin 128 := ⟨64 * u.val + d.val, by omega⟩
/-- Lane `e` of the pair's head `u`, 128 lanes a head. -/
abbrev wide (u : Fin 2) (e : Fin 128) : Fin 256 := ⟨128 * u.val + e.val, by omega⟩

/-- There are two heads in a pair. -/
theorem two (u : Fin 2) : u = 0 ∨ u = 1 := by revert u; decide

/-- A vanishing second term drops out. -/
theorem keep_left {a a' b : EReal} (h : a = a') (hb : b = 0) : a + b = a' := by rw [h, hb, add_zero]
/-- A vanishing first term drops out. -/
theorem keep_right {a b b' : EReal} (ha : a = 0) (h : b = b') : a + b = b' := by rw [h, ha, zero_add]

/-- The pair's decayed scores. -/
def scT (q k dm : FVec Ideal S64x128 .f32) : FVec Ideal S64x128 .f32 :=
  mulf (matmul dot_S64x128_S128x128_S64x128_1_1_0_0_n_n none (truncf .bf16 q bitsLt_bf16_f32)
    (truncf .bf16 (concatenate S128x128 0
      [⟨S64x128, select k0_pay11 k (broadcast S64x128 (Scalar.ofBits .f32 0x00000000#32))⟩,
       ⟨S64x128, select k0_pay11 (broadcast S64x128 (Scalar.ofBits .f32 0x00000000#32)) k⟩]
      concatenates_S64x128_S64x128_S128x128_d0) bitsLt_bf16_f32)
    (constant S64x128 .f32 0x00000000#32)) dm

/-- The pair's state after a chunk. -/
def stT (k kd : FVec Ideal S64x128 .f32) (v : FVec Ideal S64x256 .f32) (cd : FVec Ideal S1x256 .f32) (R : FVec Ideal S128x256 .f32) :
    FVec Ideal S128x256 .f32 :=
  addf (mulf R (broadcastTo S128x256 cd broadcasts_S1x256_S128x256))
    (select k0_pay17 (matmul dot_S64x128_S64x256_S128x256_0_0_1_1_n_n none (truncf .bf16 (mulf k kd) bitsLt_bf16_f32)
      (truncf .bf16 v bitsLt_bf16_f32) (constant S128x256 .f32 0x00000000#32)) (broadcast S128x256 (Scalar.ofBits .f32 0x00000000#32)))

/-- The pair's output. -/
def oT (sc q qd : FVec Ideal S64x128 .f32) (v : FVec Ideal S64x256 .f32) (R : FVec Ideal S128x256 .f32) : FVec Ideal S64x256 .f32 :=
  addf (matmul dot_S64x128_S128x256_S64x256_1_0_0_1_n_n none (truncf .bf16 sc bitsLt_bf16_f32)
      (truncf .bf16 (concatenate S128x256 0
        [⟨S64x256, concatenate S64x256 1 [⟨S64x128, extractStridedSlice S64x128 ![0, 0] v slices_S64x256_o0_0_S64x128⟩, ⟨S64x128, k0_pay16⟩] concatenates_S64x128_S64x128_S64x256_d1⟩,
         ⟨S64x256, concatenate S64x256 1 [⟨S64x128, k0_pay16⟩, ⟨S64x128, extractStridedSlice S64x128 ![0, 128] v slices_S64x256_o0_128_S64x128⟩] concatenates_S64x128_S64x128_S64x256_d1⟩]
        concatenates_S64x256_S64x256_S128x256_d0) bitsLt_bf16_f32) (constant S64x256 .f32 0x00000000#32))
    (matmul dot_S64x128_S128x256_S64x256_1_0_0_1_n_n none (truncf .bf16 (mulf q qd) bitsLt_bf16_f32) (truncf .bf16 R bitsLt_bf16_f32)
      (constant S64x256 .f32 0x00000000#32))

/-- The mean of each row, spread along it. -/
def meanT (x : FVec Ideal S64x128 .f32) : FVec Ideal S64x1 .f32 :=
  divf (shapeCast S64x1 (multiReduction .add [1] S64 x 0x00000000#32 reduces_S64x128_S64 (.inl rfl) rfl) shapeCasts_S64_S64x1)
    (broadcast S64x1 (Scalar.ofBits .f32 0x43000000#32))

/-- A head's rows, normalised, weighted and gated. -/
def yT (o : FVec Ideal S64x128 .f32) (w : FVec Ideal S1x128 .f32) (g : FVec Ideal S64x128 .f32) : FVec Ideal S64x128 .f32 :=
  mulf (mulf (mulf (subf o (broadcastTo S64x128 (meanT o) broadcasts_S64x1_S64x128))
      (broadcastTo S64x128 (rsqrt (addf (meanT (mulf (subf o (broadcastTo S64x128 (meanT o) broadcasts_S64x1_S64x128)) (subf o (broadcastTo S64x128 (meanT o) broadcasts_S64x1_S64x128))))
        (broadcast S64x1 (Scalar.ofBits .f32 0x358637BD#32)))) broadcasts_S64x1_S64x128))
      (broadcastTo S64x128 w broadcasts_S1x128_S64x128))
    (mulf g (divf (broadcast S64x128 (Scalar.ofBits .f32 0x3F800000#32))
      (addf (broadcast S64x128 (Scalar.ofBits .f32 0x3F800000#32)) (exp (subf (broadcast S64x128 (Scalar.ofBits .f32 0x00000000#32)) g)))))

/-- A head's scores: its own lanes only. -/
theorem scT_at (q k dm : FVec Ideal S64x128 .f32) (r : Fin 64) (u : Fin 2) (x : Fin 64) :
    scT q k dm (ix2 r (lane u x)) = (∑ d : Fin 64, q (ix2 r (lane u d)) * k (ix2 x (lane u d))) * dm (ix2 r (lane u x)) := by
  pointwise [scT, k0_pay11]
  refine congrArg (· * _) ?_
  rw [Fin.sum_univ_two_halves 64 64 rfl]
  have e0 : ∀ y : Fin 64, IntOp.cmpi CmpIPredicate.slt (BitVec.ofNat 32 y.val) 64#32 = 1#1 := by decide +kernel
  have e1 : ∀ y : Fin 64, IntOp.cmpi CmpIPredicate.slt (BitVec.ofNat 32 (64 + y.val)) 64#32 = 0#1 := by decide +kernel
  obtain rfl | rfl := two u
  · refine keep_left (Finset.sum_congr rfl fun y _ => ?_) (Finset.sum_eq_zero fun y _ => ?_)
    · rw [dif_pos (by show 64 * 0 + x.val < 64; omega), e0]
      show _ * k _ = _
      congr 2 <;> refine congrArg₂ ix2 (Fin.ext ?_) (Fin.ext ?_) <;> simp
    · rw [dif_pos (by show 64 * 0 + x.val < 64; omega), e1]
      exact mul_zero _
  · refine keep_right (Finset.sum_eq_zero fun y _ => ?_) (Finset.sum_congr rfl fun y _ => ?_)
    · rw [dif_neg (by show ¬ 64 * 1 + x.val < 64; omega), e0]
      exact mul_zero _
    · rw [dif_neg (by show ¬ 64 * 1 + x.val < 64; omega), e1]
      show _ * k _ = _
      congr 2 <;> refine congrArg₂ ix2 (Fin.ext ?_) (Fin.ext ?_) <;> simp

/-- The state after a chunk: the decayed state plus, on a head's own block, the chunk's contribution. -/
theorem stT_at (k kd : FVec Ideal S64x128 .f32) (v : FVec Ideal S64x256 .f32) (cd : FVec Ideal S1x256 .f32) (R : FVec Ideal S128x256 .f32)
    (u u' : Fin 2) (d : Fin 64) (e : Fin 128) :
    stT k kd v cd R (ix2 (lane u d) (wide u' e)) = R (ix2 (lane u d) (wide u' e)) * cd (ix2 0 (wide u' e))
      + if u = u' then ∑ x : Fin 64, k (ix2 x (lane u d)) * kd (ix2 x (lane u d)) * v (ix2 x (wide u' e)) else 0 := by
  pointwise [stT, k0_pay17]
  refine congrArg (fun z : EReal => R (ix2 (lane u d) (wide u' e)) * cd (ix2 0 (wide u' e)) + z) ?_
  have f0 : ∀ y : Fin 64, IntOp.cmpi CmpIPredicate.slt (BitVec.ofNat 32 (64 * 0 + y.val)) 64#32 = 1#1 := by decide +kernel
  have f1 : ∀ y : Fin 64, IntOp.cmpi CmpIPredicate.slt (BitVec.ofNat 32 (64 * 1 + y.val)) 64#32 = 0#1 := by decide +kernel
  have g0 : ∀ y : Fin 128, IntOp.cmpi CmpIPredicate.slt (BitVec.ofNat 32 (128 * 0 + y.val)) 128#32 = 1#1 := by decide +kernel
  have g1 : ∀ y : Fin 128, IntOp.cmpi CmpIPredicate.slt (BitVec.ofNat 32 (128 * 1 + y.val)) 128#32 = 0#1 := by decide +kernel
  obtain rfl | rfl := two u <;> obtain rfl | rfl := two u'
  · refine (congrArg₂ (fun a b => Scalar.select (IntOp.xori (IntOp.xori a b) 1#1) _ _) (f0 d) (g0 e)).trans ?_
    rfl
  · refine (congrArg₂ (fun a b => Scalar.select (IntOp.xori (IntOp.xori a b) 1#1) _ _) (f0 d) (g1 e)).trans ?_
    rfl
  · refine (congrArg₂ (fun a b => Scalar.select (IntOp.xori (IntOp.xori a b) 1#1) _ _) (f1 d) (g0 e)).trans ?_
    rfl
  · refine (congrArg₂ (fun a b => Scalar.select (IntOp.xori (IntOp.xori a b) 1#1) _ _) (f1 d) (g1 e)).trans ?_
    rfl

/-- A head's output: its own rows and its own block of the state. -/
theorem oT_at (sc q qd : FVec Ideal S64x128 .f32) (v : FVec Ideal S64x256 .f32) (R : FVec Ideal S128x256 .f32)
    (hR : ∀ (u u' : Fin 2) (d : Fin 64) (e : Fin 128), u ≠ u' → R (ix2 (lane u d) (wide u' e)) = 0)
    (r : Fin 64) (u : Fin 2) (e : Fin 128) :
    oT sc q qd v R (ix2 r (wide u e)) = ∑ x : Fin 64, sc (ix2 r (lane u x)) * v (ix2 x (wide u e))
      + ∑ d : Fin 64, q (ix2 r (lane u d)) * qd (ix2 r (lane u d)) * R (ix2 (lane u d) (wide u e)) := by
  pointwise [oT, k0_pay16]
  rw [Fin.sum_univ_two_halves 64 64 rfl (fun x : Fin 128 => q (ix2 r x) * qd (ix2 r x) * R (ix2 x (wide u e)))]
  have z0 : ∀ d : Fin 64, (⟨d.val, by omega⟩ : Fin 128) = lane 0 d := fun d => Fin.ext (by simp)
  have z1 : ∀ d : Fin 64, (⟨64 + d.val, by omega⟩ : Fin 128) = lane 1 d := fun d => Fin.ext (by simp)
  simp only [z0, z1]
  obtain rfl | rfl := two u
  · refine congrArg₂ (· + ·) ?_ ?_
    · refine keep_left (Finset.sum_congr rfl fun y _ => ?_) (Finset.sum_eq_zero fun y _ => ?_)
      · rw [dif_pos (by show 128 * 0 + e.val < 128; omega)]
      · rw [dif_pos (by show 128 * 0 + e.val < 128; omega)]; exact mul_zero _
    · refine keep_left rfl (Finset.sum_eq_zero fun y _ => ?_)
      rw [hR 1 _ y e (by decide), mul_zero]
  · refine congrArg₂ (· + ·) ?_ ?_
    · refine keep_right (Finset.sum_eq_zero fun y _ => ?_) (Finset.sum_congr rfl fun y _ => ?_)
      · rw [dif_neg (by show ¬ 128 * 1 + e.val < 128; omega)]; exact mul_zero _
      · rw [dif_neg (by show ¬ 128 * 1 + e.val < 128; omega)]
        refine congrArg₂ (· * ·) rfl (congrArg v (congrArg (ix2 y) (Fin.ext ?_)))
        show 128 + (128 * 1 + e.val - 128) = 128 * 1 + e.val
        omega
    · refine keep_right (Finset.sum_eq_zero fun y _ => ?_) rfl
      rw [hR 0 _ y e (by decide), mul_zero]

/-- A head's row normalised, weighted and gated. -/
theorem yT_at (o : FVec Ideal S64x128 .f32) (w : FVec Ideal S1x128 .f32) (g : FVec Ideal S64x128 .f32) (r : Fin 64) (e : Fin 128) :
    yT o w g (ix2 r e) = normed (fun x => o (ix2 r x)) e * w (ix2 0 e) * silu (g (ix2 r e)) := by
  pointwise [yT, meanT]
  rw [zero_sub]
  rfl

end Cert.Proof.Ret
end
-- ==== Proof.KChunk.lean ====
/-
  The decay factors the kernel computes from its lane and row numbers, and one chunk of a pair on the projections' values:
  scores, new state, output and the finished rows are the retention's.
-/
module

public import proofs.«01_k».proof.Proof.KTile

@[expose] public section

set_option maxRecDepth 16384

noncomputable section

namespace Cert.Proof.Ret

open Idealize.ShloMosaic Idealize.ShloMosaic.Pointwise
open Cert.KernelIdeal Cert.KernelIdeal.Gen

/-- The head of pair `p` on side `u`. -/
abbrev hd (p u : Fin 2) : ℕ := 2 * p.val + u.val

/-- The pair's log decays along the lanes. -/
def lgP (p : Fin 2) : FVec Ideal S64x128 .f32 := match p with | 0 => k0_pay18 | 1 => k0_pay66 k0_pay11
/-- The pair's decay mask. -/
def dmP (p : Fin 2) : FVec Ideal S64x128 .f32 :=
  exp (select k0_pay14 (mulf (k0_pay13 (F := Ideal)) (lgP p)) (broadcast S64x128 (Scalar.ofBits .f32 0xFF800000#32)))
/-- The pair's key decays. -/
def kdP (p : Fin 2) : FVec Ideal S64x128 .f32 := exp (mulf (subf (broadcast S64x128 (Scalar.ofBits .f32 0x427C0000#32)) k0_pay15) (lgP p))
/-- The pair's query decays. -/
def qdP (p : Fin 2) : FVec Ideal S64x128 .f32 := exp (mulf (addf k0_pay15 (broadcast S64x128 (Scalar.ofBits .f32 0x3F800000#32))) (lgP p))
/-- The pair's chunk decays. -/
def cdP (p : Fin 2) : FVec Ideal S1x256 .f32 := match p with | 0 => k0_pay23 | 1 => k0_pay72

/-- The named logarithm of head 0 is its log decay. -/
theorem lg0 : (Named.named κ "log_gamma0" 0xBD020AEC#32 : Ideal .f32) = lgam 0 := by
  refine (IdealRules.named_const.ideal_named_scalar _ _ _ _ rfl).trans ?_
  unfold lgam; norm_num
/-- The named logarithm of head 1. -/
theorem lg1 : (Named.named κ "log_gamma1" 0xBC8102B3#32 : Ideal .f32) = lgam 1 := by
  refine (IdealRules.named_const.ideal_named_scalar _ _ _ _ rfl).trans ?_
  unfold lgam; norm_num
/-- The named logarithm of head 2. -/
theorem lg2 : (Named.named κ "log_gamma2" 0xBC0080AC#32 : Ideal .f32) = lgam 2 := by
  refine (IdealRules.named_const.ideal_named_scalar _ _ _ _ rfl).trans ?_
  unfold lgam; norm_num
/-- The named logarithm of head 3. -/
theorem lg3 : (Named.named κ "log_gamma3" 0xBB80402B#32 : Ideal .f32) = lgam 3 := by
  refine (IdealRules.named_const.ideal_named_scalar _ _ _ _ rfl).trans ?_
  unfold lgam; norm_num

/-- Which of the pair's heads a lane of 128 belongs to. -/
theorem side (u : Fin 2) (d : Fin 64) :
    IntOp.cmpi CmpIPredicate.slt (BitVec.ofNat 32 (64 * u.val + d.val)) 64#32 = if u = 0 then 1#1 else 0#1 := by
  revert u d; decide +kernel
/-- Which of the pair's heads a lane of 256 belongs to. -/
theorem side2 (u : Fin 2) (e : Fin 128) :
    IntOp.cmpi CmpIPredicate.slt (BitVec.ofNat 32 (128 * u.val + e.val)) 128#32 = if u = 0 then 1#1 else 0#1 := by
  revert u e; decide +kernel

/-- A select on a lane's side takes the side's branch. -/
theorem pick {u : Fin 2} {w : BitVec 1} (hw : w = if u = 0 then 1#1 else 0#1) (a b x : EReal)
    (h0 : u = 0 → a = x) (h1 : u = 1 → b = x) : Scalar.select w a b = x := by
  subst hw
  obtain rfl | rfl := two u
  · exact h0 rfl
  · exact h1 rfl

/-- The pair's log decay at a lane is the lane's head's. -/
theorem lgP_at (p u : Fin 2) (r d : Fin 64) : lgP p (ix2 r (lane u d)) = lgam (hd p u) := by
  obtain rfl | rfl := two p
  · unfold lgP
    pointwise [k0_pay18, k0_pay66, k0_pay11]
    exact pick (side u d) _ _ _ (fun h => by subst h; exact lg0) (fun h => by subst h; exact lg1)
  · unfold lgP
    pointwise [k0_pay18, k0_pay66, k0_pay11]
    exact pick (side u d) _ _ _ (fun h => by subst h; exact lg2) (fun h => by subst h; exact lg3)

/-- The chunk's decay at a lane of the state. -/
theorem cdP_at (p u : Fin 2) (e : Fin 128) : cdP p (ix2 0 (wide u e)) = Ideal.exp (Ideal.ofBits FTy.f32 1115684864#32 * lgam (hd p u)) := by
  obtain rfl | rfl := two p
  · unfold cdP
    pointwise [k0_pay23, k0_pay72]
    refine congrArg (fun z : EReal => Ideal.exp (Ideal.ofBits FTy.f32 1115684864#32 * z)) ?_
    exact pick (side2 u e) _ _ _ (fun h => by subst h; exact lg0) (fun h => by subst h; exact lg1)
  · unfold cdP
    pointwise [k0_pay23, k0_pay72]
    refine congrArg (fun z : EReal => Ideal.exp (Ideal.ofBits FTy.f32 1115684864#32 * z)) ?_
    exact pick (side2 u e) _ _ _ (fun h => by subst h; exact lg2) (fun h => by subst h; exact lg3)

/-- The key decay at a row and lane. -/
theorem kdP_at (p u : Fin 2) (r d : Fin 64) :
    kdP p (ix2 r (lane u d)) = Ideal.exp ((Ideal.ofBits FTy.f32 1115422720#32 - num r.val) * lgam (hd p u)) := by
  pointwise [kdP, k0_pay15]
  rw [lgP_at]; rfl

/-- The query decay at a row and lane. -/
theorem qdP_at (p u : Fin 2) (r d : Fin 64) : qdP p (ix2 r (lane u d)) = Ideal.exp ((num r.val + 1) * lgam (hd p u)) := by
  pointwise [qdP, k0_pay15]
  rw [lgP_at]; rfl

/-- The lane's position within its head. -/
theorem column (u : Fin 2) (d : Fin 64) :
    Scalar.select (IntOp.cmpi CmpIPredicate.slt (BitVec.ofNat 32 (64 * u.val + d.val)) 64#32) (BitVec.ofNat 32 (64 * u.val + d.val))
      (IntOp.subi (BitVec.ofNat 32 (64 * u.val + d.val)) 64#32) = BitVec.ofNat 32 d.val := by
  revert u d; decide +kernel
/-- Two positions compared as words. -/
theorem later (r d : Fin 64) :
    IntOp.cmpi CmpIPredicate.sge (BitVec.ofNat 32 r.val) (BitVec.ofNat 32 d.val) = if d.val ≤ r.val then 1#1 else 0#1 := by
  revert r d; decide +kernel
/-- Two positions subtracted as words. -/
theorem apart (r d : Fin 64) (h : d.val ≤ r.val) :
    IntOp.subi (BitVec.ofNat 32 r.val) (BitVec.ofNat 32 d.val) = BitVec.ofNat 32 (r.val - d.val) := by
  revert r d; decide +kernel

/-- The decay mask at a row and lane. -/
theorem dmP_at (p u : Fin 2) (r d : Fin 64) : dmP p (ix2 r (lane u d)) = dmask (hd p u) r.val d.val := by
  pointwise [dmP, k0_pay14, k0_pay13, k0_pay12, k0_pay11]
  rw [column u d, later r d, lgP_at]
  unfold dmask
  split
  · rename_i h
    rw [apart r d h]
    show Ideal.exp (num (r.val - d.val) * _) = _
    rw [num_eq _ (by omega), num_eq r.val (by omega), num_eq d.val (by omega), ← EReal.coe_sub, Nat.cast_sub h]
  · show Ideal.exp (Ideal.ofBits FTy.f32 0xFF800000#32) = 0
    rw [word_neg_inf]; rfl

end Cert.Proof.Ret
end
-- ==== Proof.KPoint.lean ====
/-
  One grid point of the kernel: four chunks of the two pairs of heads. From blocks that hold the rotated queries, the scaled
  rotated keys, the values, the gates and the weight, and a state that is the retention's, the state after each chunk is the
  retention's next one, and the finished rows are the retention's rows.
-/
module

public import proofs.«01_k».proof.Proof.KChunk

@[expose] public section

set_option maxRecDepth 16384

noncomputable section

namespace Cert.Proof.Ret

open Idealize.ShloMosaic Idealize.ShloMosaic.Pointwise
open Cert.KernelIdeal Cert.KernelIdeal.Gen

/-- There are four heads. -/
theorem hd_lt (p u : Fin 2) : hd p u < 4 := by
  show 2 * p.val + u.val < 4; omega
/-- The head of pair `p` on side `u`, as one of four. -/
abbrev head (p u : Fin 2) : Fin 4 := ⟨hd p u, hd_lt p u⟩

/-- Chunk `c`'s rows of pair `p`'s lanes, of queries or keys. -/
def qC (c : ℕ) (p : Fin 2) (X : FVec Ideal S256x256 .f32) : FVec Ideal S64x128 .f32 :=
  extractStridedSlice S64x128 ![64 * (c % 4), 128 * p.val] X (by
    have hc : c % 4 < 4 := Nat.mod_lt _ (by omega)
    generalize c % 4 = c' at hc
    interval_cases c' <;> obtain rfl | rfl := two p <;> decide)

/-- Chunk `c`'s rows of pair `p`'s values. -/
def vC (c : ℕ) (p : Fin 2) (X : FVec Ideal S256x512 .f32) : FVec Ideal S64x256 .f32 :=
  extractStridedSlice S64x256 ![64 * (c % 4), 256 * p.val] X (by
    have hc : c % 4 < 4 := Nat.mod_lt _ (by omega)
    generalize c % 4 = c' at hc
    interval_cases c' <;> obtain rfl | rfl := two p <;> decide)

/-- Chunk `c`'s rows of one head's gates. -/
def gC (c : ℕ) (p u : Fin 2) (X : FVec Ideal S256x512 .f32) : FVec Ideal S64x128 .f32 :=
  extractStridedSlice S64x128 ![64 * (c % 4), 256 * p.val + 128 * u.val] X (by
    have hc : c % 4 < 4 := Nat.mod_lt _ (by omega)
    generalize c % 4 = c' at hc
    interval_cases c' <;> obtain rfl | rfl := two p <;> obtain rfl | rfl := two u <;> decide)

/-- One head's weights. -/
def wC (p u : Fin 2) (X : FVec Ideal S1x512 .f32) : FVec Ideal S1x128 .f32 :=
  extractStridedSlice S1x128 ![0, 256 * p.val + 128 * u.val] X (by
    obtain rfl | rfl := two p <;> obtain rfl | rfl := two u <;> decide)

/-- One head's half of the pair's output. -/
def uC (u : Fin 2) (X : FVec Ideal S64x256 .f32) : FVec Ideal S64x128 .f32 :=
  extractStridedSlice S64x128 ![0, 128 * u.val] X (by obtain rfl | rfl := two u <;> decide)

/-- The pair's state after `n` chunks of the block. -/
def stC (K : FVec Ideal S256x256 .f32) (V : FVec Ideal S256x512 .f32) (p : Fin 2) (R : FVec Ideal S128x256 .f32) : ℕ → FVec Ideal S128x256 .f32
  | 0 => R
  | n + 1 => stT (qC n p K) (kdP p) (vC n p V) (cdP p) (stC K V p R n)

/-- The pair's output on chunk `c`. -/
def oC (Q K : FVec Ideal S256x256 .f32) (V : FVec Ideal S256x512 .f32) (p : Fin 2) (R : FVec Ideal S128x256 .f32) (c : ℕ) : FVec Ideal S64x256 .f32 :=
  oT (scT (qC c p Q) (qC c p K) (dmP p)) (qC c p Q) (qdP p) (vC c p V) (stC K V p R c)

/-- One head's finished rows on chunk `c`. -/
def tile (Q K : FVec Ideal S256x256 .f32) (V G : FVec Ideal S256x512 .f32) (W : FVec Ideal S1x512 .f32) (p u : Fin 2)
    (R : FVec Ideal S128x256 .f32) (c : ℕ) : FVec Ideal S64x128 .f32 :=
  yT (uC u (oC Q K V p R c)) (wC p u W) (gC c p u G)

section
variable (A : FVec Ideal ⟨2, ![8192, 7168]⟩ .f32) (N : FVec Ideal ⟨3, ![2, 32, 1792]⟩ .f32)

/-- The pair's state is the retention's before chunk `n`, each head on its own block and zero across. -/
def Holds (p : Fin 2) (n : ℕ) (R : FVec Ideal S128x256 .f32) : Prop :=
  ∀ (u u' : Fin 2) (d : Fin 64) (e : Fin 128), R (ix2 (lane u d) (wide u' e)) = if u = u' then stF A (hd p u) n d.val e.val else 0

/-- A block of lanes (64 a head) reads `f` at point `t`'s rows. -/
def Lanes (t : ℕ) (f : ℕ → ℕ → ℕ → EReal) (X : FVec Ideal S256x256 .f32) : Prop :=
  ∀ (i : Fin 256) (h : Fin 4) (d : Fin 64), X (ix2 i ⟨64 * h.val + d.val, by omega⟩) = f h.val (256 * t + i.val) d.val

/-- A block of lanes (128 a head) reads `f` at point `t`'s rows. -/
def Wides (t : ℕ) (f : ℕ → ℕ → ℕ → EReal) (X : FVec Ideal S256x512 .f32) : Prop :=
  ∀ (i : Fin 256) (h : Fin 4) (e : Fin 128), X (ix2 i ⟨128 * h.val + e.val, by omega⟩) = f h.val (256 * t + i.val) e.val

/-- A chunk of queries or keys, entry by entry. -/
theorem qC_at {t : ℕ} {f : ℕ → ℕ → ℕ → EReal} {X : FVec Ideal S256x256 .f32} (hX : Lanes t f X) (c : ℕ) (hc : c < 4) (p u : Fin 2) (r d : Fin 64) :
    qC c p X (ix2 r (lane u d)) = f (hd p u) ((4 * t + c) * 64 + r.val) d.val := by
  have e : qC c p X (ix2 r (lane u d)) = X (ix2 ⟨64 * c + r.val, by omega⟩ ⟨64 * (head p u).val + d.val, by have := (head p u).2; omega⟩) := by
    pointwise [qC]
    refine congrArg X (congrArg₂ ix2 (Fin.ext ?_) (Fin.ext ?_))
    · show 64 * (c % 4) + r.val = _
      rw [Nat.mod_eq_of_lt hc]
    · show 128 * p.val + (64 * u.val + d.val) = 64 * (2 * p.val + u.val) + d.val
      omega
  rw [e, hX]
  congr 1
  show 256 * t + (64 * c + r.val) = _
  omega

/-- A chunk of values, entry by entry. -/
theorem vC_at {t : ℕ} {f : ℕ → ℕ → ℕ → EReal} {X : FVec Ideal S256x512 .f32} (hX : Wides t f X) (c : ℕ) (hc : c < 4) (p u : Fin 2) (r : Fin 64) (e : Fin 128) :
    vC c p X (ix2 r (wide u e)) = f (hd p u) ((4 * t + c) * 64 + r.val) e.val := by
  have e : vC c p X (ix2 r (wide u e)) = X (ix2 ⟨64 * c + r.val, by omega⟩ ⟨128 * (head p u).val + e.val, by have := (head p u).2; omega⟩) := by
    pointwise [vC]
    refine congrArg X (congrArg₂ ix2 (Fin.ext ?_) (Fin.ext ?_))
    · show 64 * (c % 4) + r.val = _
      rw [Nat.mod_eq_of_lt hc]
    · show 256 * p.val + (128 * u.val + e.val) = 128 * (2 * p.val + u.val) + e.val
      omega
  rw [e, hX]
  congr 1
  show 256 * t + (64 * c + r.val) = _
  omega

/-- A chunk of gates, entry by entry. -/
theorem gC_at {t : ℕ} {f : ℕ → ℕ → ℕ → EReal} {X : FVec Ideal S256x512 .f32} (hX : Wides t f X) (c : ℕ) (hc : c < 4) (p u : Fin 2) (r : Fin 64) (e : Fin 128) :
    gC c p u X (ix2 r e) = f (hd p u) ((4 * t + c) * 64 + r.val) e.val := by
  have e : gC c p u X (ix2 r e) = X (ix2 ⟨64 * c + r.val, by omega⟩ ⟨128 * (head p u).val + e.val, by have := (head p u).2; omega⟩) := by
    pointwise [gC]
    refine congrArg X (congrArg₂ ix2 (Fin.ext ?_) (Fin.ext ?_))
    · show 64 * (c % 4) + r.val = _
      rw [Nat.mod_eq_of_lt hc]
    · show 256 * p.val + 128 * u.val + e.val = 128 * (2 * p.val + u.val) + e.val
      omega
  rw [e, hX]
  congr 1
  show 256 * t + (64 * c + r.val) = _
  omega

/-- One chunk takes the state to the retention's next one. -/
theorem state_step {t : ℕ} {K : FVec Ideal S256x256 .f32} {V : FVec Ideal S256x512 .f32} {R : FVec Ideal S128x256 .f32} {p : Fin 2}
    (hK : Lanes t (kF A) K) (hV : Wides t (vF A) V) (c : ℕ) (hc : c < 4) (hR : Holds A p (4 * t + c) R) :
    Holds A p (4 * t + (c + 1)) (stT (qC c p K) (kdP p) (vC c p V) (cdP p) R) := by
  intro u u' d e
  rw [stT_at, hR, cdP_at]
  by_cases h : u = u'
  · subst h
    rw [if_pos rfl, if_pos rfl, if_pos rfl]
    show _ = stF A (hd p u) (4 * t + c) d.val e.val * _ + updF A (hd p u) (4 * t + c) d.val e.val
    refine congrArg (fun z : EReal => stF A (hd p u) (4 * t + c) d.val e.val * Ideal.exp (Ideal.ofBits FTy.f32 1115684864#32 * lgam (hd p u)) + z) ?_
    refine Finset.sum_congr rfl fun x _ => ?_
    rw [qC_at hK c hc, kdP_at, vC_at hV c hc]
  · rw [if_neg h, if_neg h, if_neg h, zero_mul, zero_add]

/-- After `n` chunks of the block the state is the retention's. -/
theorem state_chain {t : ℕ} {K : FVec Ideal S256x256 .f32} {V : FVec Ideal S256x512 .f32} {R : FVec Ideal S128x256 .f32} {p : Fin 2}
    (hK : Lanes t (kF A) K) (hV : Wides t (vF A) V) (hR : Holds A p (4 * t) R) : ∀ c, c ≤ 4 → Holds A p (4 * t + c) (stC K V p R c)
  | 0, _ => hR
  | c + 1, h => state_step A hK hV c (by omega) (state_chain hK hV hR c (by omega))

/-- The pair's output is the retention's. -/
theorem oC_at {t : ℕ} {Q K : FVec Ideal S256x256 .f32} {V : FVec Ideal S256x512 .f32} {R : FVec Ideal S128x256 .f32} {p : Fin 2}
    (hQ : Lanes t (qF A) Q) (hK : Lanes t (kF A) K) (hV : Wides t (vF A) V) (hR : Holds A p (4 * t) R) (c : ℕ) (hc : c < 4)
    (u : Fin 2) (r : Fin 64) (e : Fin 128) : oC Q K V p R c (ix2 r (wide u e)) = oF A (hd p u) (4 * t + c) r.val e.val := by
  have hS := state_chain A hK hV hR c (by omega)
  unfold oC
  rw [oT_at _ _ _ _ _ (fun u u' d e hu => by rw [hS, if_neg hu])]
  unfold oF intraF
  refine congrArg₂ (· + ·) (Finset.sum_congr rfl fun x _ => ?_) (Finset.sum_congr rfl fun d _ => ?_)
  · rw [scT_at, dmP_at, vC_at hV c hc]
    refine congrArg (fun z : EReal => z * dmask (hd p u) r.val x.val * vF A (hd p u) ((4 * t + c) * 64 + x.val) e.val) ?_
    refine Finset.sum_congr rfl fun d _ => ?_
    rw [qC_at hQ c hc, qC_at hK c hc]
  · rw [qC_at hQ c hc, qdP_at, hS, if_pos rfl]

/-- The finished rows are the retention's. -/
theorem tile_at {t : ℕ} {Q K : FVec Ideal S256x256 .f32} {V G : FVec Ideal S256x512 .f32} {W : FVec Ideal S1x512 .f32} {R : FVec Ideal S128x256 .f32} {p : Fin 2}
    (hQ : Lanes t (qF A) Q) (hK : Lanes t (kF A) K) (hV : Wides t (vF A) V)
    (hG : Wides t (fun h i e => at2 A i (4608 + (1024 + (h * 128 + e)))) G)
    (hW : ∀ j : Fin 512, W (ix2 0 j) = at3 N 0 7 j.val)
    (hR : Holds A p (4 * t) R) (c : ℕ) (hc : c < 4)
    (u : Fin 2) (r : Fin 64) (e : Fin 128) : tile Q K V G W p u R c (ix2 r e) = outF A N (hd p u) (4 * t + c) r.val e := by
  unfold tile outF
  rw [yT_at, gC_at hG c hc]
  have hw : wC p u W (ix2 0 e) = at3 N 0 7 (hd p u * 128 + e.val) := by
    have : wC p u W (ix2 0 e) = W (ix2 0 ⟨hd p u * 128 + e.val, by have := hd_lt p u; omega⟩) := by
      pointwise [wC]
      refine congrArg W (congrArg₂ ix2 rfl (Fin.ext ?_))
      show 256 * p.val + 128 * u.val + e.val = (2 * p.val + u.val) * 128 + e.val
      omega
    rw [this, hW]
  rw [hw]
  refine congrArg (fun f : Fin 128 → EReal => normed f e * _ * _) (funext fun x => ?_)
  have : uC u (oC Q K V p R c) (ix2 r x) = oC Q K V p R c (ix2 r (wide u x)) := by
    pointwise [uC]
  rw [this, oC_at A hQ hK hV hR c hc]

end

end Cert.Proof.Ret
end
-- ==== Proof.KRead.lean ====
/-
  What the kernel's input blocks hold: the projections' columns at the point's rows, the rotation tables the host computes
  (cosines, and sines with the sign of the channel), and the layer's weight row.
-/
module

public import proofs.«01_k».proof.Proof.KPoint
public import Idealize.ShloMosaic.Lib.StableHlo.RunRead
public import Idealize.ShloMosaic.Lib.Tactic.CleanTypes
public import Idealize.ShloMosaic.Lib.StableHlo.RunClose

@[expose] public section

set_option maxRecDepth 16384

noncomputable section

namespace Cert.Proof.Ret

open Idealize.ShloMosaic Idealize.ShloMosaic.TcCoe Idealize.ShloMosaic.StableHlo Idealize.ShloMosaic.Pipeline Idealize.ShloMosaic.Pointwise
open Cert.KernelIdeal Cert.KernelIdeal.Gen

/-- Every window's block index at a point. -/
theorem idx : ∀ t : Fin cfg0.N, win0_0.index t = ![t.val, 9] ∧ win0_1.index t = ![t.val, 10] ∧ win0_2.index t = ![t.val, 11]
    ∧ win0_3.index t = ![t.val, 0] ∧ win0_4.index t = ![t.val, 0] ∧ win0_5.index t = ![0, 0, 0] ∧ win0_6.index t = ![t.val, 0] ∧ t.val < 32 :=
  (by decide +kernel : ∀ t : Fin grid0.N, _)

variable (m : (β : Loc nD τ sig) → Buf (Elt Ideal) β) (c : Dev nD)

/-- The projections. -/
def projs : FVec Ideal S8192x7168 .f32 := m ((c : Thread nD τ).loc main_arg0)
/-- The layers' parameters. -/
def pars : FVec Ideal S2x32x1792 .f32 := m ((c : Thread nD τ).loc main_arg1)

/-- The block of queries and keys. -/
theorem blk0_at (t : Fin cfg0.N) (i : Fin 256) (j : Fin 512) :
    (show FVec Ideal S256x512 .f32 from iblk m c 0 t) (ix2 i j) = at2 (projs m c) (256 * t.val + i.val) (4608 + j.val) := by
  refine Eq.trans (b := projs m c (ix2 ⟨256 * t.val + i.val, by have := (idx t).2.2.2.2.2.2.2; omega⟩ ⟨4608 + j.val, by omega⟩)) ?_ (at2_ix _ _ _)
  unfold projs
  blk_ext [iblk, V, idx t]

/-- The block of values. -/
theorem blk1_at (t : Fin cfg0.N) (i : Fin 256) (j : Fin 512) :
    (show FVec Ideal S256x512 .f32 from iblk m c 1 t) (ix2 i j) = at2 (projs m c) (256 * t.val + i.val) (5120 + j.val) := by
  refine Eq.trans (b := projs m c (ix2 ⟨256 * t.val + i.val, by have := (idx t).2.2.2.2.2.2.2; omega⟩ ⟨5120 + j.val, by omega⟩)) ?_ (at2_ix _ _ _)
  unfold projs
  blk_ext [iblk, V, idx t]

/-- The block of gates. -/
theorem blk2_at (t : Fin cfg0.N) (i : Fin 256) (j : Fin 512) :
    (show FVec Ideal S256x512 .f32 from iblk m c 2 t) (ix2 i j) = at2 (projs m c) (256 * t.val + i.val) (5632 + j.val) := by
  refine Eq.trans (b := projs m c (ix2 ⟨256 * t.val + i.val, by have := (idx t).2.2.2.2.2.2.2; omega⟩ ⟨5632 + j.val, by omega⟩)) ?_ (at2_ix _ _ _)
  unfold projs
  blk_ext [iblk, V, idx t]

/-- The weight row. -/
theorem blk5_at (t : Fin cfg0.N) (j : Fin 1792) :
    (show FVec Ideal S1x32x1792 .f32 from iblk m c 5 t) (ix3 0 7 j) = at3 (pars m c) 0 7 j.val := by
  refine Eq.trans (b := pars m c (ix3 0 7 j)) ?_ (at3_ix _ _ _ _)
  unfold pars
  blk_ext [iblk, V, idx t]

/-- The spaced exponents, but for the last. -/
theorem spaced (W : Valuation τ sig (Elt Ideal)) (j : Fin 31) :
    (show FVec Ideal S31 .f32 from upto [hostOps0, hostOps0_1, hostOps0_2].flatten W 22 (Proc.tc.devRef main_call0_v15)) (ix1 j)
      = 0 * (1 - Ideal.div (num j.val) (Ideal.ofBits FTy.f32 1106771968#32)) + Ideal.div (num j.val) (Ideal.ofBits FTy.f32 1106771968#32) := by
  after_reads_simp
  simp only [TRef.toBuf, TRef.ofBuf, TRef.of, cast_eq, id_eq]
  pointwise
  rfl
/-- The last exponent. -/
theorem last (W : Valuation τ sig (Elt Ideal)) (j : Fin 1) :
    (show FVec Ideal S1 .f32 from upto [hostOps0, hostOps0_1, hostOps0_2].flatten W 22 (Proc.tc.devRef main_call0_v16)) (ix1 j) = 1 := by
  after_reads_simp
  simp only [TRef.toBuf, TRef.ofBuf, TRef.of, cast_eq, id_eq]
  pointwise
/-- The cosine table in given contents. -/
def cosV (W : Valuation τ sig (Elt Ideal)) : FVec Ideal S8192x256 .f32 :=
  StableHlo.after [hostOps0, hostOps0_1, hostOps0_2].flatten W (Proc.tc.devRef main_v23)
/-- The cosine table, entry by entry. -/
theorem cos_table (W : Valuation τ sig (Elt Ideal)) (T : Fin 8192) (D : Fin 256) :
    cosV W (ix2 T D)
      = Ideal.cos (ang lin T.val (D.val % 64 / 2)) := by
  unfold cosV
  after_reads_simp
  pointwise
  try simp only [TRef.toBuf, TRef.ofBuf, TRef.of, cast_eq, id_eq]
  pointwise
  unfold ang lin
  refine congrArg (fun z : EReal => Ideal.cos (num T.val * Ideal.div 1 (Ideal.pow (Ideal.ofBits FTy.f32 1176256512#32) z))) ?_
  split
  · exact spaced W _
  · exact last W _

/-- The sine table in given contents. -/
def sinV (W : Valuation τ sig (Elt Ideal)) : FVec Ideal S8192x256 .f32 :=
  StableHlo.after [hostOps0, hostOps0_1, hostOps0_2].flatten W (Proc.tc.devRef main_v26)
/-- The sine table, entry by entry. -/
theorem sin_table (W : Valuation τ sig (Elt Ideal)) (T : Fin 8192) (D : Fin 256) :
    sinV W (ix2 T D)
      = if D.val % 64 % 2 < 1 then -Ideal.sin (ang lin T.val (D.val % 64 / 2)) else Ideal.sin (ang lin T.val (D.val % 64 / 2)) := by
  unfold sinV
  after_reads_simp
  pointwise
  repeat (after_reads_simp; try simp only [TRef.toBuf, TRef.ofBuf, TRef.of, cast_eq, id_eq]; pointwise)
  rfl

/-- The block of cosines. -/
theorem blk3_at (t : Fin cfg0.N) (i : Fin 256) (h : Fin 4) (d : Fin 64) :
    (show FVec Ideal S256x256 .f32 from iblk m c 3 t) (ix2 i ⟨64 * h.val + d.val, by omega⟩) = Ideal.cos (ang lin (256 * t.val + i.val) (d.val / 2)) := by
  refine Eq.trans (b := cosV (fun b => m (c, b)) (ix2 ⟨256 * t.val + i.val, by have := (idx t).2.2.2.2.2.2.2; omega⟩ ⟨64 * h.val + d.val, by omega⟩)) ?_ ((cos_table _ _ _).trans ?_)
  · blk_ext [iblk, idx t]
  · dsimp only
    rw [show (64 * h.val + d.val) % 64 = d.val by omega]

/-- The block of signed sines. -/
theorem blk4_at (t : Fin cfg0.N) (i : Fin 256) (h : Fin 4) (d : Fin 64) :
    (show FVec Ideal S256x256 .f32 from iblk m c 4 t) (ix2 i ⟨64 * h.val + d.val, by omega⟩)
      = if d.val % 2 < 1 then -Ideal.sin (ang lin (256 * t.val + i.val) (d.val / 2)) else Ideal.sin (ang lin (256 * t.val + i.val) (d.val / 2)) := by
  refine Eq.trans (b := sinV (fun b => m (c, b)) (ix2 ⟨256 * t.val + i.val, by have := (idx t).2.2.2.2.2.2.2; omega⟩ ⟨64 * h.val + d.val, by omega⟩)) ?_ ((sin_table _ _ _).trans ?_)
  · blk_ext [iblk, idx t]
  · dsimp only
    rw [show (64 * h.val + d.val) % 64 = d.val by omega]

end Cert.Proof.Ret
end
-- ==== Proof.KRot.lean ====
/-
  The kernel's rotation: every channel times its cosine plus its pair's other channel, fetched by a roll of one lane either way,
  times the signed sine. With the tables it is the rotation of channel pairs, so the kernel's queries and keys are the retention's.
-/
module

public import proofs.«01_k».proof.Proof.KRead

@[expose] public section

set_option maxRecDepth 16384

noncomputable section

namespace Cert.Proof.Ret

open Idealize.ShloMosaic Idealize.ShloMosaic.TcCoe Idealize.ShloMosaic.Pipeline Idealize.ShloMosaic.Pointwise
open Cert.KernelIdeal Cert.KernelIdeal.Gen

/-- The kernel's rotation of a block. -/
def rotT (x C S : FVec Ideal S256x256 .f32) : FVec Ideal S256x256 .f32 :=
  addf (mulf x C) (mulf (select k0_pay4 (dynamicRotate 1 255#32 none x rotates_S256x256_d1) (dynamicRotate 1 1#32 none x rotates_S256x256_d1)) S)

/-- The mask of the even lanes. -/
theorem even_lane (i j : Fin 256) : k0_pay4 (ix2 i j) = if j.val % 2 < 1 then 1#1 else 0#1 := by
  pointwise [k0_pay4]
  revert j; decide +kernel

/-- A head's lanes, rotated with the tables' entries, are the channel pairs rotated. -/
theorem rotT_at (x C S : FVec Ideal S256x256 .f32) (i : Fin 256) (h : Fin 4) (T : ℕ) (f : ℕ → EReal)
    (hx : ∀ d : Fin 64, x (ix2 i ⟨64 * h.val + d.val, by omega⟩) = f d.val)
    (hC : ∀ d : Fin 64, C (ix2 i ⟨64 * h.val + d.val, by omega⟩) = Ideal.cos (ang lin T (d.val / 2)))
    (hS : ∀ d : Fin 64, S (ix2 i ⟨64 * h.val + d.val, by omega⟩)
      = if d.val % 2 < 1 then -Ideal.sin (ang lin T (d.val / 2)) else Ideal.sin (ang lin T (d.val / 2)))
    (d : Fin 64) : rotT x C S (ix2 i ⟨64 * h.val + d.val, by omega⟩) = rot lin T d.val f := by
  pointwise [rotT]
  rw [even_lane, hx, hC, hS]
  unfold rot
  by_cases hd : d.val % 2 < 1
  · rw [if_pos (by dsimp only; omega), if_pos hd, if_pos hd]
    have e : x (ix2 i ⟨(64 * h.val + d.val + 256 - 255) % 256, Nat.mod_lt _ (by omega)⟩) = f (d.val + 1) := by
      refine Eq.trans (congrArg x (congrArg₂ ix2 rfl (Fin.ext ?_))) (hx ⟨d.val + 1, by omega⟩)
      dsimp only; omega
    show f d.val * _ + x _ * -_ = _
    rw [e, show d.val / 2 * 2 = d.val by omega, mul_neg, ← sub_eq_add_neg]
  · rw [if_neg (by dsimp only; omega), if_neg hd, if_neg hd]
    have e : x (ix2 i ⟨(64 * h.val + d.val + 256 - 1) % 256, Nat.mod_lt _ (by omega)⟩) = f (d.val - 1) := by
      refine Eq.trans (congrArg x (congrArg₂ ix2 rfl (Fin.ext ?_))) (hx ⟨d.val - 1, by omega⟩)
      dsimp only; omega
    show f d.val * _ + x _ * _ = _
    rw [e, show d.val / 2 * 2 + 1 = d.val by omega, show d.val / 2 * 2 = d.val - 1 by omega]

variable (m : (β : Loc nD τ sig) → Buf (Elt Ideal) β) (c : Dev nD) (t : Fin cfg0.N)

/-- The point's rotated queries. -/
def qB : FVec Ideal S256x256 .f32 := k0_pay5 (iblk m c 0 t) (iblk m c 3 t) (iblk m c 4 t)
/-- The point's rotated and scaled keys. -/
def kB : FVec Ideal S256x256 .f32 := k0_pay9 (k0_pay3 (iblk m c 4 t)) (k0_pay7 (iblk m c 0 t)) (k0_pay8 (iblk m c 0 t) (iblk m c 3 t))
/-- The point's values. -/
def vB : FVec Ideal S256x512 .f32 := iblk m c 1 t
/-- The point's gates. -/
def gB : FVec Ideal S256x512 .f32 := iblk m c 2 t
/-- The weights. -/
def wB : FVec Ideal S1x512 .f32 := k0_pay10 (View.ld (show FVec Ideal S1x32x1792 .f32 from iblk m c 5 t) (Rect.unit (s := S1x32x1792) ![0, 7, 0] S1x1x512.size inb_S1x32x1792_S1x1x512_0_7_0))

/-- A reshape to the same shape changes nothing. -/
theorem same_shape (x : FVec Ideal S256x256 .f32) : shapeCast S256x256 x shapeCasts_S256x256_S256x256 = x := by
  funext y
  rw [← ix2_eta y]
  pointwise

/-- The queries are the retention's. -/
theorem qB_at : Lanes t.val (qF (projs m c)) (qB m c t) := by
  intro i h d
  have e : qB m c t = rotT (extractStridedSlice S256x256 ![0, 0] (show FVec Ideal S256x512 .f32 from iblk m c 0 t) slices_S256x512_o0_0_S256x256)
      (iblk m c 3 t) (iblk m c 4 t) := by
    unfold qB k0_pay5 k0_pay2 k0_pay3 rotT
    rw [same_shape, same_shape]
  rw [e]
  refine rotT_at _ _ _ i h (256 * t.val + i.val) _ (fun d => ?_) (fun d => blk3_at m c t i h d) (fun d => blk4_at m c t i h d) d
  pointwise
  refine (blk0_at m c t _ _).trans ?_
  congr 1
  dsimp only; omega

/-- The keys are the retention's. -/
theorem kB_at : Lanes t.val (kF (projs m c)) (kB m c t) := by
  intro i h d
  have e : kB m c t = mulf (rotT (k0_pay6 (show FVec Ideal S256x512 .f32 from iblk m c 0 t))
      (iblk m c 3 t) (iblk m c 4 t)) (broadcast S256x256 (Scalar.ofBits .f32 0x3E000000#32)) := by
    unfold kB k0_pay9 k0_pay8 k0_pay7 k0_pay2 k0_pay3 rotT
    rw [same_shape, same_shape]
  rw [e]
  show rotT _ _ _ _ * _ = _
  refine congrArg (· * Ideal.ofBits FTy.f32 1040187392#32) ?_
  refine rotT_at _ _ _ i h (256 * t.val + i.val) _ (fun d => ?_) (fun d => blk3_at m c t i h d) (fun d => blk4_at m c t i h d) d
  pointwise [k0_pay6]
  refine (blk0_at m c t _ _).trans ?_
  congr 1
  dsimp only; omega

/-- The values are the retention's. -/
theorem vB_at : Wides t.val (vF (projs m c)) (vB m c t) := by
  intro i h e
  refine (blk1_at m c t i ⟨128 * h.val + e.val, by omega⟩).trans ?_
  unfold vF
  congr 1
  dsimp only; omega

/-- The gates are the projections'. -/
theorem gB_at : Wides t.val (fun h i e => at2 (projs m c) i (4608 + (1024 + (h * 128 + e)))) (gB m c t) := by
  intro i h e
  refine (blk2_at m c t i ⟨128 * h.val + e.val, by omega⟩).trans ?_
  congr 1
  dsimp only; omega

/-- The weights are the parameters' row. -/
theorem wB_at (j : Fin 512) : wB m c t (ix2 0 j) = at3 (pars m c) 0 7 j.val := by
  refine Eq.trans ?_ (blk5_at m c t ⟨j.val, by omega⟩)
  unfold wB
  pointwise [k0_pay10]
end Cert.Proof.Ret
end
-- ==== Proof.KTiles.lean ====
/-
  Each tile the kernel stores is the head's finished rows on that chunk, and each pair's stored state is the state after four chunks:
  the kernel's words for them, put in the one general form.
-/
module

public import proofs.«01_k».proof.Proof.KPoint

@[expose] public section

set_option maxRecDepth 16384

noncomputable section

namespace Cert.Proof.Ret

open Idealize.ShloMosaic Idealize.ShloMosaic.Pointwise
open Cert.KernelIdeal Cert.KernelIdeal.Gen

variable (Q K : FVec Ideal S256x256 .f32) (V G : FVec Ideal S256x512 .f32) (W : FVec Ideal S1x512 .f32) (L : FVec Ideal S1x128x256 .f32)

/-- A pair's stored state, as a matrix. -/
def mat : FVec Ideal S128x256 .f32 := shapeCast S128x256 L shapeCasts_S1x128x256_S128x256

/-- The first pair's stored state. -/
theorem stored0 : k0_pay36 (k0_pay34 K V k0_pay17 k0_pay20 k0_pay23 L) (k0_pay35 K V k0_pay17 k0_pay20)
    = shapeCast S1x128x256 (stC K V 0 (mat L) 4) shapeCasts_S128x256_S1x128x256 := rfl
/-- The second pair's stored state. -/
theorem stored1 : k0_pay85 k0_pay17 k0_pay72 (k0_pay78 K V (k0_pay70 k0_pay15 (k0_pay66 k0_pay11))) (k0_pay79 K V (k0_pay70 k0_pay15 (k0_pay66 k0_pay11))) (k0_pay83 K V k0_pay17 (k0_pay70 k0_pay15 (k0_pay66 k0_pay11)) k0_pay72 L)
    = shapeCast S1x128x256 (stC K V 1 (mat L) 4) shapeCasts_S128x256_S1x128x256 := rfl
/-- The first chunk of the first pair's first head. -/
theorem tile000 : k0_pay42 (k0_pay38 Q V W k0_pay16 (k0_pay22 k0_pay15 k0_pay18 k0_pay21) (k0_pay24 Q K k0_pay11 k0_pay19) (k0_pay30 L)) (k0_pay39 G) (k0_pay40 G) k0_pay41
    = tile Q K V G W 0 0 (mat L) 0 := rfl
/-- The first chunk of the first pair's second head. -/
theorem tile001 : k0_pay43 G W (k0_pay37 Q V k0_pay16 (k0_pay22 k0_pay15 k0_pay18 k0_pay21) (k0_pay24 Q K k0_pay11 k0_pay19) (k0_pay30 L))
    = tile Q K V G W 0 1 (mat L) 0 := rfl
/-- The second chunk of the first pair's first head. -/
theorem tile010 : k0_pay47 G W (k0_pay22 k0_pay15 k0_pay18 k0_pay21) (k0_pay31 K V k0_pay17 k0_pay20 k0_pay23 L) (k0_pay44 V k0_pay16 (k0_pay25 Q K k0_pay11 k0_pay19)) (k0_pay45 Q)
    = tile Q K V G W 0 0 (mat L) 1 := rfl
/-- The second chunk of the first pair's second head. -/
theorem tile011 : k0_pay50 G W (k0_pay48 (k0_pay22 k0_pay15 k0_pay18 k0_pay21) (k0_pay31 K V k0_pay17 k0_pay20 k0_pay23 L) (k0_pay44 V k0_pay16 (k0_pay25 Q K k0_pay11 k0_pay19)) (k0_pay45 Q)) (k0_pay49 (k0_pay22 k0_pay15 k0_pay18 k0_pay21) (k0_pay31 K V k0_pay17 k0_pay20 k0_pay23 L) (k0_pay44 V k0_pay16 (k0_pay25 Q K k0_pay11 k0_pay19)) (k0_pay45 Q))
    = tile Q K V G W 0 1 (mat L) 1 := rfl
/-- The third chunk of the first pair's first head. -/
theorem tile020 : k0_pay54 G W (k0_pay52 Q V k0_pay16 (k0_pay22 k0_pay15 k0_pay18 k0_pay21) (k0_pay26 Q K k0_pay11 k0_pay19) (k0_pay32 K V k0_pay17 k0_pay20 k0_pay23 L)) (k0_pay53 Q V k0_pay16 (k0_pay22 k0_pay15 k0_pay18 k0_pay21) (k0_pay26 Q K k0_pay11 k0_pay19) (k0_pay32 K V k0_pay17 k0_pay20 k0_pay23 L))
    = tile Q K V G W 0 0 (mat L) 2 := rfl
/-- The third chunk of the first pair's second head. -/
theorem tile021 : k0_pay58 (k0_pay55 W (k0_pay51 Q V k0_pay16 (k0_pay22 k0_pay15 k0_pay18 k0_pay21) (k0_pay26 Q K k0_pay11 k0_pay19) (k0_pay32 K V k0_pay17 k0_pay20 k0_pay23 L))) (k0_pay56 G) (k0_pay57 G) (FloatOps.ofBits FTy.f32 1065353216#32)
    = tile Q K V G W 0 1 (mat L) 2 := rfl
/-- The fourth chunk of the first pair's first head. -/
theorem tile030 : k0_pay64 (k0_pay60 Q V W k0_pay16 (k0_pay22 k0_pay15 k0_pay18 k0_pay21) (k0_pay29 k0_pay19 (k0_pay27 K k0_pay11) (k0_pay28 Q)) (k0_pay33 K V k0_pay17 k0_pay20 k0_pay23 L)) (k0_pay61 G) (k0_pay62 G) k0_pay63
    = tile Q K V G W 0 0 (mat L) 3 := rfl
/-- The fourth chunk of the first pair's second head. -/
theorem tile031 : k0_pay65 G W (k0_pay59 Q V k0_pay16 (k0_pay22 k0_pay15 k0_pay18 k0_pay21) (k0_pay29 k0_pay19 (k0_pay27 K k0_pay11) (k0_pay28 Q)) (k0_pay33 K V k0_pay17 k0_pay20 k0_pay23 L))
    = tile Q K V G W 0 1 (mat L) 3 := rfl
/-- The first chunk of the second pair's first head. -/
theorem tile100 : k0_pay89 (k0_pay87 Q V W k0_pay16 (k0_pay71 k0_pay15 (k0_pay66 k0_pay11)) (k0_pay73 Q K k0_pay11 k0_pay14 (k0_pay67 k0_pay11 k0_pay13) k0_pay68) (k0_pay80 L)) (k0_pay88 G)
    = tile Q K V G W 1 0 (mat L) 0 := rfl
/-- The first chunk of the second pair's second head. -/
theorem tile101 : k0_pay90 G W (k0_pay86 Q V k0_pay16 (k0_pay71 k0_pay15 (k0_pay66 k0_pay11)) (k0_pay73 Q K k0_pay11 k0_pay14 (k0_pay67 k0_pay11 k0_pay13) k0_pay68) (k0_pay80 L))
    = tile Q K V G W 1 1 (mat L) 0 := rfl
/-- The second chunk of the second pair's first head. -/
theorem tile110 : k0_pay94 Q G W k0_pay16 (k0_pay71 k0_pay15 (k0_pay66 k0_pay11)) (k0_pay74 Q K k0_pay11 k0_pay14 (k0_pay67 k0_pay11 k0_pay13) k0_pay68) (k0_pay81 K V k0_pay17 (k0_pay70 k0_pay15 (k0_pay66 k0_pay11)) k0_pay72 L) (k0_pay91 V) (k0_pay92 V)
    = tile Q K V G W 1 0 (mat L) 1 := rfl
/-- The second chunk of the second pair's second head. -/
theorem tile111 : k0_pay97 G W (k0_pay95 Q k0_pay16 (k0_pay71 k0_pay15 (k0_pay66 k0_pay11)) (k0_pay74 Q K k0_pay11 k0_pay14 (k0_pay67 k0_pay11 k0_pay13) k0_pay68) (k0_pay81 K V k0_pay17 (k0_pay70 k0_pay15 (k0_pay66 k0_pay11)) k0_pay72 L) (k0_pay91 V) (k0_pay92 V)) (k0_pay96 Q k0_pay16 (k0_pay71 k0_pay15 (k0_pay66 k0_pay11)) (k0_pay74 Q K k0_pay11 k0_pay14 (k0_pay67 k0_pay11 k0_pay13) k0_pay68) (k0_pay81 K V k0_pay17 (k0_pay70 k0_pay15 (k0_pay66 k0_pay11)) k0_pay72 L) (k0_pay91 V) (k0_pay92 V))
    = tile Q K V G W 1 1 (mat L) 1 := rfl
/-- The third chunk of the second pair's first head. -/
theorem tile120 : k0_pay101 G W (k0_pay99 Q V k0_pay16 (k0_pay71 k0_pay15 (k0_pay66 k0_pay11)) (k0_pay76 (k0_pay69 k0_pay14 (k0_pay67 k0_pay11 k0_pay13) k0_pay68) (k0_pay75 Q K k0_pay11)) (k0_pay82 K V k0_pay17 (k0_pay70 k0_pay15 (k0_pay66 k0_pay11)) k0_pay72 L)) (k0_pay100 Q V k0_pay16 (k0_pay71 k0_pay15 (k0_pay66 k0_pay11)) (k0_pay76 (k0_pay69 k0_pay14 (k0_pay67 k0_pay11 k0_pay13) k0_pay68) (k0_pay75 Q K k0_pay11)) (k0_pay82 K V k0_pay17 (k0_pay70 k0_pay15 (k0_pay66 k0_pay11)) k0_pay72 L))
    = tile Q K V G W 1 0 (mat L) 2 := rfl
/-- The third chunk of the second pair's second head. -/
theorem tile121 : k0_pay103 G W (k0_pay102 (k0_pay98 Q V k0_pay16 (k0_pay71 k0_pay15 (k0_pay66 k0_pay11)) (k0_pay76 (k0_pay69 k0_pay14 (k0_pay67 k0_pay11 k0_pay13) k0_pay68) (k0_pay75 Q K k0_pay11)) (k0_pay82 K V k0_pay17 (k0_pay70 k0_pay15 (k0_pay66 k0_pay11)) k0_pay72 L)))
    = tile Q K V G W 1 1 (mat L) 2 := rfl
/-- The fourth chunk of the second pair's first head. -/
theorem tile130 : k0_pay107 G (k0_pay105 Q V k0_pay16 (k0_pay71 k0_pay15 (k0_pay66 k0_pay11)) (k0_pay77 Q K k0_pay11 (k0_pay69 k0_pay14 (k0_pay67 k0_pay11 k0_pay13) k0_pay68)) (k0_pay84 k0_pay17 (k0_pay78 K V (k0_pay70 k0_pay15 (k0_pay66 k0_pay11))) (k0_pay83 K V k0_pay17 (k0_pay70 k0_pay15 (k0_pay66 k0_pay11)) k0_pay72 L))) (k0_pay106 W)
    = tile Q K V G W 1 0 (mat L) 3 := rfl
/-- The fourth chunk of the second pair's second head. -/
theorem tile131 : k0_pay108 G W (k0_pay104 Q V k0_pay16 (k0_pay71 k0_pay15 (k0_pay66 k0_pay11)) (k0_pay77 Q K k0_pay11 (k0_pay69 k0_pay14 (k0_pay67 k0_pay11 k0_pay13) k0_pay68)) (k0_pay84 k0_pay17 (k0_pay78 K V (k0_pay70 k0_pay15 (k0_pay66 k0_pay11))) (k0_pay83 K V k0_pay17 (k0_pay70 k0_pay15 (k0_pay66 k0_pay11)) k0_pay72 L)))
    = tile Q K V G W 1 1 (mat L) 3 := rfl

end Cert.Proof.Ret
end
-- ==== Proof.KState.lean ====
/-
  The state the kernel carries from point to point is the retention's, and so is the block each point writes.
-/
module

public import proofs.«01_k».proof.Proof.KRot
public import proofs.«01_k».proof.Proof.KTiles
public import Idealize.ShloMosaic.Lib.Pipeline.ReadBack

@[expose] public section

set_option maxRecDepth 16384

noncomputable section

namespace Cert.Proof.Ret

open Idealize.ShloMosaic Idealize.ShloMosaic.TcCoe Idealize.ShloMosaic.Pipeline Idealize.ShloMosaic.Pointwise
open Cert.KernelIdeal Cert.KernelIdeal.Gen

section
variable (A : FVec Ideal ⟨2, ![8192, 7168]⟩ .f32) (N : FVec Ideal ⟨3, ![2, 32, 1792]⟩ .f32)

/-- A pair's state before chunk `n` at plain coordinates: each head on its own block, zero across. -/
def blockF (p n a b : ℕ) : EReal := if a / 64 = b / 128 then stF A (2 * p + a / 64) n (a % 64) (b % 128) else 0

/-- The pair's state, read at plain coordinates. -/
theorem holds_iff (p : Fin 2) (n : ℕ) (R : FVec Ideal S128x256 .f32) :
    Holds A p n R ↔ ∀ (a : Fin 128) (b : Fin 256), R (ix2 a b) = blockF A p.val n a.val b.val := by
  constructor
  · intro h a b
    have e := h ⟨a.val / 64, by omega⟩ ⟨b.val / 128, by omega⟩ ⟨a.val % 64, by omega⟩ ⟨b.val % 128, by omega⟩
    have ea : lane ⟨a.val / 64, by omega⟩ ⟨a.val % 64, by omega⟩ = a := Fin.ext (by show 64 * (a.val / 64) + a.val % 64 = _; omega)
    have eb : wide ⟨b.val / 128, by omega⟩ ⟨b.val % 128, by omega⟩ = b := Fin.ext (by show 128 * (b.val / 128) + b.val % 128 = _; omega)
    rw [ea, eb] at e
    rw [e]
    unfold blockF
    simp only [Fin.mk.injEq]
  · intro h u u' d e
    rw [h]
    unfold blockF
    have e1 : (lane u d).val / 64 = u.val := by show (64 * u.val + d.val) / 64 = _; omega
    have e2 : (wide u' e).val / 128 = u'.val := by show (128 * u'.val + e.val) / 128 = _; omega
    have e3 : (lane u d).val % 64 = d.val := by show (64 * u.val + d.val) % 64 = _; omega
    have e4 : (wide u' e).val % 128 = e.val := by show (128 * u'.val + e.val) % 128 = _; omega
    rw [e1, e2, e3, e4]
    simp only [Fin.ext_iff]

/-- Both pairs' states before chunk `n`. -/
def HoldsAll (n : ℕ) (S : FVec Ideal S2x128x256 .f32) : Prop :=
  ∀ (p : Fin 2) (a : Fin 128) (b : Fin 256), S (ix3 p a b) = blockF A p.val n a.val b.val

/-- The state is zero before the first chunk. -/
theorem blockF_zero (p a b : ℕ) : blockF A p 0 a b = 0 := by
  unfold blockF stF; split <;> rfl

/-- The retention at a row and channel. -/
def outN (i j : ℕ) : EReal := outF A N (j / 128) (i / 64) (i % 64) ⟨j % 128, Nat.mod_lt _ (by omega)⟩
end

variable (m : (β : Loc nD τ sig) → Buf (Elt Ideal) β) (c : Dev nD) (t : Fin cfg0.N)

/-- A stored state of a pair, entry by entry. -/
theorem stored_at {p : Fin 2} {L : FVec Ideal S1x128x256 .f32} (hL : Holds (projs m c) p (4 * t.val) (mat L)) (x : S1x128x256.Idx) :
    shapeCast S1x128x256 (stC (kB m c t) (vB m c t) p (mat L) 4) shapeCasts_S128x256_S1x128x256 x
      = blockF (projs m c) p.val (4 * t.val + 4) (x 1).val (x 2).val := by
  refine Eq.trans ?_ ((holds_iff _ _ _ _).1 (state_chain _ (kB_at m c t) (vB_at m c t) hL 4 (le_refl _)) (x 1) (x 2))
  rw [← ix3_eta x]
  pointwise

/-- A stored tile, entry by entry. -/
theorem tile_done {p u : Fin 2} {k : ℕ} (hk : k < 4) {L : FVec Ideal S1x128x256 .f32} (hL : Holds (projs m c) p (4 * t.val) (mat L))
    (x : S64x128.Idx) (i j : ℕ) (hi : i = 64 * k + (x 0).val) (hj : j = 256 * p.val + 128 * u.val + (x 1).val) :
    tile (qB m c t) (kB m c t) (vB m c t) (gB m c t) (wB m c t) p u (mat L) k x = outN (projs m c) (pars m c) (256 * t.val + i) j := by
  have e := tile_at (projs m c) (pars m c) (qB_at m c t) (kB_at m c t) (vB_at m c t) (gB_at m c t) (wB_at m c t) hL k hk u (x 0) (x 1)
  rw [← ix2_eta x]
  refine e.trans ?_
  unfold outN
  have hx0 : (x 0).val < 64 := (x 0).isLt
  have hx1 : (x 1).val < 128 := (x 1).isLt
  have e1 : j / 128 = hd p u := by subst hj; show _ = 2 * p.val + u.val; omega
  have e2 : (256 * t.val + i) / 64 = 4 * t.val + k := by omega
  have e3 : (256 * t.val + i) % 64 = (x 0).val := by omega
  have e4 : (⟨j % 128, Nat.mod_lt _ (by omega)⟩ : Fin 128) = x 1 := Fin.ext (by show j % 128 = _; omega)
  rw [e1, e2, e3, e4]

/-- The carried state after point `t`. -/
def carried (n : ℕ) (hn : n < cfg0.N) : FVec Ideal S2x128x256 .f32 := (outsAt0 m c n hn).2
/-- The block written at point `t`. -/
def written (n : ℕ) (hn : n < cfg0.N) : FVec Ideal S256x512 .f32 := (outsAt0 m c n hn).1

/-- A pair's state loaded from the carried one. -/
theorem load_holds {n : ℕ} {S : FVec Ideal S2x128x256 .f32} (hS : HoldsAll (projs m c) n S) (p : Fin 2) (L : FVec Ideal S1x128x256 .f32)
    (hL : ∀ (a : Fin 128) (b : Fin 256), L (ix3 0 a b) = S (ix3 p a b)) : Holds (projs m c) p n (mat L) := by
  refine (holds_iff _ _ _ _).2 fun a b => ?_
  refine Eq.trans ?_ (hS p a b)
  rw [← hL]
  pointwise [mat]

/-- A later point takes the carried state four chunks on. -/
theorem state_B (ht : ¬ t.val % 32 = 0) (hS : HoldsAll (projs m c) (4 * t.val) (carried m c (t.val - 1) (by omega))) (y : S2x128x256.Idx) :
    carried m c t.val t.isLt y = blockF (projs m c) (y 0).val (4 * t.val + 4) (y 1).val (y 2).val := by
  unfold carried at hS ⊢
  rw [outsAt0_B m c t ht]
  frame_out
  canon_tiles x h
  · refine (congrFun (stored1 (kB m c t) (vB m c t) _) x).trans ((stored_at m c t (load_holds m c hS 1 _ fun a b => ?_) x).trans ?_)
    · rw [read_unread_whole]
      pointwise
    · rw [h0, h1, h2]
      congr 1; show 1 = 1 + (x 0).val; omega
  · refine (congrFun (stored0 (kB m c t) (vB m c t) _) x).trans ((stored_at m c t (load_holds m c hS 0 _ fun a b => ?_) x).trans ?_)
    · rw [read_unread_whole]
      pointwise
    · rw [h0, h1, h2]
      congr 1; show 0 = (x 0).val; omega

/-- Two writes that cover an index between them hide an earlier one there. -/
theorem canon_hide {s : Shape} {e : EltTy} (p q r : View.Piece (Elt Ideal) s e) (y : s.Idx) (h : ∃ w ∈ [p, q], y ∈ w.1.set) :
    View.canon [p, q, r] y = View.canon [p, q] y := by
  by_cases hp : y ∈ p.1.set
  · obtain ⟨x, rfl⟩ := p.1.exists_idx_of_mem hp
    exact (View.canon_cons_emb _ _ _ x).trans (View.canon_cons_emb _ _ _ x).symm
  · rw [View.canon_cons_of_not_mem _ _ hp, View.canon_cons_of_not_mem _ _ hp]
    have hq : y ∈ q.1.set := by
      obtain ⟨w, hw, hy⟩ := h
      rcases List.mem_cons.1 hw with rfl | hw
      · exact absurd hy hp
      · rcases List.mem_singleton.1 hw with rfl
        exact hy
    obtain ⟨x, rfl⟩ := q.1.exists_idx_of_mem hq
    exact (View.canon_cons_emb _ _ _ x).trans (View.canon_cons_emb _ _ _ x).symm

/-- The first point starts from zero. -/
theorem state_A (ht : t.val % 32 = 0) (ht0 : t.val = 0) (y : S2x128x256.Idx) :
    carried m c t.val t.isLt y = blockF (projs m c) (y 0).val (4 * t.val + 4) (y 1).val (y 2).val := by
  unfold carried
  rw [outsAt0_A m c t ht]
  frame_out
  rw [canon_hide _ _ _ y (View.cover_of_tiled _ ![1, 128, 256] (by rfl) y)]
  canon_tiles x h
  · refine (congrFun (stored1 (kB m c t) (vB m c t) _) x).trans ((stored_at m c t ((holds_iff _ _ _ _).2 fun a b => ?_) x).trans ?_)
    · rw [ht0, blockF_zero, View.readCov_skip _ _ _ _ _ (by rfl), View.readCov_fill _ _ _ _ _ (by decide)]
      pointwise [mat, k0_pay1]
    · rw [h0, h1, h2]
      congr 1; show 1 = 1 + (x 0).val; omega
  · refine (congrFun (stored0 (kB m c t) (vB m c t) _) x).trans ((stored_at m c t ((holds_iff _ _ _ _).2 fun a b => ?_) x).trans ?_)
    · rw [ht0, blockF_zero, View.readCov_fill _ _ _ _ _ (by decide)]
      pointwise [mat, k0_pay1]
    · rw [h0, h1, h2]
      congr 1; show 0 = (x 0).val; omega

/-- The tile of a head and chunk at this point, from its pair's loaded state. -/
def T (p u : Fin 2) (L : FVec Ideal S1x128x256 .f32) (k : ℕ) : FVec Ideal S64x128 .f32 :=
  tile (qB m c t) (kB m c t) (vB m c t) (gB m c t) (wB m c t) p u (mat L) k

/-- Such a tile is the retention's, entry by entry. -/
theorem T_at {p u : Fin 2} {k : ℕ} (hk : k < 4) {L : FVec Ideal S1x128x256 .f32} (hL : Holds (projs m c) p (4 * t.val) (mat L))
    (x : S64x128.Idx) (i j : ℕ) (hi : i = 64 * k + (x 0).val) (hj : j = 256 * p.val + 128 * u.val + (x 1).val) :
    T m c t p u L k x = outN (projs m c) (pars m c) (256 * t.val + i) j := tile_done m c t hk hL x i j hi hj

/-- The sixteen tiles, written over the block, make the retention's rows there. -/
theorem tiles_read {L0 L1 : FVec Ideal S1x128x256 .f32} (e0 : Holds (projs m c) 0 (4 * t.val) (mat L0))
    (e1 : Holds (projs m c) 1 (4 * t.val) (mat L1)) (y : S256x512.Idx) :
    View.canon (Val := Elt Ideal) (s := S256x512) (e := .f32) [
        ⟨Rect.unit ![192, 384] ![64, 128] inb_S256x512_S64x128_192_384, T m c t 1 1 L1 3⟩,
        ⟨Rect.unit ![192, 256] ![64, 128] inb_S256x512_S64x128_192_256, T m c t 1 0 L1 3⟩,
        ⟨Rect.unit ![128, 384] ![64, 128] inb_S256x512_S64x128_128_384, T m c t 1 1 L1 2⟩,
        ⟨Rect.unit ![128, 256] ![64, 128] inb_S256x512_S64x128_128_256, T m c t 1 0 L1 2⟩,
        ⟨Rect.unit ![64, 384] ![64, 128] inb_S256x512_S64x128_64_384, T m c t 1 1 L1 1⟩,
        ⟨Rect.unit ![64, 256] ![64, 128] inb_S256x512_S64x128_64_256, T m c t 1 0 L1 1⟩,
        ⟨Rect.unit ![0, 384] ![64, 128] inb_S256x512_S64x128_0_384, T m c t 1 1 L1 0⟩,
        ⟨Rect.unit ![0, 256] ![64, 128] inb_S256x512_S64x128_0_256, T m c t 1 0 L1 0⟩,
        ⟨Rect.unit ![192, 128] ![64, 128] inb_S256x512_S64x128_192_128, T m c t 0 1 L0 3⟩,
        ⟨Rect.unit ![192, 0] ![64, 128] inb_S256x512_S64x128_192_0, T m c t 0 0 L0 3⟩,
        ⟨Rect.unit ![128, 128] ![64, 128] inb_S256x512_S64x128_128_128, T m c t 0 1 L0 2⟩,
        ⟨Rect.unit ![128, 0] ![64, 128] inb_S256x512_S64x128_128_0, T m c t 0 0 L0 2⟩,
        ⟨Rect.unit ![64, 128] ![64, 128] inb_S256x512_S64x128_64_128, T m c t 0 1 L0 1⟩,
        ⟨Rect.unit ![64, 0] ![64, 128] inb_S256x512_S64x128_64_0, T m c t 0 0 L0 1⟩,
        ⟨Rect.unit ![0, 128] ![64, 128] inb_S256x512_S64x128_0_128, T m c t 0 1 L0 0⟩,
        ⟨Rect.unit ![0, 0] ![64, 128] inb_S256x512_S64x128_0_0, T m c t 0 0 L0 0⟩]
      y = outN (projs m c) (pars m c) (256 * t.val + (y 0).val) (y 1).val := by
  canon_tiles x h <;> refine T_at m c t (by decide) ?_ x _ _ ?_ ?_ <;> first | assumption | (simp only [h0, h1, Fin.val_zero, Fin.val_one]; omega)

/-- The first pair's part of the state's buffer. -/
def load0 (S : FVec Ideal S2x128x256 .f32) : FVec Ideal S1x128x256 .f32 :=
  View.ld (Val := Elt Ideal) (S := S2x128x256) (e' := .f32) S (Rect.unit ![0, 0, 0] ![1, 128, 256] inb_S2x128x256_S1x128x256_0_0_0)
/-- The second pair's part of it. -/
def load1 (S : FVec Ideal S2x128x256 .f32) : FVec Ideal S1x128x256 .f32 :=
  View.ld (Val := Elt Ideal) (S := S2x128x256) (e' := .f32) S (Rect.unit ![1, 0, 0] ![1, 128, 256] inb_S2x128x256_S1x128x256_1_0_0)

/-- The first pair's state, as loaded. -/
theorem load0_holds {n : ℕ} {S : FVec Ideal S2x128x256 .f32} (hS : HoldsAll (projs m c) n S) : Holds (projs m c) 0 n (mat (load0 S)) :=
  load_holds m c hS 0 _ fun a b => by
    unfold load0
    pointwise
/-- The second pair's state, as loaded. -/
theorem load1_holds {n : ℕ} {S : FVec Ideal S2x128x256 .f32} (hS : HoldsAll (projs m c) n S) : Holds (projs m c) 1 n (mat (load1 S)) :=
  load_holds m c hS 1 _ fun a b => by
    unfold load1
    pointwise

/-- A later point writes the retention's rows. -/
theorem written_B (ht : ¬ t.val % 32 = 0) (hS : HoldsAll (projs m c) (4 * t.val) (carried m c (t.val - 1) (by omega))) (y : S256x512.Idx) :
    written m c t.val t.isLt y = outN (projs m c) (pars m c) (256 * t.val + (y 0).val) (y 1).val := by
  unfold written
  rw [outsAt0_B m c t ht]
  frame_out
  rw [read_unread_whole]
  exact tiles_read m c t (load0_holds m c hS) (load1_holds m c hS) y

/-- The state cleared to zero is the one before the first chunk. -/
theorem cleared : HoldsAll (projs m c) 0 k0_pay1 := fun p a b => by
  rw [blockF_zero]
  pointwise [k0_pay1]

/-- The first point writes the retention's rows. -/
theorem written_A (ht : t.val % 32 = 0) (ht0 : 4 * t.val = 0) (y : S256x512.Idx) :
    written m c t.val t.isLt y = outN (projs m c) (pars m c) (256 * t.val + (y 0).val) (y 1).val := by
  unfold written
  rw [outsAt0_A m c t ht]
  frame_out
  have e0 := load0_holds m c (cleared m c)
  have e1 := load1_holds m c (cleared m c)
  rw [← ht0] at e0 e1
  rw [View.readCov_skip _ _ _ _ _ (by rfl), View.readCov_fill _ _ _ _ _ (by decide), View.readCov_fill _ _ _ _ _ (by decide)]
  exact tiles_read m c t e0 e1 y

/-- The carried state after each point is the one before the next point's first chunk. -/
theorem carried_holds : ∀ (n : ℕ) (hn : n < cfg0.N), HoldsAll (projs m c) (4 * n + 4) (carried m c n hn)
  | 0, hn => fun p a b => state_A m c ⟨0, hn⟩ rfl rfl (ix3 p a b)
  | n + 1, hn => fun p a b => by
    have hN : cfg0.N = 32 := rfl
    exact state_B m c ⟨n + 1, hn⟩ (by show ¬ (n + 1) % 32 = 0; omega)
      (by have e := carried_holds n (by omega); exact e) (ix3 p a b)

/-- Each point writes the retention's rows. -/
theorem written_at (y : S256x512.Idx) :
    written m c t.val t.isLt y = outN (projs m c) (pars m c) (256 * t.val + (y 0).val) (y 1).val := by
  have hN : cfg0.N = 32 := rfl
  have ht := t.isLt
  by_cases h0 : t.val = 0
  · exact written_A m c t (by omega) (by omega) y
  · refine written_B m c t (by omega) ?_ y
    have e := carried_holds m c (t.val - 1) (by omega)
    rwa [show 4 * (t.val - 1) + 4 = 4 * t.val by omega] at e

/-- After all points the result array holds the retention. -/
theorem array_done : (dats m 0 c).arrAt 6 cfg0.N = result (projs m c) (pars m c) := by
  refine (dats m 0 c).arrAt_eq_of_covers 6 _ (by decide +kernel) fun t hf y => ?_
  blk_simp
  rw [after0_6]
  have e0 : (((win0_6.blk t).view.emb y) 0).val = 256 * t.val + (y 0).val :=
    (win0_6.rect_emb_val_off t y 0).trans (by rw [(idx t).2.2.2.2.2.2.1]; show t.val * 256 + (y 0).val = _; omega)
  have e1 : (((win0_6.blk t).view.emb y) 1).val = (y 1).val :=
    (win0_6.rect_emb_val_off t y 1).trans (by rw [(idx t).2.2.2.2.2.2.1]; show 0 * 512 + (y 1).val = _; omega)
  refine (written_at m c t y).trans ?_
  rw [← e0, ← e1]
  rfl

/-- The kernel runs, ends with the retention of its arguments, and keeps them. -/
theorem run_ker (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (array_done m c), (h c).2⟩) (Value.run_blocks m ρ)

end Cert.Proof.Ret
end
-- ==== Proof.MlpMath.lean ====
/-
  The normed products of the layer, written on extended reals: the root-mean-square norm of a row, the product of the normed
  rows with a weight matrix, and the squared-ReLU feed-forward of the normed rows added to the residual stream.
-/
module

public import proofs.«01_k».proof.Proof.RetMath

@[expose] public section

set_option maxRecDepth 16384

noncomputable section

namespace Cert.Proof.Mlp

open Idealize.ShloMosaic Idealize.ShloMosaic.Pointwise Cert.Proof.Ret

/-- A row of 2048 over its root mean square, times a weight, at a place. -/
def rms (x w : ℕ → EReal) (j : ℕ) : EReal :=
  x j * Ideal.rsqrt (Ideal.div (∑ k : Fin 2048, x k.val * x k.val) (Ideal.ofBits FTy.f32 0x45000000#32) + Ideal.ofBits FTy.f32 0x358637BD#32) * w j

/-- A normed row's product with a column. -/
def dotR (a : ℕ → EReal) (w : ℕ → EReal) : EReal := ∑ k : Fin 2048, a k.val * w k.val

/-- The square of the positive part. -/
def sqRelu (u : EReal) : EReal := max u 0 * max u 0

section
variable (H : FVec Ideal ⟨2, ![8192, 2048]⟩ .f32) (N2 : FVec Ideal ⟨2, ![2, 2048]⟩ .f32) (WU : FVec Ideal ⟨3, ![2, 2048, 8192]⟩ .f32)
  (WD : FVec Ideal ⟨3, ![2, 8192, 2048]⟩ .f32) (FW : FVec Ideal ⟨1, ![2048]⟩ .f32)

/-- The normed residual row. -/
def nrm (i k : ℕ) : EReal := rms (at2 H i) (at2 N2 1) k
/-- A hidden unit of a row. -/
def act (i f : ℕ) : EReal := sqRelu (dotR (nrm H N2 i) fun k => at3 WU 1 k f)
/-- The residual stream with the first `n` hidden units' part added. -/
def part (n i j : ℕ) : EReal := at2 H i j + ∑ f ∈ Finset.range n, act H N2 WU i f * at3 WD 1 f j
/-- A vector read at a natural number (zero outside). -/
def at1 {a : ℕ} (X : FVec Ideal ⟨1, ![a]⟩ .f32) (i : ℕ) : EReal := if h : i < a then X (ix1 ⟨i, h⟩) else 0
/-- An entry of a vector is its reading at the coordinate. -/
theorem at1_ix {a : ℕ} (X : FVec Ideal ⟨1, ![a]⟩ .f32) (i : Fin a) : X (ix1 i) = at1 X i.val := by
  unfold at1; rw [dif_pos i.2]
/-- The feed-forward's result, with the final norm. -/
def outF (i j : ℕ) : EReal := rms (part H N2 WU WD 8192 i) (at1 FW) j
/-- The result array. -/
def result : FVec Ideal ⟨2, ![8192, 2048]⟩ .f32 := fun y => outF H N2 WU WD FW (y 0).val (y 1).val

/-- Nothing is added before the first hidden unit. -/
theorem part_zero (i j : ℕ) : part H N2 WU WD 0 i j = at2 H i j := by
  unfold part; rw [Finset.sum_range_zero, add_zero]

/-- Another 512 hidden units added. -/
theorem part_step (n i j : ℕ) : part H N2 WU WD n i j + ∑ f : Fin 512, act H N2 WU i (n + f.val) * at3 WD 1 (n + f.val) j
    = part H N2 WU WD (n + 512) i j := by
  unfold part
  rw [Finset.sum_range_add, ← add_assoc, Finset.sum_range (fun x => act H N2 WU i (n + x) * at3 WD 1 (n + x) j)]
end

/-- The norm depends on the row's 2048 entries and the weight at the place only. -/
theorem rms_congr {x x' w w' : ℕ → EReal} {j : ℕ} (hj : j < 2048) (hx : ∀ k, k < 2048 → x k = x' k) (hw : w j = w' j) : rms x w j = rms x' w' j := by
  unfold rms
  rw [hx j hj, hw, Finset.sum_congr rfl fun k _ => by rw [hx k.val k.2]]

end Cert.Proof.Mlp
end
-- ==== Proof.MlpRef.lean ====
/-
  What the feed-forward's reference computes: norm, up-projection, squared ReLU, down-projection, residual and final norm.
-/
module

public import proofs.«01_k».proof.Proof.MlpMath
public import proofs.«01_k».proof.Proof.Gen.Reference2Ideal.Run
public import Idealize.ShloMosaic.Lib.Pointwise

@[expose] public section

set_option maxRecDepth 16384

noncomputable section

namespace Cert.Proof.Mlp

open Idealize.ShloMosaic Idealize.ShloMosaic.TcCoe Idealize.ShloMosaic.Pointwise Cert.Proof.Ret
open Cert.Reference2Ideal Cert.Reference2Ideal.Gen Cert.Reference2Ideal.Value

/-- A matrix of rows normed, as the reference composes it. -/
def rmsR (X : FVec Ideal S8192x2048 .f32) (W : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 W))

/-- An entry of the normed rows. -/
theorem rmsR_at (X : FVec Ideal S8192x2048 .f32) (W : FVec Ideal S2048 .f32) (i : Fin 8192) (j : Fin 2048) :
    rmsR X W (ix2 i j) = rms (at2 X i.val) (at1 W) j.val := by
  unfold rmsR rms
  pointwise
  rw [at2_ix X i j, at1_ix W j, Finset.sum_congr rfl fun k _ => by rw [at2_ix X i k]]

/-- The hidden units. -/
def upR (A : FVec Ideal S8192x2048 .f32) (W : FVec Ideal S2048x8192 .f32) : FVec Ideal S8192x8192 .f32 :=
  maximumf (Host.dotGeneral dot_S8192x2048_S2048x8192_S8192x8192_1_0_0_1_n_n none A W) (broadcastInDim S8192x8192 ![] bcast_S_S8192x8192 (constant S_ .f32 0x00000000#32))

/-- The residual stream after the feed-forward. -/
def sumR (H A : FVec Ideal S8192x2048 .f32) (U : FVec Ideal S2048x8192 .f32) (D : FVec Ideal S8192x2048 .f32) : FVec Ideal S8192x2048 .f32 :=
  addf H (Host.dotGeneral dot_S8192x8192_S8192x2048_S8192x2048_1_0_0_1_n_n none (mulf (upR A U) (upR A U)) D)

/-- An entry of it. -/
theorem sumR_at (H A : FVec Ideal S8192x2048 .f32) (U : FVec Ideal S2048x8192 .f32) (D : FVec Ideal S8192x2048 .f32) (i : Fin 8192) (j : Fin 2048) :
    sumR H A U D (ix2 i j) = H (ix2 i j) + ∑ f : Fin 8192, sqRelu (∑ k : Fin 2048, A (ix2 i k) * U (ix2 k f)) * D (ix2 f j) := by
  unfold sumR upR sqRelu
  pointwise

variable (m : (β : Loc nD τ sig) → Buf (Elt Ideal) β) (c : Dev nD)

/-- The reference's result is the composition. -/
theorem res_eq : res_out0 (F := Ideal) m c = rmsR (sumR (m ((c.tc : Thread nD τ).loc main_arg0))
    (rmsR (m ((c.tc : Thread nD τ).loc main_arg0)) (shapeCast S2048 (extractStridedSlice S1x2048 ![1, 0] (m ((c.tc : Thread nD τ).loc main_arg1)) slices_S2x2048_S1x2048_1_0) shapeCasts_S1x2048_S2048))
    (shapeCast S2048x8192 (extractStridedSlice S1x2048x8192 ![1, 0, 0] (m ((c.tc : Thread nD τ).loc main_arg2)) slices_S2x2048x8192_S1x2048x8192_1_0_0) shapeCasts_S1x2048x8192_S2048x8192)
    (shapeCast S8192x2048 (extractStridedSlice S1x8192x2048 ![1, 0, 0] (m ((c.tc : Thread nD τ).loc main_arg3)) slices_S2x8192x2048_S1x8192x2048_1_0_0) shapeCasts_S1x8192x2048_S8192x2048))
    (m ((c.tc : Thread nD τ).loc main_arg4)) := rfl

/-- The reference's result, entry by entry. -/
theorem res_value : res_out0 (F := Ideal) m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  rw [res_eq]
  funext y
  obtain ⟨i, j, rfl⟩ : ∃ (i : Fin 8192) (j : Fin 2048), y = ix2 i j := ⟨y 0, y 1, (ix2_eta y).symm⟩
  refine (rmsR_at _ _ i j).trans ?_
  show _ = outF _ _ _ _ _ i.val j.val
  unfold outF
  refine rms_congr j.isLt (fun k hk => ?_) rfl
  refine (at2_ix (sumR _ _ _ _) i ⟨k, hk⟩).symm.trans ((sumR_at _ _ _ _ _ _).trans ?_)
  unfold part act dotR
  rw [Finset.sum_range]
  refine congrArg₂ (· + ·) (at2_ix _ i ⟨k, hk⟩) (Finset.sum_congr rfl fun f _ => congrArg₂ (· * ·) (congrArg sqRelu (Finset.sum_congr rfl fun k' _ => congrArg₂ (· * ·) ?_ ?_)) ?_)
  · refine (rmsR_at _ _ _ _).trans (rms_congr k'.2 (fun _ _ => rfl) ?_)
    rw [← at1_ix]
    pointwise
    exact at2_ix _ (1 : Fin 2) k'
  · pointwise
    exact at3_ix _ (1 : Fin 2) k' f
  · pointwise
    exact at3_ix _ (1 : Fin 2) f ⟨k, hk⟩

/-- The reference runs, ends with the feed-forward of its arguments, keeps them, and leaves no signal pending. -/
theorem run_ref2 (ρ : Dev nD → PrngReg) :
    θ_run (defs (F := Ideal)) (onTc (τ := τ) (main (F := Ideal))) ⟨m, fun _ => 0, ρ⟩ (fun r => (∀ c : Dev nD,
      r.2.mem ((c.tc : Thread nD τ).loc main_v36) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => ⟨(h c).1.trans (res_value m c), (h c).2⟩,
    Idealize.ShloMosaic.sem_eq_zero_of_no_sems (by decide) r.2⟩) (Cert.Reference2Ideal.Value.run m ρ)

end Cert.Proof.Mlp
end
-- ==== Proof.MlpKer.lean ====
/-
  The feed-forward kernel's three payloads entry by entry, and what its input blocks hold.
-/
module

public import proofs.«01_k».proof.Proof.MlpMath
public import proofs.«01_k».proof.Proof.Gen.Kernel2Ideal.Frame
public import proofs.«01_k».proof.Proof.Gen.Kernel2Ideal.Value
public import Idealize.ShloMosaic.Lib.Pipeline.ValueKit
public import Idealize.ShloMosaic.Lib.StableHlo.RunRead
public import Idealize.ShloMosaic.Lib.Tactic.CleanTypes
public import Idealize.ShloMosaic.Lib.StableHlo.RunClose
public import Idealize.ShloMosaic.Lib.Pipeline.ReadBack

@[expose] public section

set_option maxRecDepth 16384

noncomputable section

namespace Cert.Proof.Mlp

open Idealize.ShloMosaic Idealize.ShloMosaic.TcCoe Idealize.ShloMosaic.StableHlo Idealize.ShloMosaic.Pipeline Idealize.ShloMosaic.Pointwise Cert.Proof.Ret
open Cert.Kernel2Ideal Cert.Kernel2Ideal.Gen

/-- The first payload norms a block's rows. -/
theorem pay1_at (X : FVec Ideal S1024x2048 .f32) (W : FVec Ideal S1x1x2048 .f32) (i : Fin 1024) (j : Fin 2048) :
    (show FVec Ideal S1024x2048 .bf16 from k0_pay1 X W) (ix2 i j) = rms (at2 X i.val) (at3 W 0 0) j.val := by
  unfold rms
  pointwise [k0_pay1]
  refine congrArg₂ (· * ·) (congrArg₂ (· * ·) (at2_ix X i j) (congrArg (fun s : EReal => Ideal.rsqrt (Ideal.div s _ + _))
    (Finset.sum_congr rfl fun k _ => congrArg₂ (· * ·) (at2_ix X i k) (at2_ix X i k)))) (at3_ix W 0 0 j)

/-- The second payload adds a block of hidden units' part. -/
theorem pay2_at (A : FVec Ideal S1024x2048 .bf16) (U : FVec Ideal S1x2048x512 .bf16) (B : FVec Ideal S1024x2048 .f32) (D : FVec Ideal S1x512x2048 .bf16)
    (i : Fin 1024) (j : Fin 2048) : (show FVec Ideal S1024x2048 .f32 from k0_pay2 A U B D) (ix2 i j)
      = B (ix2 i j) + ∑ f : Fin 512, sqRelu (∑ k : Fin 2048, (A (ix2 i k) : EReal) * U (ix3 0 k f)) * D (ix3 0 f j) := by
  unfold sqRelu
  pointwise [k0_pay2]

/-- The third payload norms the finished rows. -/
theorem pay3_at (X : FVec Ideal S1024x2048 .f32) (W : FVec Ideal S1x2048 .f32) (i : Fin 1024) (j : Fin 2048) :
    (show FVec Ideal S1024x2048 .f32 from k0_pay3 X W) (ix2 i j) = rms (at2 X i.val) (at2 W 0) j.val := by
  unfold rms
  pointwise [k0_pay3]
  refine congrArg₂ (· * ·) (congrArg₂ (· * ·) (at2_ix X i j) (congrArg (fun s : EReal => Ideal.rsqrt (Ideal.div s _ + _))
    (Finset.sum_congr rfl fun k _ => congrArg₂ (· * ·) (at2_ix X i k) (at2_ix X i k)))) (at2_ix W 0 j)

/-- Every window's block index at a point: 16 blocks of hidden units for each block of rows. -/
theorem idx : ∀ t : Fin cfg0.N, win0_0.index t = ![t.val / 16, 0] ∧ win0_1.index t = ![1, 0, 0] ∧ win0_2.index t = ![1, 0, t.val % 16]
    ∧ win0_3.index t = ![1, t.val % 16, 0] ∧ win0_4.index t = ![0, 0] ∧ win0_5.index t = ![t.val / 16, 0] ∧ t.val < 128 :=
  (by decide +kernel : ∀ t : Fin grid0.N, _)

variable (m : (β : Loc nD τ sig) → Buf (Elt Ideal) β) (c : Dev nD)

/-- The residual stream. -/
def resid : FVec Ideal S8192x2048 .f32 := m ((c : Thread nD τ).loc main_arg0)
/-- The norm's weights. -/
def normW : FVec Ideal S2x2048 .f32 := m ((c : Thread nD τ).loc main_arg1)
/-- The up-projection. -/
def upW : FVec Ideal S2x2048x8192 .f32 := m ((c : Thread nD τ).loc main_arg2)
/-- The down-projection. -/
def downW : FVec Ideal S2x8192x2048 .f32 := m ((c : Thread nD τ).loc main_arg3)
/-- The final norm's weight. -/
def finW : FVec Ideal S2048 .f32 := m ((c : Thread nD τ).loc main_arg4)

/-- The block of residual rows. -/
theorem blk0_at (t : Fin cfg0.N) (i : Fin 1024) (j : Fin 2048) :
    (show FVec Ideal S1024x2048 .f32 from iblk m c 0 t) (ix2 i j) = at2 (resid m c) (1024 * (t.val / 16) + i.val) j.val := by
  refine Eq.trans (b := resid m c (ix2 ⟨1024 * (t.val / 16) + i.val, by have := (idx t).2.2.2.2.2.2; omega⟩ j)) ?_ (at2_ix _ _ _)
  unfold resid
  blk_ext [iblk, V, idx t]

/-- The norm's weights as the host lays them out, in given contents. -/
def normV (W : Valuation τ sig (Elt Ideal)) : FVec Ideal S2x1x2048 .f32 := StableHlo.after [hostOps0].flatten W (Proc.tc.devRef main_v0)
/-- They are the weights. -/
theorem normV_at (W : Valuation τ sig (Elt Ideal)) (l : Fin 2) (j : Fin 2048) :
    normV W (ix3 l 0 j) = (show FVec Ideal S2x2048 .f32 from W (Proc.tc.devRef main_arg1)) (ix2 l j) := by
  unfold normV
  after_reads_simp
  pointwise

/-- The up-projection as the host rounds it, in given contents. -/
def upV (W : Valuation τ sig (Elt Ideal)) : FVec Ideal S2x2048x8192 .bf16 := StableHlo.after [hostOps0].flatten W (Proc.tc.devRef main_v1)
/-- It is the up-projection. -/
theorem upV_at (W : Valuation τ sig (Elt Ideal)) (l : Fin 2) (k : Fin 2048) (f : Fin 8192) :
    upV W (ix3 l k f) = (show FVec Ideal S2x2048x8192 .f32 from W (Proc.tc.devRef main_arg2)) (ix3 l k f) := by
  unfold upV
  after_reads_simp
  pointwise

/-- The down-projection as the host rounds it, in given contents. -/
def downV (W : Valuation τ sig (Elt Ideal)) : FVec Ideal S2x8192x2048 .bf16 := StableHlo.after [hostOps0].flatten W (Proc.tc.devRef main_v2)
/-- It is the down-projection. -/
theorem downV_at (W : Valuation τ sig (Elt Ideal)) (l : Fin 2) (f : Fin 8192) (k : Fin 2048) :
    downV W (ix3 l f k) = (show FVec Ideal S2x8192x2048 .f32 from W (Proc.tc.devRef main_arg3)) (ix3 l f k) := by
  unfold downV
  after_reads_simp
  pointwise

/-- The final norm's weight as a row, in given contents. -/
def finV (W : Valuation τ sig (Elt Ideal)) : FVec Ideal S1x2048 .f32 := StableHlo.after [hostOps0].flatten W (Proc.tc.devRef main_v3)
/-- It is the weight. -/
theorem finV_at (W : Valuation τ sig (Elt Ideal)) (j : Fin 2048) :
    finV W (ix2 0 j) = (show FVec Ideal S2048 .f32 from W (Proc.tc.devRef main_arg4)) (ix1 j) := by
  unfold finV
  after_reads_simp
  pointwise

/-- The block of the norm's weights: the last layer's. -/
theorem blk1_at (t : Fin cfg0.N) (j : Fin 2048) :
    (show FVec Ideal S1x1x2048 .f32 from iblk m c 1 t) (ix3 0 0 j) = at2 (normW m c) 1 j.val := by
  refine Eq.trans (b := normV (fun b => m (c, b)) (ix3 1 0 j)) ?_ ((normV_at _ _ _).trans (at2_ix (normW m c) 1 j))
  blk_ext [iblk, idx t]

/-- The block of the up-projection. -/
theorem blk2_at (t : Fin cfg0.N) (k : Fin 2048) (f : Fin 512) :
    (show FVec Ideal S1x2048x512 .bf16 from iblk m c 2 t) (ix3 0 k f) = at3 (upW m c) 1 k.val (512 * (t.val % 16) + f.val) := by
  refine Eq.trans (b := upV (fun b => m (c, b)) (ix3 1 k ⟨512 * (t.val % 16) + f.val, by omega⟩)) ?_ ((upV_at _ _ _ _).trans (at3_ix (upW m c) 1 k _))
  blk_ext [iblk, idx t]

/-- The block of the down-projection. -/
theorem blk3_at (t : Fin cfg0.N) (f : Fin 512) (j : Fin 2048) :
    (show FVec Ideal S1x512x2048 .bf16 from iblk m c 3 t) (ix3 0 f j) = at3 (downW m c) 1 (512 * (t.val % 16) + f.val) j.val := by
  refine Eq.trans (b := downV (fun b => m (c, b)) (ix3 1 ⟨512 * (t.val % 16) + f.val, by omega⟩ j)) ?_ ((downV_at _ _ _ _).trans (at3_ix (downW m c) 1 _ j))
  blk_ext [iblk, idx t]

/-- The row of the final norm's weights. -/
theorem blk4_at (t : Fin cfg0.N) (j : Fin 2048) :
    (show FVec Ideal S1x2048 .f32 from iblk m c 4 t) (ix2 0 j) = at1 (finW m c) j.val := by
  refine Eq.trans (b := finV (fun b => m (c, b)) (ix2 0 j)) ?_ ((finV_at _ _).trans (at1_ix (finW m c) j))
  blk_ext [iblk, idx t]

end Cert.Proof.Mlp
end
-- ==== Proof.MlpRun.lean ====
/-
  The feed-forward kernel's run: the carried block holds the normed rows, the output block the residual rows with the hidden
  units' part added so far, normed by the final norm at each row block's last point; and the result array is the feed-forward.
-/
module

public import proofs.«01_k».proof.Proof.MlpKer

@[expose] public section

set_option maxRecDepth 16384

noncomputable section

namespace Cert.Proof.Mlp

open Idealize.ShloMosaic Idealize.ShloMosaic.TcCoe Idealize.ShloMosaic.StableHlo Idealize.ShloMosaic.Pipeline Idealize.ShloMosaic.Pointwise Cert.Proof.Ret
open Cert.Kernel2Ideal Cert.Kernel2Ideal.Gen

variable (m : (β : Loc nD τ sig) → Buf (Elt Ideal) β) (c : Dev nD)

/-- The output block after point `n`. -/
def written (n : ℕ) (hn : n < cfg0.N) : FVec Ideal S1024x2048 .f32 := (outsAt0 m c n hn).1
/-- The carried block after point `n`. -/
def carried (n : ℕ) (hn : n < cfg0.N) : FVec Ideal S1024x2048 .bf16 := (outsAt0 m c n hn).2

/-- The output block after a row block's first point. -/
theorem written_A (t : Fin cfg0.N) (h0 : t.val % 16 = 0) : written m c t.val t.isLt
    = k0_pay2 (k0_pay1 (iblk m c 0 t) (iblk m c 1 t)) (iblk m c 2 t) (iblk m c 0 t) (iblk m c 3 t) := by
  unfold written
  rw [outsAt0_A m c t h0 (by omega)]
  frame_out
/-- The carried block after a row block's first point. -/
theorem carried_A (t : Fin cfg0.N) (h0 : t.val % 16 = 0) : carried m c t.val t.isLt
    = k0_pay1 (iblk m c 0 t) (iblk m c 1 t) := by
  unfold carried
  rw [outsAt0_A m c t h0 (by omega)]
  frame_out
/-- The output block after a middle point. -/
theorem written_B (t : Fin cfg0.N) (h0 : ¬ t.val % 16 = 0) (h1 : ¬ t.val % 16 = 15) : written m c t.val t.isLt
    = k0_pay2 (carried m c (t.val - 1) (by omega)) (iblk m c 2 t) (written m c (t.val - 1) (by omega)) (iblk m c 3 t) := by
  unfold written carried
  rw [outsAt0_B m c t h0 h1]
  frame_out
  rw [read_unread_whole]
/-- The carried block after a middle point. -/
theorem carried_B (t : Fin cfg0.N) (h0 : ¬ t.val % 16 = 0) (h1 : ¬ t.val % 16 = 15) : carried m c t.val t.isLt
    = carried m c (t.val - 1) (by omega) := by
  unfold carried
  rw [outsAt0_B m c t h0 h1]
  dsimp only
  unfold sout0_B_0
  simp only [read_unread_whole]
/-- The output block after a row block's last point. -/
theorem written_C (t : Fin cfg0.N) (h0 : ¬ t.val % 16 = 0) (h1 : t.val % 16 = 15) : written m c t.val t.isLt
    = k0_pay3 (k0_pay2 (carried m c (t.val - 1) (by omega)) (iblk m c 2 t) (written m c (t.val - 1) (by omega)) (iblk m c 3 t)) (iblk m c 4 t) := by
  unfold written carried
  rw [outsAt0_C m c t h0 h1]
  frame_out
  rw [read_unread_whole]

/-- The carried block after a row block's last point. -/
theorem carried_C (t : Fin cfg0.N) (h0 : ¬ t.val % 16 = 0) (h1 : t.val % 16 = 15) : carried m c t.val t.isLt
    = carried m c (t.val - 1) (by omega) := by
  unfold carried
  rw [outsAt0_C m c t h0 h1]
  dsimp only
  unfold sout0_C_0
  simp only [read_unread_whole]

/-- The normed rows of the block at point `t`. -/
theorem first_carried (t : Fin cfg0.N) (i : Fin 1024) (k : Fin 2048) :
    (show FVec Ideal S1024x2048 .bf16 from k0_pay1 (iblk m c 0 t) (iblk m c 1 t)) (ix2 i k)
      = nrm (resid m c) (normW m c) (1024 * (t.val / 16) + i.val) k.val := by
  refine (pay1_at (iblk m c 0 t) (iblk m c 1 t) i k).trans (rms_congr k.2 (fun j hj => ?_) ?_)
  · exact (at2_ix (show FVec Ideal S1024x2048 .f32 from iblk m c 0 t) i ⟨j, hj⟩).symm.trans (blk0_at m c t i ⟨j, hj⟩)
  · exact (at3_ix (show FVec Ideal S1x1x2048 .f32 from iblk m c 1 t) 0 0 k).symm.trans (blk1_at m c t k)

/-- A point adds its block of hidden units' part. -/
theorem step_at (t : Fin cfg0.N) (A : FVec Ideal S1024x2048 .bf16) (B : FVec Ideal S1024x2048 .f32)
    (hA : ∀ (i : Fin 1024) (k : Fin 2048), A (ix2 i k) = nrm (resid m c) (normW m c) (1024 * (t.val / 16) + i.val) k.val)
    (hB : ∀ (i : Fin 1024) (j : Fin 2048), B (ix2 i j)
      = part (resid m c) (normW m c) (upW m c) (downW m c) (512 * (t.val % 16)) (1024 * (t.val / 16) + i.val) j.val)
    (i : Fin 1024) (j : Fin 2048) : (show FVec Ideal S1024x2048 .f32 from k0_pay2 A (iblk m c 2 t) B (iblk m c 3 t)) (ix2 i j)
      = part (resid m c) (normW m c) (upW m c) (downW m c) (512 * (t.val % 16) + 512) (1024 * (t.val / 16) + i.val) j.val := by
  refine (pay2_at A (iblk m c 2 t) B (iblk m c 3 t) i j).trans ?_
  rw [← part_step, hB]
  refine congrArg₂ (· + ·) rfl (Finset.sum_congr rfl fun f _ => congrArg₂ (· * ·) ?_ (blk3_at m c t f j))
  exact congrArg sqRelu (Finset.sum_congr rfl fun k _ => congrArg₂ (· * ·) (hA i k) (blk2_at m c t k f))

/-- What the carried block and the output block hold after point `n`. -/
def Good (n : ℕ) (hn : n < cfg0.N) : Prop :=
  (∀ (i : Fin 1024) (k : Fin 2048), carried m c n hn (ix2 i k) = nrm (resid m c) (normW m c) (1024 * (n / 16) + i.val) k.val)
  ∧ (¬ n % 16 = 15 → ∀ (i : Fin 1024) (j : Fin 2048), written m c n hn (ix2 i j)
      = part (resid m c) (normW m c) (upW m c) (downW m c) (512 * (n % 16) + 512) (1024 * (n / 16) + i.val) j.val)
  ∧ (n % 16 = 15 → ∀ (i : Fin 1024) (j : Fin 2048), written m c n hn (ix2 i j)
      = outF (resid m c) (normW m c) (upW m c) (downW m c) (finW m c) (1024 * (n / 16) + i.val) j.val)

/-- A row block's first point. -/
theorem good_A (t : Fin cfg0.N) (h0 : t.val % 16 = 0) : Good m c t.val t.isLt := by
  refine ⟨fun i k => ?_, fun _ i j => ?_, fun h => by omega⟩
  · rw [carried_A m c t h0]; exact first_carried m c t i k
  · rw [written_A m c t h0]
    refine step_at m c t _ _ (first_carried m c t) (fun i j => ?_) i j
    rw [h0, Nat.mul_zero, part_zero]
    exact blk0_at m c t i j

/-- A later point, after one that left the blocks right. -/
theorem good_BC (t : Fin cfg0.N) (h0 : ¬ t.val % 16 = 0) (hp : Good m c (t.val - 1) (by omega)) : Good m c t.val t.isLt := by
  obtain ⟨hA, hB, -⟩ := hp
  have e1 : (t.val - 1) / 16 = t.val / 16 := by omega
  have e2 : 512 * ((t.val - 1) % 16) + 512 = 512 * (t.val % 16) := by omega
  have hB := hB (by omega)
  rw [e1] at hA hB
  rw [e2] at hB
  have hs := step_at m c t _ _ hA hB
  by_cases h1 : t.val % 16 = 15
  · refine ⟨fun i k => ?_, fun h => absurd h1 h, fun _ i j => ?_⟩
    · rw [carried_C m c t h0 h1]; exact hA i k
    · rw [written_C m c t h0 h1]
      refine (pay3_at _ (iblk m c 4 t) i j).trans (rms_congr j.2 (fun k hk => ?_) ?_)
      · refine (at2_ix _ i ⟨k, hk⟩).symm.trans ((hs i ⟨k, hk⟩).trans ?_)
        rw [h1]
      · exact (at2_ix (show FVec Ideal S1x2048 .f32 from iblk m c 4 t) 0 j).symm.trans (blk4_at m c t j)
  · refine ⟨fun i k => ?_, fun _ i j => ?_, fun h => absurd h h1⟩
    · rw [carried_B m c t h0 h1]; exact hA i k
    · rw [written_B m c t h0 h1]; exact hs i j

/-- Every point leaves the blocks right. -/
theorem good : ∀ (n : ℕ) (hn : n < cfg0.N), Good m c n hn
  | 0, hn => good_A m c ⟨0, hn⟩ rfl
  | n + 1, hn => by
    by_cases h : (n + 1) % 16 = 0
    · exact good_A m c ⟨n + 1, hn⟩ h
    · exact good_BC m c ⟨n + 1, hn⟩ h (good n (by omega))

/-- After all points the result array holds the feed-forward. -/
theorem array_done2 : (dats m 0 c).arrAt 5 cfg0.N = result (resid m c) (normW m c) (upW m c) (downW m c) (finW m c) := by
  refine (dats m 0 c).arrAt_eq_of_covers 5 _ (by decide +kernel) fun t hf y => ?_
  have h15 : t.val % 16 = 15 := (flush0_5 t).1 hf
  blk_simp
  rw [after0_5]
  have e0 : (((win0_5.blk t).view.emb y) 0).val = 1024 * (t.val / 16) + (y 0).val :=
    (win0_5.rect_emb_val_off t y 0).trans (by rw [(idx t).2.2.2.2.2.1]; show t.val / 16 * 1024 + (y 0).val = _; omega)
  have e1 : (((win0_5.blk t).view.emb y) 1).val = (y 1).val :=
    (win0_5.rect_emb_val_off t y 1).trans (by rw [(idx t).2.2.2.2.2.1]; show 0 * 2048 + (y 1).val = _; omega)
  have e := (good m c t.val t.isLt).2.2 h15 (y 0) (y 1)
  rw [← e0, ← e1] at e
  refine Eq.trans ?_ e
  exact congrArg (written m c t.val t.isLt) (ix2_eta y).symm

/-- The kernel runs, ends with the feed-forward of its arguments, and keeps them. -/
theorem run_ker2 (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans (array_done2 m c), (h c).2⟩) (Value.run_blocks m ρ)

end Cert.Proof.Mlp
end
-- ==== Proof.InMath.lean ====
/-
  The input projection on extended reals: the normed rows times the weight matrix, the products' columns grouped as the mixers
  take them, with zero columns between.
-/
module

public import proofs.«01_k».proof.Proof.MlpMath

@[expose] public section

set_option maxRecDepth 16384

noncomputable section

namespace Cert.Proof.InP

open Idealize.ShloMosaic Idealize.ShloMosaic.Pointwise Cert.Proof.Ret Cert.Proof.Mlp

/-- The grouped columns, of a function of the projection's columns: zero in the gaps. -/
def grouped (f : ℕ → EReal) (j : ℕ) : EReal :=
  if j < 1536 then f j else if j < 3072 then f (5136 + (j - 1536)) else if j < 4096 then f (4104 + (j - 3072))
  else if j < 4608 then f (1536 + (j - 4096)) else if j < 6144 then f (2056 + (j - 4608)) else if j < 6656 then f (3592 + (j - 6144))
  else if j < 6664 then f (2048 + (j - 6656)) else if j < 6784 then 0 else if j < 6792 then f (5128 + (j - 6784))
  else if j < 6912 then 0 else if j < 7072 then f (6672 + (j - 6912)) else 0

/-- A row's product with one of two columns. -/
theorem dot_ite (a u v : ℕ → EReal) (p : Prop) [Decidable p] : (dotR a fun k => if p then u k else v k) = if p then dotR a u else dotR a v := by
  split <;> rfl
/-- A row's product with zeros. -/
theorem dot_zero (a : ℕ → EReal) : (dotR a fun _ => 0) = 0 := Finset.sum_eq_zero fun k _ => mul_zero _
/-- A choice that carries its reason, against one that doesn't. -/
theorem choice {p q : Prop} [Decidable p] [Decidable q] {x : p → EReal} {y : ¬ p → EReal} {u v : EReal} (hpq : p ↔ q)
    (hx : ∀ h, x h = u) (hy : ∀ h, y h = v) : dite p x y = ite q u v := by
  by_cases h : p
  · rw [dif_pos h, if_pos (hpq.1 h)]; exact hx h
  · rw [dif_neg h, if_neg fun hq => h (hpq.2 hq)]; exact hy h

/-- A choice between two equal values. -/
theorem same {p : Prop} [Decidable p] {x : p → EReal} {y : ¬ p → EReal} {u : EReal} (hx : ∀ h, x h = u) (hy : ∀ h, y h = u) : dite p x y = u := by
  by_cases h : p
  · rw [dif_pos h]; exact hx h
  · rw [dif_neg h]; exact hy h

/-- A row's product with the grouped columns is the grouped products. -/
theorem dot_grouped (a : ℕ → EReal) (w : ℕ → ℕ → EReal) (j : ℕ) :
    (dotR a fun k => grouped (w k) j) = grouped (fun s => dotR a fun k => w k s) j := by
  unfold grouped
  simp only [dot_ite, dot_zero]

section
variable (X : FVec Ideal ⟨2, ![8192, 2048]⟩ .f32) (N : FVec Ideal ⟨2, ![2, 2048]⟩ .f32) (W : FVec Ideal ⟨3, ![2, 2048, 6832]⟩ .f32)

/-- The normed row. -/
def nrm (i k : ℕ) : EReal := rms (at2 X i) (at2 N 0) k
/-- The projection at a row and a column of the weights. -/
def proj (i s : ℕ) : EReal := dotR (nrm X N i) fun k => at3 W 0 k s
/-- The projection at a row and a grouped column. -/
def outF (i j : ℕ) : EReal := grouped (proj X N W i) j
/-- The result array. -/
def result : FVec Ideal ⟨2, ![8192, 7168]⟩ .f32 := fun y => outF X N W (y 0).val (y 1).val
end

end Cert.Proof.InP
end
-- ==== Proof.InRef.lean ====
/-
  What the input projection's reference computes.
-/
module

public import proofs.«01_k».proof.Proof.InMath
public import proofs.«01_k».proof.Proof.Gen.Reference3Ideal.Run
public import Idealize.ShloMosaic.Lib.Pointwise

@[expose] public section

set_option maxRecDepth 16384

noncomputable section

namespace Cert.Proof.InP

open Idealize.ShloMosaic Idealize.ShloMosaic.TcCoe Idealize.ShloMosaic.Pointwise Cert.Proof.Ret Cert.Proof.Mlp
open Cert.Reference3Ideal Cert.Reference3Ideal.Gen Cert.Reference3Ideal.Value

/-- The rows normed, as the reference composes them. -/
def rmsR (X : FVec Ideal S8192x2048 .f32) (W : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 W))

/-- An entry of the normed rows. -/
theorem rmsR_at (X : FVec Ideal S8192x2048 .f32) (W : FVec Ideal S2048 .f32) (i : Fin 8192) (j : Fin 2048) :
    rmsR X W (ix2 i j) = rms (at2 X i.val) (at1 W) j.val := by
  unfold rmsR rms
  pointwise
  rw [at2_ix X i j, at1_ix W j, Finset.sum_congr rfl fun k _ => by rw [at2_ix X i k]]

/-- The product, as the reference composes it. -/
def projR (X : FVec Ideal S8192x2048 .f32) (N : FVec Ideal S2x2048 .f32) (W : FVec Ideal S2x2048x6832 .f32) : FVec Ideal S8192x6832 .f32 :=
  Host.dotGeneral dot_S8192x2048_S2048x6832_S8192x6832_1_0_0_1_n_n none
    (rmsR X (shapeCast S2048 (extractStridedSlice S1x2048 ![0, 0] N slices_S2x2048_S1x2048_0_0) shapeCasts_S1x2048_S2048))
    (shapeCast S2048x6832 (extractStridedSlice S1x2048x6832 ![0, 0, 0] W slices_S2x2048x6832_S1x2048x6832_0_0_0) shapeCasts_S1x2048x6832_S2048x6832)

/-- An entry of the product. -/
theorem projR_at (X : FVec Ideal S8192x2048 .f32) (N : FVec Ideal S2x2048 .f32) (W : FVec Ideal S2x2048x6832 .f32) (i : Fin 8192) (s : Fin 6832) :
    projR X N W (ix2 i s) = proj X N W i.val s.val := by
  unfold projR
  pointwise
  unfold proj dotR
  refine Finset.sum_congr rfl fun k _ => congrArg₂ (· * ·) ?_ (at3_ix W 0 k s)
  refine (rmsR_at _ _ i k).trans (rms_congr k.2 (fun _ _ => rfl) ?_)
  rw [← at1_ix]
  pointwise
  exact at2_ix N 0 k

/-- The product's columns grouped, as the reference composes them. -/
def comp (P : FVec Ideal S8192x6832 .f32) : FVec Ideal S8192x7168 .f32 :=
  concatenate S8192x7168 1 [
    ⟨S8192x1536, extractStridedSlice S8192x1536 ![0, 0] P slices_S8192x6832_S8192x1536_0_0⟩,
    ⟨S8192x1536, extractStridedSlice S8192x1536 ![0, 5136] P slices_S8192x6832_S8192x1536_0_5136⟩,
    ⟨S8192x1024, extractStridedSlice S8192x1024 ![0, 4104] P slices_S8192x6832_S8192x1024_0_4104⟩,
    ⟨S8192x512, extractStridedSlice S8192x512 ![0, 1536] P slices_S8192x6832_S8192x512_0_1536⟩,
    ⟨S8192x1536, extractStridedSlice S8192x1536 ![0, 2056] P slices_S8192x6832_S8192x1536_0_2056⟩,
    ⟨S8192x512, extractStridedSlice S8192x512 ![0, 3592] P slices_S8192x6832_S8192x512_0_3592⟩,
    ⟨S8192x8, extractStridedSlice S8192x8 ![0, 2048] P slices_S8192x6832_S8192x8_0_2048⟩,
    ⟨S8192x120, broadcastInDim S8192x120 ![] bcast_S_S8192x120 (constant S_ .f32 0x00000000#32)⟩,
    ⟨S8192x8, extractStridedSlice S8192x8 ![0, 5128] P slices_S8192x6832_S8192x8_0_5128⟩,
    ⟨S8192x120, broadcastInDim S8192x120 ![] bcast_S_S8192x120 (constant S_ .f32 0x00000000#32)⟩,
    ⟨S8192x160, extractStridedSlice S8192x160 ![0, 6672] P slices_S8192x6832_S8192x160_0_6672⟩,
    ⟨S8192x96, broadcastInDim S8192x96 ![] bcast_S_S8192x96 (constant S_ .f32 0x00000000#32)⟩]
    concatenates_S8192x1536_S8192x1536_S8192x1024_S8192x512_S8192x1536_S8192x512_S8192x8_S8192x120_S8192x8_S8192x120_S8192x160_S8192x96_S8192x7168_d1

/-- The grouped product, entry by entry. -/
theorem comp_at (P : FVec Ideal S8192x6832 .f32) (f : ℕ → ℕ → EReal) (hP : ∀ (i : Fin 8192) (s : Fin 6832), P (ix2 i s) = f i.val s.val)
    (i : Fin 8192) (j : Fin 7168) : comp P (ix2 i j) = grouped (f i.val) j.val := by
  unfold comp
  pointwise
  unfold grouped
  refine choice (by omega) (fun h => (hP i _).trans (congrArg (f i.val) (by dsimp only; try omega))) (fun h0 => ?_)
  refine choice (by omega) (fun h => (hP i _).trans (congrArg (f i.val) (by dsimp only; try omega))) (fun h1 => ?_)
  refine choice (by omega) (fun h => (hP i _).trans (congrArg (f i.val) (by dsimp only; try omega))) (fun h2 => ?_)
  refine choice (by omega) (fun h => (hP i _).trans (congrArg (f i.val) (by dsimp only; try omega))) (fun h3 => ?_)
  refine choice (by omega) (fun h => (hP i _).trans (congrArg (f i.val) (by dsimp only; try omega))) (fun h4 => ?_)
  refine choice (by omega) (fun h => (hP i _).trans (congrArg (f i.val) (by dsimp only; try omega))) (fun h5 => ?_)
  refine choice (by omega) (fun h => (hP i _).trans (congrArg (f i.val) (by dsimp only; try omega))) (fun h6 => ?_)
  refine choice (by omega) (fun h => rfl) (fun h7 => ?_)
  refine choice (by omega) (fun h => (hP i _).trans (congrArg (f i.val) (by dsimp only; try omega))) (fun h8 => ?_)
  refine choice (by omega) (fun h => rfl) (fun h9 => ?_)
  refine choice (by omega) (fun h => (hP i _).trans (congrArg (f i.val) (by dsimp only; try omega))) (fun h10 => ?_)
  rfl

variable (m : (β : Loc nD τ sig) → Buf (Elt Ideal) β) (c : Dev nD)

/-- The reference's result is the composition. -/
theorem res_eq : res_out0 (F := Ideal) m c = comp (projR (m ((c.tc : Thread nD τ).loc main_arg0)) (m ((c.tc : Thread nD τ).loc main_arg1))
    (m ((c.tc : Thread nD τ).loc main_arg2))) := rfl

/-- The reference's result, entry by entry. -/
theorem res_value : res_out0 (F := Ideal) m c = result (m ((c.tc : Thread nD τ).loc main_arg0)) (m ((c.tc : Thread nD τ).loc main_arg1))
    (m ((c.tc : Thread nD τ).loc main_arg2)) := by
  rw [res_eq]
  funext y
  obtain ⟨i, j, rfl⟩ : ∃ (i : Fin 8192) (j : Fin 7168), y = ix2 i j := ⟨y 0, y 1, (ix2_eta y).symm⟩
  exact comp_at _ _ (projR_at _ _ _) i j

/-- The reference runs, ends with the grouped input projection of its arguments, keeps them, and leaves no signal pending. -/
theorem run_ref3 (ρ : Dev nD → PrngReg) :
    θ_run (defs (F := Ideal)) (onTc (τ := τ) (main (F := Ideal))) ⟨m, fun _ => 0, ρ⟩ (fun r => (∀ c : Dev nD,
      r.2.mem ((c.tc : Thread nD τ).loc main_v30) = result (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => ⟨(h c).1.trans (res_value m c), (h c).2⟩,
    Idealize.ShloMosaic.sem_eq_zero_of_no_sems (by decide) r.2⟩) (Cert.Reference3Ideal.Value.run m ρ)

end Cert.Proof.InP
end
-- ==== Proof.InKer.lean ====
/-
  The input projection's kernel: its payloads entry by entry, and what the host hands it — the weights with their columns grouped
  and the norm's weights.
-/
module

public import proofs.«01_k».proof.Proof.InMath
public import proofs.«01_k».proof.Proof.Gen.Kernel3Ideal.Frame
public import proofs.«01_k».proof.Proof.Gen.Kernel3Ideal.Value
public import Idealize.ShloMosaic.Lib.Pipeline.ValueKit
public import Idealize.ShloMosaic.Lib.StableHlo.RunRead
public import Idealize.ShloMosaic.Lib.Tactic.CleanTypes
public import Idealize.ShloMosaic.Lib.StableHlo.RunClose
public import Idealize.ShloMosaic.Lib.Pipeline.ReadBack

@[expose] public section

set_option maxRecDepth 16384

noncomputable section

namespace Cert.Proof.InP

open Idealize.ShloMosaic Idealize.ShloMosaic.TcCoe Idealize.ShloMosaic.StableHlo Idealize.ShloMosaic.Pipeline Idealize.ShloMosaic.Pointwise
open Cert.Proof.Ret Cert.Proof.Mlp Cert.Kernel3Ideal Cert.Kernel3Ideal.Gen

/-- The first payload norms a block's rows. -/
theorem pay1_at (X : FVec Ideal S1024x2048 .f32) (W : FVec Ideal S1x1x2048 .f32) (i : Fin 1024) (j : Fin 2048) :
    (show FVec Ideal S1024x2048 .bf16 from k0_pay1 X W) (ix2 i j) = rms (at2 X i.val) (at3 W 0 0) j.val := by
  unfold rms
  pointwise [k0_pay1]
  refine congrArg₂ (· * ·) (congrArg₂ (· * ·) (at2_ix X i j) (congrArg (fun s : EReal => Ideal.rsqrt (Ideal.div s _ + _))
    (Finset.sum_congr rfl fun k _ => congrArg₂ (· * ·) (at2_ix X i k) (at2_ix X i k)))) (at3_ix W 0 0 j)

/-- The second payload is a block of the product. -/
theorem pay2_at (A : FVec Ideal S1024x2048 .bf16) (U : FVec Ideal S1x2048x1792 .bf16) (i : Fin 1024) (j : Fin 1792) :
    (show FVec Ideal S1024x1792 .f32 from k0_pay2 A U) (ix2 i j) = ∑ k : Fin 2048, (A (ix2 i k) : EReal) * U (ix3 0 k j) := by
  pointwise [k0_pay2]

/-- Every window's block index at a point: four blocks of columns for each block of rows. -/
theorem idx : ∀ t : Fin cfg0.N, win0_0.index t = ![t.val / 4, 0] ∧ win0_1.index t = ![0, 0, 0] ∧ win0_2.index t = ![0, 0, t.val % 4]
    ∧ win0_3.index t = ![t.val / 4, t.val % 4] ∧ t.val < 32 :=
  (by decide +kernel : ∀ t : Fin grid0.N, _)

/-- The host's operations before the kernel. -/
abbrev hops : List (HloOp τ sig (Elt Ideal)) := (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22])

/-- The padding's value is zero. -/
theorem zero_word : FloatOps.sitofp (F := Ideal) FTy.f32 0#32 = (0 : EReal) := (num_eq 0 (by decide)).trans (by norm_num)

/-- The first group of columns. -/
theorem first_at (W : Valuation τ sig (Elt Ideal)) (l : Fin 2) (k : Fin 2048) (x : Fin 1536) :
    (show FVec Ideal S2x2048x1536 .f32 from upto hops W 45 (Proc.tc.devRef main_v2)) (ix3 l k x)
      = at3 (show FVec Ideal S2x2048x6832 .f32 from W (Proc.tc.devRef main_arg2)) l.val k.val (0 + x.val) := by
  unfold hops
  after_reads_simp
  simp only [TRef.toBuf, TRef.ofBuf, TRef.of, cast_eq, id_eq]
  pointwise
  exact at3_ix _ l k _

/-- The second group of columns. -/
theorem second_at (W : Valuation τ sig (Elt Ideal)) (l : Fin 2) (k : Fin 2048) (x : Fin 1536) :
    (show FVec Ideal S2x2048x1536 .f32 from upto hops W 45 (Proc.tc.devRef main_v4)) (ix3 l k x)
      = at3 (show FVec Ideal S2x2048x6832 .f32 from W (Proc.tc.devRef main_arg2)) l.val k.val (5136 + x.val) := by
  unfold hops
  after_reads_simp
  simp only [TRef.toBuf, TRef.ofBuf, TRef.of, cast_eq, id_eq]
  pointwise
  exact at3_ix _ l k _

/-- The third group of columns. -/
theorem third_at (W : Valuation τ sig (Elt Ideal)) (l : Fin 2) (k : Fin 2048) (x : Fin 1024) :
    (show FVec Ideal S2x2048x1024 .f32 from upto hops W 45 (Proc.tc.devRef main_v6)) (ix3 l k x)
      = at3 (show FVec Ideal S2x2048x6832 .f32 from W (Proc.tc.devRef main_arg2)) l.val k.val (4104 + x.val) := by
  unfold hops
  after_reads_simp
  simp only [TRef.toBuf, TRef.ofBuf, TRef.of, cast_eq, id_eq]
  pointwise
  exact at3_ix _ l k _

/-- The fourth group of columns. -/
theorem fourth_at (W : Valuation τ sig (Elt Ideal)) (l : Fin 2) (k : Fin 2048) (x : Fin 512) :
    (show FVec Ideal S2x2048x512 .f32 from upto hops W 45 (Proc.tc.devRef main_v8)) (ix3 l k x)
      = at3 (show FVec Ideal S2x2048x6832 .f32 from W (Proc.tc.devRef main_arg2)) l.val k.val (1536 + x.val) := by
  unfold hops
  after_reads_simp
  simp only [TRef.toBuf, TRef.ofBuf, TRef.of, cast_eq, id_eq]
  pointwise
  exact at3_ix _ l k _

/-- The fifth group of columns. -/
theorem fifth_at (W : Valuation τ sig (Elt Ideal)) (l : Fin 2) (k : Fin 2048) (x : Fin 512) :
    (show FVec Ideal S2x2048x512 .f32 from upto hops W 45 (Proc.tc.devRef main_v10)) (ix3 l k x)
      = at3 (show FVec Ideal S2x2048x6832 .f32 from W (Proc.tc.devRef main_arg2)) l.val k.val (2056 + x.val) := by
  unfold hops
  after_reads_simp
  simp only [TRef.toBuf, TRef.ofBuf, TRef.of, cast_eq, id_eq]
  pointwise
  exact at3_ix _ l k _

/-- The sixth group of columns. -/
theorem sixth_at (W : Valuation τ sig (Elt Ideal)) (l : Fin 2) (k : Fin 2048) (x : Fin 512) :
    (show FVec Ideal S2x2048x512 .f32 from upto hops W 45 (Proc.tc.devRef main_v12)) (ix3 l k x)
      = at3 (show FVec Ideal S2x2048x6832 .f32 from W (Proc.tc.devRef main_arg2)) l.val k.val (2568 + x.val) := by
  unfold hops
  after_reads_simp
  simp only [TRef.toBuf, TRef.ofBuf, TRef.of, cast_eq, id_eq]
  pointwise
  exact at3_ix _ l k _

/-- The seventh group of columns. -/
theorem seventh_at (W : Valuation τ sig (Elt Ideal)) (l : Fin 2) (k : Fin 2048) (x : Fin 512) :
    (show FVec Ideal S2x2048x512 .f32 from upto hops W 45 (Proc.tc.devRef main_v14)) (ix3 l k x)
      = at3 (show FVec Ideal S2x2048x6832 .f32 from W (Proc.tc.devRef main_arg2)) l.val k.val (3080 + x.val) := by
  unfold hops
  after_reads_simp
  simp only [TRef.toBuf, TRef.ofBuf, TRef.of, cast_eq, id_eq]
  pointwise
  exact at3_ix _ l k _

/-- The eighth group of columns. -/
theorem eighth_at (W : Valuation τ sig (Elt Ideal)) (l : Fin 2) (k : Fin 2048) (x : Fin 512) :
    (show FVec Ideal S2x2048x512 .f32 from upto hops W 45 (Proc.tc.devRef main_v16)) (ix3 l k x)
      = at3 (show FVec Ideal S2x2048x6832 .f32 from W (Proc.tc.devRef main_arg2)) l.val k.val (3592 + x.val) := by
  unfold hops
  after_reads_simp
  simp only [TRef.toBuf, TRef.ofBuf, TRef.of, cast_eq, id_eq]
  pointwise
  exact at3_ix _ l k _

/-- The ninth group of columns. -/
theorem ninth_at (W : Valuation τ sig (Elt Ideal)) (l : Fin 2) (k : Fin 2048) (x : Fin 128) :
    (show FVec Ideal S2x2048x128 .f32 from upto hops W 45 (Proc.tc.devRef main_v18)) (ix3 l k x)
      = if x.val < 8 then at3 (show FVec Ideal S2x2048x6832 .f32 from W (Proc.tc.devRef main_arg2)) l.val k.val (2048 + x.val) else 0 := by
  unfold hops
  after_reads_simp
  simp only [TRef.toBuf, TRef.ofBuf, TRef.of, cast_eq, id_eq]
  pointwise
  refine choice (by omega) (fun h => at3_ix _ l k _) (fun h => ?_)
  exact zero_word

/-- The tenth group of columns. -/
theorem tenth_at (W : Valuation τ sig (Elt Ideal)) (l : Fin 2) (k : Fin 2048) (x : Fin 128) :
    (show FVec Ideal S2x2048x128 .f32 from upto hops W 45 (Proc.tc.devRef main_v20)) (ix3 l k x)
      = if x.val < 8 then at3 (show FVec Ideal S2x2048x6832 .f32 from W (Proc.tc.devRef main_arg2)) l.val k.val (5128 + x.val) else 0 := by
  unfold hops
  after_reads_simp
  simp only [TRef.toBuf, TRef.ofBuf, TRef.of, cast_eq, id_eq]
  pointwise
  refine choice (by omega) (fun h => at3_ix _ l k _) (fun h => ?_)
  exact zero_word

/-- The eleventh group of columns. -/
theorem eleventh_at (W : Valuation τ sig (Elt Ideal)) (l : Fin 2) (k : Fin 2048) (x : Fin 256) :
    (show FVec Ideal S2x2048x256 .f32 from upto hops W 45 (Proc.tc.devRef main_v22)) (ix3 l k x)
      = if x.val < 160 then at3 (show FVec Ideal S2x2048x6832 .f32 from W (Proc.tc.devRef main_arg2)) l.val k.val (6672 + x.val) else 0 := by
  unfold hops
  after_reads_simp
  simp only [TRef.toBuf, TRef.ofBuf, TRef.of, cast_eq, id_eq]
  pointwise
  refine choice (by omega) (fun h => at3_ix _ l k _) (fun h => ?_)
  exact zero_word

/-- The norm's weights as the host lays them out, in given contents. -/
def normV (W : Valuation τ sig (Elt Ideal)) : FVec Ideal S2x1x2048 .f32 := StableHlo.after hops W (Proc.tc.devRef main_v0)
/-- They are the weights. -/
theorem normV_at (W : Valuation τ sig (Elt Ideal)) (l : Fin 2) (j : Fin 2048) :
    normV W (ix3 l 0 j) = (show FVec Ideal S2x2048 .f32 from W (Proc.tc.devRef main_arg1)) (ix2 l j) := by
  unfold normV hops
  after_reads_simp
  pointwise

/-- The grouped weights, in given contents. -/
def inV (W : Valuation τ sig (Elt Ideal)) : FVec Ideal S2x2048x7168 .bf16 := StableHlo.after hops W (Proc.tc.devRef main_v24)
set_option maxHeartbeats 1000000 in
/-- They are the weights with their columns grouped. -/
theorem inV_at (W : Valuation τ sig (Elt Ideal)) (l : Fin 2) (k : Fin 2048) (j : Fin 7168) :
    inV W (ix3 l k j) = grouped (fun s => at3 (show FVec Ideal S2x2048x6832 .f32 from W (Proc.tc.devRef main_arg2)) l.val k.val s) j.val := by
  unfold inV hops
  after_reads_simp
  pointwise
  unfold grouped
  refine choice (by omega) (fun h => (first_at _ _ _ _).trans (congrArg _ (by dsimp only; try omega))) (fun h2 => ?_)
  refine choice (by omega) (fun h => (second_at _ _ _ _).trans (congrArg _ (by dsimp only; try omega))) (fun h4 => ?_)
  refine choice (by omega) (fun h => (third_at _ _ _ _).trans (congrArg _ (by dsimp only; try omega))) (fun h6 => ?_)
  refine choice (by omega) (fun h => (fourth_at _ _ _ _).trans (congrArg _ (by dsimp only; try omega))) (fun h8 => ?_)
  by_cases h9 : j.val < 6144
  · rw [if_pos h9]
    exact same (fun h => (fifth_at _ _ _ _).trans (congrArg (at3 _ l.val k.val) (by dsimp only; omega))) fun h => same (fun h => (sixth_at _ _ _ _).trans (congrArg (at3 _ l.val k.val) (by dsimp only; omega)))
      fun h => (dif_pos (by omega)).trans ((seventh_at _ _ _ _).trans (congrArg (at3 _ l.val k.val) (by dsimp only; omega)))
  rw [if_neg h9, dif_neg (by omega), dif_neg (by omega), dif_neg (by omega)]
  refine choice (by omega) (fun h => (eighth_at _ _ _ _).trans (congrArg _ (by dsimp only; try omega))) (fun h16 => ?_)
  by_cases a1 : j.val < 6784
  · rw [dif_pos (by omega)]
    refine (ninth_at _ _ _ _).trans ?_
    by_cases b1 : j.val < 6664
    · rw [if_pos (by dsimp only; omega), if_pos b1]
      exact (congrArg (at3 _ l.val k.val) (by dsimp only; omega))
    · rw [if_neg (by dsimp only; omega), if_neg b1, if_pos a1]
  rw [dif_neg (by omega), if_neg (by omega : ¬ j.val < 6664), if_neg a1]
  by_cases a2 : j.val < 6912
  · rw [dif_pos (by omega)]
    refine (tenth_at _ _ _ _).trans ?_
    by_cases b2 : j.val < 6792
    · rw [if_pos (by dsimp only; omega), if_pos b2]
      exact (congrArg (at3 _ l.val k.val) (by dsimp only; omega))
    · rw [if_neg (by dsimp only; omega), if_neg b2, if_pos a2]
  rw [dif_neg (by omega), if_neg (by omega : ¬ j.val < 6792), if_neg a2]
  refine (eleventh_at _ _ _ _).trans ?_
  by_cases b3 : j.val < 7072
  · rw [if_pos (by dsimp only; omega), if_pos b3]
    exact (congrArg (at3 _ l.val k.val) (by dsimp only; omega))
  · rw [if_neg (by dsimp only; omega), if_neg b3]

end Cert.Proof.InP
end
-- ==== Proof.InRun.lean ====
/-
  The input projection's kernel: what its blocks hold, what the carried block and the written block hold after each point, and
  the result array.
-/
module

public import proofs.«01_k».proof.Proof.InKer

@[expose] public section

set_option maxRecDepth 16384

noncomputable section

namespace Cert.Proof.InP

open Idealize.ShloMosaic Idealize.ShloMosaic.TcCoe Idealize.ShloMosaic.StableHlo Idealize.ShloMosaic.Pipeline Idealize.ShloMosaic.Pointwise
open Cert.Proof.Ret Cert.Proof.Mlp Cert.Kernel3Ideal Cert.Kernel3Ideal.Gen

variable (m : (β : Loc nD τ sig) → Buf (Elt Ideal) β) (c : Dev nD)

/-- The layer's input. -/
def input : FVec Ideal S8192x2048 .f32 := m ((c : Thread nD τ).loc main_arg0)
/-- The norm's weights. -/
def normW : FVec Ideal S2x2048 .f32 := m ((c : Thread nD τ).loc main_arg1)
/-- The projection's weights. -/
def inW : FVec Ideal S2x2048x6832 .f32 := m ((c : Thread nD τ).loc main_arg2)

/-- A block of input rows. -/
theorem blk0_at (t : Fin cfg0.N) (i : Fin 1024) (j : Fin 2048) :
    (show FVec Ideal S1024x2048 .f32 from iblk m c 0 t) (ix2 i j) = at2 (input m c) (1024 * (t.val / 4) + i.val) j.val := by
  refine Eq.trans (b := input m c (ix2 ⟨1024 * (t.val / 4) + i.val, by have := (idx t).2.2.2.2; omega⟩ j)) ?_ (at2_ix _ _ _)
  refine Eq.trans ?_ (congrFun (V_main_arg0 m c) _)
  blk_ext [iblk, idx t]

/-- The block of the norm's weights: the first layer's. -/
theorem blk1_at (t : Fin cfg0.N) (j : Fin 2048) :
    (show FVec Ideal S1x1x2048 .f32 from iblk m c 1 t) (ix3 0 0 j) = at2 (normW m c) 0 j.val := by
  refine Eq.trans (b := normV (fun b => m (c, b)) (ix3 0 0 j)) ?_ ((normV_at _ _ _).trans (at2_ix (normW m c) 0 j))
  blk_ext [iblk, idx t]

/-- A block of the grouped weights. -/
theorem blk2_at (t : Fin cfg0.N) (k : Fin 2048) (j : Fin 1792) :
    (show FVec Ideal S1x2048x1792 .bf16 from iblk m c 2 t) (ix3 0 k j) = grouped (fun s => at3 (inW m c) 0 k.val s) (1792 * (t.val % 4) + j.val) := by
  refine Eq.trans (b := inV (fun b => m (c, b)) (ix3 0 k ⟨1792 * (t.val % 4) + j.val, by omega⟩)) ?_ (inV_at _ _ _ _)
  blk_ext [iblk, idx t]

/-- The block written at point `n`. -/
def written (n : ℕ) (hn : n < cfg0.N) : FVec Ideal S1024x1792 .f32 := (outsAt0 m c n hn).1
/-- The carried block after point `n`. -/
def carried (n : ℕ) (hn : n < cfg0.N) : FVec Ideal S1024x2048 .bf16 := (outsAt0 m c n hn).2

/-- The block written at a row block's first point. -/
theorem written_A (t : Fin cfg0.N) (h0 : t.val % 4 = 0) : written m c t.val t.isLt
    = k0_pay2 (k0_pay1 (iblk m c 0 t) (iblk m c 1 t)) (iblk m c 2 t) := by
  unfold written
  rw [outsAt0_A m c t h0]
  frame_out
/-- The carried block after a row block's first point. -/
theorem carried_A (t : Fin cfg0.N) (h0 : t.val % 4 = 0) : carried m c t.val t.isLt
    = k0_pay1 (iblk m c 0 t) (iblk m c 1 t) := by
  unfold carried
  rw [outsAt0_A m c t h0]
  frame_out
/-- The block written at a later point. -/
theorem written_B (t : Fin cfg0.N) (h0 : ¬ t.val % 4 = 0) : written m c t.val t.isLt
    = k0_pay2 (carried m c (t.val - 1) (by omega)) (iblk m c 2 t) := by
  unfold written carried
  rw [outsAt0_B m c t h0]
  frame_out
  rw [read_unread_whole]
/-- The carried block after a later point. -/
theorem carried_B (t : Fin cfg0.N) (h0 : ¬ t.val % 4 = 0) : carried m c t.val t.isLt
    = carried m c (t.val - 1) (by omega) := by
  unfold carried
  rw [outsAt0_B m c t h0]
  dsimp only
  unfold sout0_B_0
  simp only [read_unread_whole]

/-- The normed rows of the block at point `t`. -/
theorem first_carried (t : Fin cfg0.N) (i : Fin 1024) (k : Fin 2048) :
    (show FVec Ideal S1024x2048 .bf16 from k0_pay1 (iblk m c 0 t) (iblk m c 1 t)) (ix2 i k)
      = nrm (input m c) (normW m c) (1024 * (t.val / 4) + i.val) k.val := by
  refine (pay1_at (iblk m c 0 t) (iblk m c 1 t) i k).trans (rms_congr k.2 (fun j hj => ?_) ?_)
  · exact (at2_ix (show FVec Ideal S1024x2048 .f32 from iblk m c 0 t) i ⟨j, hj⟩).symm.trans (blk0_at m c t i ⟨j, hj⟩)
  · exact (at3_ix (show FVec Ideal S1x1x2048 .f32 from iblk m c 1 t) 0 0 k).symm.trans (blk1_at m c t k)

/-- A point's product, of a block of normed rows. -/
theorem product_at (t : Fin cfg0.N) (A : FVec Ideal S1024x2048 .bf16)
    (hA : ∀ (i : Fin 1024) (k : Fin 2048), A (ix2 i k) = nrm (input m c) (normW m c) (1024 * (t.val / 4) + i.val) k.val)
    (i : Fin 1024) (j : Fin 1792) : (show FVec Ideal S1024x1792 .f32 from k0_pay2 A (iblk m c 2 t)) (ix2 i j)
      = outF (input m c) (normW m c) (inW m c) (1024 * (t.val / 4) + i.val) (1792 * (t.val % 4) + j.val) := by
  refine (pay2_at A (iblk m c 2 t) i j).trans ?_
  unfold outF proj
  rw [← dot_grouped]
  exact Finset.sum_congr rfl fun k _ => congrArg₂ (· * ·) (hA i k) (blk2_at m c t k j)

/-- What the carried block and the written block hold after point `n`. -/
def Good (n : ℕ) (hn : n < cfg0.N) : Prop :=
  (∀ (i : Fin 1024) (k : Fin 2048), carried m c n hn (ix2 i k) = nrm (input m c) (normW m c) (1024 * (n / 4) + i.val) k.val)
  ∧ ∀ (i : Fin 1024) (j : Fin 1792), written m c n hn (ix2 i j)
      = outF (input m c) (normW m c) (inW m c) (1024 * (n / 4) + i.val) (1792 * (n % 4) + j.val)

/-- A row block's first point. -/
theorem good_A (t : Fin cfg0.N) (h0 : t.val % 4 = 0) : Good m c t.val t.isLt := by
  refine ⟨fun i k => ?_, fun i j => ?_⟩
  · rw [carried_A m c t h0]; exact first_carried m c t i k
  · rw [written_A m c t h0]; exact product_at m c t _ (first_carried m c t) i j

/-- A later point, after one that left the blocks right. -/
theorem good_B (t : Fin cfg0.N) (h0 : ¬ t.val % 4 = 0) (hp : Good m c (t.val - 1) (by omega)) : Good m c t.val t.isLt := by
  obtain ⟨hA, -⟩ := hp
  have e1 : (t.val - 1) / 4 = t.val / 4 := by omega
  rw [e1] at hA
  refine ⟨fun i k => ?_, fun i j => ?_⟩
  · rw [carried_B m c t h0]; exact hA i k
  · rw [written_B m c t h0]; exact product_at m c t _ hA i j

/-- Every point leaves the blocks right. -/
theorem good : ∀ (n : ℕ) (hn : n < cfg0.N), Good m c n hn
  | 0, hn => good_A m c ⟨0, hn⟩ rfl
  | n + 1, hn => by
    by_cases h : (n + 1) % 4 = 0
    · exact good_A m c ⟨n + 1, hn⟩ h
    · exact good_B m c ⟨n + 1, hn⟩ h (good n (by omega))

/-- After all points the result array holds the grouped projection. -/
theorem array_done3 : (dats m 0 c).arrAt 3 cfg0.N = result (input m c) (normW m c) (inW m c) := by
  refine (dats m 0 c).arrAt_eq_of_covers 3 _ (by decide +kernel) fun t hf y => ?_
  blk_simp
  rw [after0_3]
  have e0 : (((win0_3.blk t).view.emb y) 0).val = 1024 * (t.val / 4) + (y 0).val :=
    (win0_3.rect_emb_val_off t y 0).trans (by rw [(idx t).2.2.2.1]; show t.val / 4 * 1024 + (y 0).val = _; omega)
  have e1 : (((win0_3.blk t).view.emb y) 1).val = 1792 * (t.val % 4) + (y 1).val :=
    (win0_3.rect_emb_val_off t y 1).trans (by rw [(idx t).2.2.2.1]; show t.val % 4 * 1792 + (y 1).val = _; omega)
  have e := (good m c t.val t.isLt).2 (y 0) (y 1)
  rw [← e0, ← e1] at e
  refine Eq.trans ?_ e
  exact congrArg (written m c t.val t.isLt) (ix2_eta y).symm

/-- The kernel runs, ends with the grouped input projection of its arguments, and keeps them. -/
theorem run_ker3 (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = result (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans (array_done3 m c), (h c).2⟩) (Value.run_blocks m ρ)

end Cert.Proof.InP
end
-- ==== Proof.OutMath.lean ====
/-
  The output projection on extended reals: the four mixers' outputs side by side, times the weight matrix, added to the
  residual stream.
-/
module

public import proofs.«01_k».proof.Proof.MlpMath

@[expose] public section

set_option maxRecDepth 16384

noncomputable section

namespace Cert.Proof.OutP

open Idealize.ShloMosaic Idealize.ShloMosaic.Pointwise Cert.Proof.Ret Cert.Proof.Mlp

section
variable (H : FVec Ideal ⟨2, ![8192, 2048]⟩ .f32) (A B C D : FVec Ideal ⟨2, ![8192, 512]⟩ .f32) (W : FVec Ideal ⟨3, ![2, 2048, 2048]⟩ .f32)

/-- The four mixers' outputs side by side. -/
def side (i k : ℕ) : EReal :=
  if k < 512 then at2 A i k else if k < 1024 then at2 B i (k - 512) else if k < 1536 then at2 C i (k - 1024) else at2 D i (k - 1536)

/-- The residual stream with the projected outputs added. -/
def outF (i j : ℕ) : EReal := at2 H i j + dotR (side A B C D i) fun k => at3 W 0 k j
/-- The result array. -/
def result : FVec Ideal ⟨2, ![8192, 2048]⟩ .f32 := fun y => outF H A B C D W (y 0).val (y 1).val

/-- A sum over 2048 places is four sums over 512. -/
theorem sum_four (f : ℕ → EReal) : ∑ k : Fin 2048, f k.val
    = ∑ k : Fin 512, f k.val + ∑ k : Fin 512, f (512 + k.val) + ∑ k : Fin 512, f (1024 + k.val) + ∑ k : Fin 512, f (1536 + k.val) := by
  rw [Finset.sum_range f |>.symm, show 2048 = 1536 + 512 from rfl, Finset.sum_range_add, show 1536 = 1024 + 512 from rfl, Finset.sum_range_add,
    show 1024 = 512 + 512 from rfl, Finset.sum_range_add, Finset.sum_range, Finset.sum_range, Finset.sum_range, Finset.sum_range]

/-- The four parts' products added one after the other make the projection. -/
theorem outF_parts (i j : ℕ) : outF H A B C D W i j = at2 H i j + ∑ k : Fin 512, at2 A i k.val * at3 W 0 k.val j
    + ∑ k : Fin 512, at2 B i k.val * at3 W 0 (512 + k.val) j + ∑ k : Fin 512, at2 C i k.val * at3 W 0 (1024 + k.val) j
    + ∑ k : Fin 512, at2 D i k.val * at3 W 0 (1536 + k.val) j := by
  unfold outF dotR
  rw [sum_four (fun k => side A B C D i k * at3 W 0 k j)]
  simp only [add_assoc]
  have h (k : Fin 512) := k.isLt
  refine congrArg₂ (· + ·) rfl (congrArg₂ (· + ·) ?_ (congrArg₂ (· + ·) ?_ (congrArg₂ (· + ·) ?_ ?_)))
  · refine Finset.sum_congr rfl fun k _ => congrArg (· * _) ?_
    unfold side
    rw [if_pos (h k)]
  · refine Finset.sum_congr rfl fun k _ => congrArg (· * _) ?_
    have := h k
    unfold side
    rw [if_neg (by omega), if_pos (by omega), Nat.add_sub_cancel_left]
  · refine Finset.sum_congr rfl fun k _ => congrArg (· * _) ?_
    have := h k
    unfold side
    rw [if_neg (by omega), if_neg (by omega), if_pos (by omega), Nat.add_sub_cancel_left]
  · refine Finset.sum_congr rfl fun k _ => congrArg (· * _) ?_
    have := h k
    unfold side
    rw [if_neg (by omega), if_neg (by omega), if_neg (by omega), Nat.add_sub_cancel_left]
end

end Cert.Proof.OutP
end
-- ==== Proof.OutRef.lean ====
/-
  What the output projection's reference computes.
-/
module

public import proofs.«01_k».proof.Proof.OutMath
public import proofs.«01_k».proof.Proof.Gen.Reference4Ideal.Run
public import Idealize.ShloMosaic.Lib.Pointwise

@[expose] public section

set_option maxRecDepth 16384

noncomputable section

namespace Cert.Proof.OutP

open Idealize.ShloMosaic Idealize.ShloMosaic.TcCoe Idealize.ShloMosaic.Pointwise Cert.Proof.Ret Cert.Proof.Mlp
open Cert.Reference4Ideal Cert.Reference4Ideal.Gen

/-- The reference's composition: the outputs side by side, times the layer's weights, added to the stream. -/
def comp (H : FVec Ideal S8192x2048 .f32) (A B C D : FVec Ideal S8192x512 .f32) (W : FVec Ideal S2x2048x2048 .f32) : FVec Ideal S8192x2048 .f32 :=
  addf H (Host.dotGeneral dot_S8192x2048_S2048x2048_S8192x2048_1_0_0_1_n_n none
    (concatenate S8192x2048 1 [⟨S8192x512, A⟩, ⟨S8192x512, B⟩, ⟨S8192x512, C⟩, ⟨S8192x512, D⟩] concatenates_S8192x512_S8192x512_S8192x512_S8192x512_S8192x2048_d1)
    (shapeCast S2048x2048 (extractStridedSlice S1x2048x2048 ![0, 0, 0] W slices_S2x2048x2048_S1x2048x2048_0_0_0) shapeCasts_S1x2048x2048_S2048x2048))

/-- It is the output projection. -/
theorem comp_eq (H : FVec Ideal S8192x2048 .f32) (A B C D : FVec Ideal S8192x512 .f32) (W : FVec Ideal S2x2048x2048 .f32) :
    comp H A B C D W = result H A B C D W := by
  funext y
  obtain ⟨i, j, rfl⟩ : ∃ (i : Fin 8192) (j : Fin 2048), y = ix2 i j := ⟨y 0, y 1, (ix2_eta y).symm⟩
  show _ = outF H A B C D W i.val j.val
  unfold comp
  pointwise
  refine congrArg₂ (· + ·) (at2_ix H i j) (Finset.sum_congr rfl fun k _ => congrArg₂ (· * ·) ?_ (at3_ix W 0 k j))
  unfold side
  have e1 : k.val - 512 - 512 = k.val - 1024 := by omega
  have e2 : k.val - 512 - 512 - 512 = k.val - 1536 := by omega
  by_cases h1 : k.val < 512
  · rw [dif_pos h1, if_pos h1]
    exact at2_ix A i _
  by_cases h2 : k.val < 1024
  · rw [dif_neg h1, dif_pos (by omega), if_neg h1, if_pos h2]
    exact at2_ix B i _
  by_cases h3 : k.val < 1536
  · rw [dif_neg h1, dif_neg (by omega), dif_pos (by omega), if_neg h1, if_neg h2, if_pos h3, ← e1]
    exact at2_ix C i ⟨k.val - 512 - 512, by omega⟩
  · rw [dif_neg h1, dif_neg (by omega), dif_neg (by omega), if_neg h1, if_neg h2, if_neg h3, ← e2]
    exact at2_ix D i ⟨k.val - 512 - 512 - 512, by omega⟩

variable (m : (β : Loc nD τ sig) → Buf (Elt Ideal) β) (c : Dev nD)

/-- The reference runs, ends with the output projection of its arguments, keeps them, and leaves no signal pending. -/
theorem run_ref4 (ρ : Dev nD → PrngReg) :
    θ_run (defs (F := Ideal)) (onTc (τ := τ) (main (F := Ideal))) ⟨m, fun _ => 0, ρ⟩ (fun r => (∀ c : Dev nD,
      r.2.mem ((c.tc : Thread nD τ).loc main_v4) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => ⟨(h c).1.trans (comp_eq _ _ _ _ _ _), (h c).2⟩,
    Idealize.ShloMosaic.sem_eq_zero_of_no_sems (by decide) r.2⟩) (Cert.Reference4Ideal.Value.run m ρ)

end Cert.Proof.OutP
end
-- ==== Proof.OutKer.lean ====
/-
  The output projection's kernel: what its blocks hold, what a point writes, and the result array.
-/
module

public import proofs.«01_k».proof.Proof.OutMath
public import proofs.«01_k».proof.Proof.Gen.Kernel4Ideal.Frame
public import proofs.«01_k».proof.Proof.Gen.Kernel4Ideal.Value
public import Idealize.ShloMosaic.Lib.Pipeline.ValueKit
public import Idealize.ShloMosaic.Lib.StableHlo.RunRead
public import Idealize.ShloMosaic.Lib.Tactic.CleanTypes
public import Idealize.ShloMosaic.Lib.StableHlo.RunClose
public import Idealize.ShloMosaic.Lib.Pipeline.ReadBack

@[expose] public section

set_option maxRecDepth 16384

noncomputable section

namespace Cert.Proof.OutP

open Idealize.ShloMosaic Idealize.ShloMosaic.TcCoe Idealize.ShloMosaic.StableHlo Idealize.ShloMosaic.Pipeline Idealize.ShloMosaic.Pointwise
open Cert.Proof.Ret Cert.Proof.Mlp Cert.Kernel4Ideal Cert.Kernel4Ideal.Gen

/-- Every window's block index at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![t.val, 0] ∧ t.val < 16 :=
  (by decide +kernel : ∀ t : Fin grid0.N, _)

variable (m : (β : Loc nD τ sig) → Buf (Elt Ideal) β) (c : Dev nD)

/-- The residual stream. -/
def resid : FVec Ideal S8192x2048 .f32 := m ((c : Thread nD τ).loc main_arg0)
/-- The mixers' outputs. -/
def mixA : FVec Ideal S8192x512 .f32 := m ((c : Thread nD τ).loc main_arg1)
/-- The second mixer's. -/
def mixB : FVec Ideal S8192x512 .f32 := m ((c : Thread nD τ).loc main_arg2)
/-- The third mixer's. -/
def mixC : FVec Ideal S8192x512 .f32 := m ((c : Thread nD τ).loc main_arg3)
/-- The fourth mixer's. -/
def mixD : FVec Ideal S8192x512 .f32 := m ((c : Thread nD τ).loc main_arg4)
/-- The weights. -/
def outW : FVec Ideal S2x2048x2048 .f32 := m ((c : Thread nD τ).loc main_arg5)

/-- A block of residual rows. -/
theorem blk0_at (t : Fin cfg0.N) (i : Fin 512) (j : Fin 2048) :
    (show FVec Ideal S512x2048 .f32 from iblk m c 0 t) (ix2 i j) = at2 (resid m c) (512 * t.val + i.val) j.val := by
  refine Eq.trans (b := resid m c (ix2 ⟨512 * t.val + i.val, by have := (idx t).2.2.2.2.2.2.2; omega⟩ j)) ?_ (at2_ix _ _ _)
  unfold resid
  blk_ext [iblk, V, idx t]

/-- A block of the first mixer's rows. -/
theorem blk1_at (t : Fin cfg0.N) (i : Fin 512) (j : Fin 512) :
    (show FVec Ideal S512x512 .f32 from iblk m c 1 t) (ix2 i j) = at2 (mixA m c) (512 * t.val + i.val) j.val := by
  refine Eq.trans (b := mixA m c (ix2 ⟨512 * t.val + i.val, by have := (idx t).2.2.2.2.2.2.2; omega⟩ j)) ?_ (at2_ix _ _ _)
  unfold mixA
  blk_ext [iblk, V, idx t]

/-- A block of the second mixer's rows. -/
theorem blk2_at (t : Fin cfg0.N) (i : Fin 512) (j : Fin 512) :
    (show FVec Ideal S512x512 .f32 from iblk m c 2 t) (ix2 i j) = at2 (mixB m c) (512 * t.val + i.val) j.val := by
  refine Eq.trans (b := mixB m c (ix2 ⟨512 * t.val + i.val, by have := (idx t).2.2.2.2.2.2.2; omega⟩ j)) ?_ (at2_ix _ _ _)
  unfold mixB
  blk_ext [iblk, V, idx t]

/-- A block of the third mixer's rows. -/
theorem blk3_at (t : Fin cfg0.N) (i : Fin 512) (j : Fin 512) :
    (show FVec Ideal S512x512 .f32 from iblk m c 3 t) (ix2 i j) = at2 (mixC m c) (512 * t.val + i.val) j.val := by
  refine Eq.trans (b := mixC m c (ix2 ⟨512 * t.val + i.val, by have := (idx t).2.2.2.2.2.2.2; omega⟩ j)) ?_ (at2_ix _ _ _)
  unfold mixC
  blk_ext [iblk, V, idx t]

/-- A block of the fourth mixer's rows. -/
theorem blk4_at (t : Fin cfg0.N) (i : Fin 512) (j : Fin 512) :
    (show FVec Ideal S512x512 .f32 from iblk m c 4 t) (ix2 i j) = at2 (mixD m c) (512 * t.val + i.val) j.val := by
  refine Eq.trans (b := mixD m c (ix2 ⟨512 * t.val + i.val, by have := (idx t).2.2.2.2.2.2.2; omega⟩ j)) ?_ (at2_ix _ _ _)
  unfold mixD
  blk_ext [iblk, V, idx t]

/-- The weights as the host rounds them, in given contents. -/
def outV (W : Valuation τ sig (Elt Ideal)) : FVec Ideal S2x2048x2048 .bf16 := StableHlo.after [hostOps0].flatten W (Proc.tc.devRef main_v0)
/-- They are the weights. -/
theorem outV_at (W : Valuation τ sig (Elt Ideal)) (l : Fin 2) (k : Fin 2048) (j : Fin 2048) :
    outV W (ix3 l k j) = (show FVec Ideal S2x2048x2048 .f32 from W (Proc.tc.devRef main_arg5)) (ix3 l k j) := by
  unfold outV
  after_reads_simp
  pointwise

/-- The block of weights: the first layer's. -/
theorem blk5_at (t : Fin cfg0.N) (k : Fin 2048) (j : Fin 2048) :
    (show FVec Ideal S1x2048x2048 .bf16 from iblk m c 5 t) (ix3 0 k j) = at3 (outW m c) 0 k.val j.val := by
  refine Eq.trans (b := outV (fun b => m (c, b)) (ix3 0 k j)) ?_ ((outV_at _ _ _ _).trans (at3_ix (outW m c) 0 k j))
  blk_ext [iblk, idx t]

/-- What a point writes, of its blocks. -/
theorem out_at (X : FVec Ideal S512x2048 .f32) (A B C D : FVec Ideal S512x512 .f32) (W : FVec Ideal S1x2048x2048 .bf16) (i : Fin 512) (j : Fin 2048) :
    (show FVec Ideal S512x2048 .f32 from out0_6 (F := Ideal) X A B C D W) (ix2 i j) = X (ix2 i j) + ∑ k : Fin 512, A (ix2 i k) * W (ix3 0 ⟨k.val, by omega⟩ j)
      + ∑ k : Fin 512, B (ix2 i k) * W (ix3 0 ⟨512 + k.val, by omega⟩ j) + ∑ k : Fin 512, C (ix2 i k) * W (ix3 0 ⟨1024 + k.val, by omega⟩ j)
      + ∑ k : Fin 512, D (ix2 i k) * W (ix3 0 ⟨1536 + k.val, by omega⟩ j) := by
  unfold out0_6
  show View.canon _ (ix2 i j) = _
  rw [View.canon_unit_zero]
  pointwise [k0_pay1]
  funext x
  match x with
  | ⟨0, _⟩ => rfl
  | ⟨1, _⟩ => rfl

/-- After all points the result array holds the output projection. -/
theorem array_done4 : (dats m 0 c).arrAt 6 cfg0.N = result (resid m c) (mixA m c) (mixB m c) (mixC m c) (mixD m c) (outW m c) := by
  refine (dats m 0 c).arrAt_eq_of_covers 6 _ (by decide +kernel) fun t hf y => ?_
  blk_simp
  rw [after0_6]
  have e0 : (((win0_6.blk t).view.emb y) 0).val = 512 * t.val + (y 0).val :=
    (win0_6.rect_emb_val_off t y 0).trans (by rw [(idx t).2.2.2.2.2.2.1]; show t.val * 512 + (y 0).val = _; omega)
  have e1 : (((win0_6.blk t).view.emb y) 1).val = (y 1).val :=
    (win0_6.rect_emb_val_off t y 1).trans (by rw [(idx t).2.2.2.2.2.2.1]; show 0 * 2048 + (y 1).val = _; omega)
  refine Eq.trans (b := outF (resid m c) (mixA m c) (mixB m c) (mixC m c) (mixD m c) (outW m c) (512 * t.val + (y 0).val) (y 1).val) ?_
    (by rw [← e0, ← e1]; rfl)
  obtain ⟨i, j, rfl⟩ : ∃ (i : Fin 512) (j : Fin 2048), y = ix2 i j := ⟨y 0, y 1, (ix2_eta y).symm⟩
  refine (out_at _ _ _ _ _ _ i j).trans ((outF_parts _ _ _ _ _ _ _ _).symm ▸ ?_)
  exact congrArg₂ (· + ·) (congrArg₂ (· + ·) (congrArg₂ (· + ·) (congrArg₂ (· + ·) (blk0_at m c t i j)
    (Finset.sum_congr rfl fun k _ => congrArg₂ (· * ·) (blk1_at m c t i k) (blk5_at m c t _ j)))
    (Finset.sum_congr rfl fun k _ => congrArg₂ (· * ·) (blk2_at m c t i k) (blk5_at m c t _ j)))
    (Finset.sum_congr rfl fun k _ => congrArg₂ (· * ·) (blk3_at m c t i k) (blk5_at m c t _ j)))
    (Finset.sum_congr rfl fun k _ => congrArg₂ (· * ·) (blk4_at m c t i k) (blk5_at m c t _ j))

/-- The kernel runs, ends with the output projection of its arguments, and keeps them. -/
theorem run_ker4 (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h c).1.trans (array_done4 m c), (h c).2⟩) (Value.run_blocks m ρ)

end Cert.Proof.OutP
end
-- ==== Proof.SsdMath.lean ====
/-
  The state-space mixer written on extended reals, entry by entry: the short convolution, the time steps, the decays within a
  chunk, a chunk's own contribution to its rows and to the state, the state carried from chunk to chunk, and the gated and
  normalised output. Columns count the mixer's 512 channels, 64 a head, 256 a group. Both programs are read against these.
-/
module

public import proofs.«01_k».proof.Proof.RetMath

@[expose] public section

set_option maxRecDepth 16384

noncomputable section

namespace Cert.Proof.Ssd

open Idealize.ShloMosaic Idealize.ShloMosaic.Pointwise
open Cert.Proof.Ret (at2 at3 at2_ix at3_ix silu)

/-- The smooth positive part `log (1 + exp z)`. -/
def softp (z : EReal) : EReal := max z 0 + Ideal.log1p (Ideal.exp (-max z (-z)))

/-- One plus the exponential of a number that is not positive is a positive real. -/
theorem log1p_part (z : EReal) : ∃ a : ℝ, 0 ≤ a ∧ Ideal.log1p (Ideal.exp (-max z (-z))) = (a : EReal) := by
  have key : ∀ e : ℝ, 0 ≤ e → ∃ a : ℝ, 0 ≤ a ∧ Ideal.log1p (e : EReal) = (a : EReal) := fun e he => by
    refine ⟨Real.log (1 + e), Real.log_nonneg (by linarith), ?_⟩
    show Ideal.log (1 + (e : EReal)) = _
    rw [← EReal.coe_one, ← EReal.coe_add]
    show (if (1 + e : ℝ) ≤ 0 then (⊥ : EReal) else _) = _
    rw [if_neg (by linarith)]
  induction z with
  | bot =>
    have : Ideal.exp (-max (⊥ : EReal) (-⊥)) = ((0 : ℝ) : EReal) := by
      rw [show -max (⊥ : EReal) (-⊥) = ⊥ by simp]; rfl
    rw [this]; exact key 0 le_rfl
  | top =>
    have : Ideal.exp (-max (⊤ : EReal) (-⊤)) = ((0 : ℝ) : EReal) := by
      rw [show -max (⊤ : EReal) (-⊤) = ⊥ by simp]; rfl
    rw [this]; exact key 0 le_rfl
  | coe r =>
    have : Ideal.exp (-max (r : EReal) (-r)) = ((Real.exp (-max r (-r)) : ℝ) : EReal) := by
      rw [← EReal.coe_neg, ← EReal.coe_strictMono.monotone.map_max, ← EReal.coe_neg]; rfl
    rw [this]; exact key _ (Real.exp_nonneg _)

/-- The positive part is not negative. -/
theorem softp_nonneg (z : EReal) : 0 ≤ softp z := by
  obtain ⟨a, ha, e⟩ := log1p_part z
  unfold softp; rw [e]
  exact add_nonneg (le_max_right _ _) (by exact_mod_cast ha)

/-- An exponential is not negative. -/
theorem exp_nonneg (z : EReal) : 0 ≤ Ideal.exp z := by
  induction z with
  | bot => exact le_rfl
  | top => exact le_top
  | coe r =>
    show (0 : EReal) ≤ ((Real.exp r : ℝ) : EReal)
    exact_mod_cast (Real.exp_pos r).le

/-- What a number's three parts add up to: itself, but infinity turns into minus infinity. -/
def parts (x : EReal) : EReal := if x = ⊤ then ⊥ else x

/-- A number split in three parts by subtracting what was taken, added up again. -/
theorem three_sum (x : EReal) : 0 + x + (x - x) + ((x - x) - (x - x)) = parts x := by
  unfold parts
  induction x with
  | bot => simp
  | top => simp
  | coe r =>
    rw [if_neg (EReal.coe_ne_top r), zero_add, ← EReal.coe_sub, ← EReal.coe_sub, ← EReal.coe_add, ← EReal.coe_add]; congr 1; ring

/-- A number other than infinity adds up to itself. -/
theorem three_parts (x : EReal) (h : x ≠ ⊤) : 0 + x + (x - x) + ((x - x) - (x - x)) = x :=
  (three_sum x).trans (if_neg h)

/-- A sum that picks one entry by a factor of one, all others having the factor zero. -/
theorem sum_pick {n : ℕ} (f w : Fin n → EReal) (k : Fin n) (h1 : w k = 1) (h0 : ∀ i, i ≠ k → w i = 0) : ∑ i, f i * w i = f k := by
  rw [Finset.sum_eq_single k (fun i _ hi => by rw [h0 i hi, mul_zero]) (fun hk => absurd (Finset.mem_univ k) hk), h1, mul_one]

section
variable (A : FVec Ideal ⟨2, ![8192, 7168]⟩ .f32) (N : FVec Ideal ⟨3, ![2, 32, 1792]⟩ .f32)

/-- The convolution's input with three zero rows before the first. -/
def past (n j : ℕ) : EReal := if n < 3 then 0 else at2 A (n - 3) (3072 + j)

/-- The convolved, shifted and gated channels: inputs, then the input and output maps of the state. -/
def xbF (t j : ℕ) : EReal :=
  silu (past A t j * at3 N 0 8 j + past A (t + 1) j * at3 N 0 9 j + past A (t + 2) j * at3 N 0 10 j + past A (t + 3) j * at3 N 0 11 j
    + at3 N 0 12 j)
/-- The time step of a head. -/
def dtF (t h : ℕ) : EReal := softp (at2 A t (6784 + h) + at3 N 0 14 h)
/-- A head's decay rate. -/
def alF (h : ℕ) : EReal := -Ideal.exp (at3 N 0 13 h)
/-- The logarithm of the decay from the chunk's start to row `r`. -/
def gF (h n r : ℕ) : EReal := ∑ x : Fin 64, if x.val ≤ r then dtF A N (n * 64 + x.val) h * alF N h else 0
/-- The input map of the state. -/
def bF (g t s : ℕ) : EReal := xbF A N t (512 + 128 * g + s)
/-- The output map of the state. -/
def cF (g t s : ℕ) : EReal := xbF A N t (768 + 128 * g + s)
/-- An input times its time step, the step passed through `f`: the reference takes it as it is, the kernel adds its parts up. -/
def xdF (f : EReal → EReal) (t j : ℕ) : EReal := xbF A N t j * f (dtF A N t (j / 64))
/-- The decay between two rows of a chunk, zero above the diagonal. -/
def decF (h n r m : ℕ) : EReal := if m ≤ r then Ideal.exp (gF A N h n r - gF A N h n m) else 0
/-- The product of two rows' output and input maps. -/
def cbF (g n r m : ℕ) : EReal := ∑ s : Fin 128, cF A N g (n * 64 + r) s.val * bF A N g (n * 64 + m) s.val
/-- What the chunk's own rows contribute. -/
def intraF (f : EReal → EReal) (n r j : ℕ) : EReal :=
  ∑ m : Fin 64, cbF A N (j / 256) n r m.val * decF A N (j / 64) n r m.val * xdF A N f (n * 64 + m.val) j
/-- A chunk's contribution to the state. -/
def updF (f : EReal → EReal) (n s j : ℕ) : EReal :=
  ∑ m : Fin 64, bF A N (j / 256) (n * 64 + m.val) s
    * (xdF A N f (n * 64 + m.val) j * Ideal.exp (gF A N (j / 64) n 63 - gF A N (j / 64) n m.val))
/-- The state before chunk `n`. -/
def stF (f : EReal → EReal) : ℕ → ℕ → ℕ → EReal
  | 0, _, _ => 0
  | n + 1, s, j => stF f n s j * Ideal.exp (gF A N (j / 64) n 63) + updF A N f n s j
/-- The head's output. -/
def oF (f : EReal → EReal) (n r j : ℕ) : EReal :=
  intraF A N f n r j + (∑ s : Fin 128, cF A N (j / 256) (n * 64 + r) s.val * stF A N f n s.val j) * Ideal.exp (gF A N (j / 64) n r)
/-- With the direct term, gated. -/
def yF (f : EReal → EReal) (n r j : ℕ) : EReal :=
  (oF A N f n r j + at3 N 0 15 j * xbF A N (n * 64 + r) j) * silu (at2 A (n * 64 + r) (6144 + j))

/-- A row of 256 entries scaled to unit mean square, at entry `e`. -/
def normed (y : Fin 256 → EReal) (e : Fin 256) : EReal :=
  y e * Ideal.rsqrt (Ideal.div (∑ x : Fin 256, y x * y x) (Ideal.ofBits FTy.f32 1132462080#32) + Ideal.ofBits FTy.f32 897988541#32)

/-- The mixer's output at row `r` of chunk `n`, channel `e` of group `g`. -/
def outF (f : EReal → EReal) (g n r : ℕ) (e : Fin 256) : EReal :=
  normed (fun x => yF A N f n r (256 * g + x.val)) e * at3 N 0 16 (256 * g + e.val)

/-- The whole result. -/
def result (f : EReal → EReal) : FVec Ideal ⟨2, ![8192, 512]⟩ .f32 := fun j =>
  outF A N f ((j 1).val / 256) ((j 0).val / 64) ((j 0).val % 64) ⟨(j 1).val % 256, Nat.mod_lt _ (by omega)⟩

/-- One row's share of the decay's logarithm is not positive. -/
theorem step_nonpos (t h : ℕ) : dtF A N t h * alF N h ≤ 0 := by
  unfold alF
  rw [mul_neg, EReal.neg_le, neg_zero]
  exact mul_nonneg (softp_nonneg _) (exp_nonneg _)

/-- It is not infinity. -/
theorem step_ne_top (t h : ℕ) : dtF A N t h * alF N h ≠ ⊤ := ne_of_lt (lt_of_le_of_lt (step_nonpos A N t h) EReal.zero_lt_top)

/-- Nor is the decay's logarithm. -/
theorem gF_ne_top (h n r : ℕ) : gF A N h n r ≠ ⊤ := by
  refine ne_of_lt (lt_of_le_of_lt (Finset.sum_nonpos fun x _ => ?_) EReal.zero_lt_top)
  split
  · exact step_nonpos A N _ _
  · exact le_rfl

end

end Cert.Proof.Ssd
end
-- ==== Proof.SsdRef.lean ====
/-
  What each stretch of the reference's host program leaves before its loop, entry by entry, from any contents before it.
-/
module

public import proofs.«01_k».proof.Proof.SsdMath
public import proofs.«01_k».proof.Proof.Gen.Reference5Ideal.Run
public import Idealize.ShloMosaic.Lib.Tactic.CleanTypes
public import Idealize.ShloMosaic.Lib.StableHlo.RunClose

@[expose] public section

set_option maxRecDepth 16384

noncomputable section

namespace Cert.Proof.Ssd

open Idealize.ShloMosaic Idealize.ShloMosaic.TcCoe Idealize.ShloMosaic.StableHlo Idealize.ShloMosaic.Pointwise
open Cert.Reference5Ideal Cert.Reference5Ideal.Gen
open Cert.Proof.Ret (at2 at3 at2_ix at3_ix silu)

variable (V : Valuation τ sig (Elt Ideal))

/-- The first argument in given contents. -/
def proj : FVec Ideal S8192x7168 .f32 := V (Proc.devRef .tc main_arg0)
/-- The second argument. -/
def parm : FVec Ideal S2x32x1792 .f32 := V (Proc.devRef .tc main_arg1)
/-- The gate's input. -/
def zV : FVec Ideal S8192x512 .f32 := V (Proc.devRef .tc main_v0)
/-- The time steps' columns. -/
def rawV : FVec Ideal S8192x8 .f32 := V (Proc.devRef .tc main_v2)
/-- The mask's filler. -/
def botV : FVec Ideal S_ .f32 := V (Proc.devRef .tc main_cst_0)
/-- The convolution's weights. -/
def cwV : FVec Ideal S4x1024 .f32 := V (Proc.devRef .tc main_v4)
/-- Its shift. -/
def cbV : FVec Ideal S1024 .f32 := V (Proc.devRef .tc main_v6)
/-- The logarithms of the decay rates. -/
def alV : FVec Ideal S8 .f32 := V (Proc.devRef .tc main_v8)
/-- The time steps' shift. -/
def dbV : FVec Ideal S8 .f32 := V (Proc.devRef .tc main_v10)
/-- The direct term's weights. -/
def dV : FVec Ideal S512 .f32 := V (Proc.devRef .tc main_v12)
/-- The norm's weights. -/
def nwV : FVec Ideal S512 .f32 := V (Proc.devRef .tc main_v14)
/-- The convolution's input below three zero rows. -/
def padV : FVec Ideal S8195x1024 .f32 := V (Proc.devRef .tc main_v15)
/-- The convolution. -/
def convV : FVec Ideal S8192x1024 .f32 := V (Proc.devRef .tc main_v47)
/-- The convolved and gated channels. -/
def xbV : FVec Ideal S8192x1024 .f32 := V (Proc.devRef .tc main_v48)
/-- The inputs by heads. -/
def xV : FVec Ideal S8192x8x64 .f32 := V (Proc.devRef .tc main_v52)
/-- The input maps. -/
def bV : FVec Ideal S8192x256 .f32 := V (Proc.devRef .tc main_v50)
/-- The output maps. -/
def cV : FVec Ideal S8192x256 .f32 := V (Proc.devRef .tc main_v51)
/-- The time steps' arguments. -/
def argV : FVec Ideal S8192x8 .f32 := V (Proc.devRef .tc main_v55)
/-- The time steps. -/
def dtV : FVec Ideal S8192x8 .f32 := V (Proc.devRef .tc main_v56)
/-- The input maps by groups. -/
def b3V : FVec Ideal S8192x2x128 .f32 := V (Proc.devRef .tc main_v59)
/-- The output maps by groups. -/
def c3V : FVec Ideal S8192x2x128 .f32 := V (Proc.devRef .tc main_v60)
/-- The inputs by chunks. -/
def xcV : FVec Ideal S2x4x128x64x64 .f32 := V (Proc.devRef .tc main_v62)
/-- The time steps by chunks. -/
def dtcV : FVec Ideal S2x4x128x64 .f32 := V (Proc.devRef .tc main_v64)
/-- The rows' log decays by chunks. -/
def lgV : FVec Ideal S2x4x128x64 .f32 := V (Proc.devRef .tc main_v69)
/-- Their sums from the chunk's start. -/
def gV : FVec Ideal S2x4x128x64 .f32 := V (Proc.devRef .tc main_v70)
/-- The input maps by chunks. -/
def bcV : FVec Ideal S2x128x64x128 .f32 := V (Proc.devRef .tc main_v72)
/-- The output maps by chunks. -/
def ccV : FVec Ideal S2x128x64x128 .f32 := V (Proc.devRef .tc main_v74)
/-- Which row is at or after which. -/
def ltV : IVec S64x64 1 := V (Proc.devRef .tc main_v80)
/-- The rows' differences of log decays. -/
def difV : FVec Ideal S2x4x128x64x64 .f32 := V (Proc.devRef .tc main_v85)
/-- The same, masked. -/
def mskV : FVec Ideal S2x4x128x64x64 .f32 := V (Proc.devRef .tc main_v86)
/-- What the chunks' own rows contribute. -/
def intraV : FVec Ideal S2x4x128x64x64 .f32 := V (Proc.devRef .tc main_v95)
/-- The chunks' contributions to the state. -/
def updV : FVec Ideal S128x2x4x128x64 .f32 := V (Proc.devRef .tc main_v112_0)
/-- The chunks' log decays. -/
def lastV : FVec Ideal S128x2x4 .f32 := V (Proc.devRef .tc main_v112_1)
/-- The carried state. -/
def st0V : FVec Ideal S2x4x128x64 .f32 := V (Proc.devRef .tc main_v112_3)
/-- The stacked states. -/
def stackV : FVec Ideal S128x2x4x128x64 .f32 := V (Proc.devRef .tc main_v112_4)

/-- The integer zero is the number zero. -/
theorem zero_word : FloatOps.sitofp (F := Ideal) FTy.f32 0#32 = (0 : EReal) := by
  show (((0#32 : BitVec 32).toInt : ℝ) : EReal) = 0
  rw [show (0#32 : BitVec 32).toInt = 0 from rfl]
  simp

/-- Comparing two rows' positions. -/
theorem at_or_after : ∀ r m : Fin 64, IntOp.cmpi CmpIPredicate.sge (BitVec.ofNat 32 r.val) (BitVec.ofNat 32 m.val) = BitVec.ofBool (decide (m ≤ r)) := by
  decide +kernel

/-- Adding up a list onto a start. -/
theorem fold_add {n : ℕ} (f : Fin n → EReal) : ∀ (l : List (Fin n)) (v : EReal), l.foldl (fun r k => r + f k) v = v + (l.map f).sum
  | [], v => by simp
  | a :: l, v => by rw [List.foldl_cons, fold_add f l, List.map_cons, List.sum_cons, add_assoc]

/-- A window of 64 rows ending at row `r` adds up the rows up to `r`. -/
theorem window_sum (X : Fin 64 → EReal) (r : Fin 64) :
    ∑ k : Fin 64, (if h : 63 ≤ r.val + k.val then X ⟨r.val + k.val - 63, by omega⟩ else 0) = ∑ x : Fin 64, if x.val ≤ r.val then X x else 0 := by
  refine Fintype.sum_equiv (Equiv.addRight (r + 1)) _ _ fun k => ?_
  have e : (Equiv.addRight (r + 1) k).val = (k.val + (r.val + 1) % 64) % 64 := by
    show (k + (r + 1) : Fin 64).val = _
    rw [Fin.val_add, Fin.val_add]
    rfl
  by_cases h : 63 ≤ r.val + k.val
  · rw [dif_pos h, if_pos (by rw [e]; omega)]
    exact congrArg X (Fin.ext (by rw [e]; show r.val + k.val - 63 = _; omega))
  · rw [dif_neg h, if_neg (by rw [e]; omega)]

/-- A window's sum from zero, as a sum over its positions. -/
theorem window_fold {s t : Shape} (window strides lo hi : Fin s.rank → ℕ) (x : s.Idx → EReal) (h : s.ReduceWindows window strides lo hi t)
    (hu : 0 < (⟨0, ![]⟩ : Shape).numel) (j : t.Idx) :
    Host.reduceWindow (· + ·) window strides lo hi x (fun _ : (⟨0, ![]⟩ : Shape).Idx => (0 : EReal)) h hu j
      = ∑ n : Fin (⟨s.rank, window⟩ : Shape).numel,
        if hin : ∀ a : Fin s.rank, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a, (hin a).2⟩) else 0 := by
  unfold Host.reduceWindow
  exact (fold_add _ _ _).trans (by rw [zero_add, ← Fin.sum_univ_def]; exact Finset.sum_congr rfl fun _ _ => by congr)

/-- The rows of the running sums' window. -/
theorem window_row : ∀ n : Fin 64, (((⟨4, ![1, 1, 1, 64]⟩ : Shape).rowMajor.symm n) 3).val = n.val := by
  decide +kernel

/-- The running sums along the last axis. -/
theorem running (x : FVec Ideal S2x4x128x64 .f32) (v : FVec Ideal S_ .f32) (hv : v ix0 = 0) (g : Fin 2) (u : Fin 4) (n : Fin 128) (r : Fin 64) :
    Host.reduceWindowAdd ![1, 1, 1, 64] ![1, 1, 1, 1] ![0, 0, 0, 63] ![0, 0, 0, 0] x v reduceWindows_S2x4x128x64_S2x4x128x64_w1s1p0_0_w1s1p0_0_w1s1p0_0_w64s1p63_0 h_S_ (ix4 g u n r)
      = ∑ k : Fin 64, if k.val ≤ r.val then x (ix4 g u n k) else 0 := by
  rw [← window_sum]
  unfold Host.reduceWindowAdd
  have hv' : v (Shape.Idx.first h_S_) = 0 := (congrArg v (funext fun a => a.elim0)).trans hv
  rw [hv']
  refine (window_fold ![1, 1, 1, 64] ![1, 1, 1, 1] ![0, 0, 0, 63] ![0, 0, 0, 0] x reduceWindows_S2x4x128x64_S2x4x128x64_w1s1p0_0_w1s1p0_0_w1s1p0_0_w64s1p63_0 (by decide) (ix4 g u n r)).trans ?_
  refine Finset.sum_congr (rfl : (Finset.univ : Finset (Fin 64)) = Finset.univ) fun k _ => ?_
  have hk : k.val < 64 := k.isLt
  have k3 : (((⟨4, ![1, 1, 1, 64]⟩ : Shape).rowMajor.symm k) 3).val = k.val := window_row k
  have k0 : (((⟨4, ![1, 1, 1, 64]⟩ : Shape).rowMajor.symm k) 0).val = 0 := Nat.lt_one_iff.mp (((⟨4, ![1, 1, 1, 64]⟩ : Shape).rowMajor.symm k) 0).isLt
  have k1 : (((⟨4, ![1, 1, 1, 64]⟩ : Shape).rowMajor.symm k) 1).val = 0 := Nat.lt_one_iff.mp (((⟨4, ![1, 1, 1, 64]⟩ : Shape).rowMajor.symm k) 1).isLt
  have k2 : (((⟨4, ![1, 1, 1, 64]⟩ : Shape).rowMajor.symm k) 2).val = 0 := Nat.lt_one_iff.mp (((⟨4, ![1, 1, 1, 64]⟩ : Shape).rowMajor.symm k) 2).isLt
  by_cases h : 63 ≤ r.val + k.val
  · rw [dif_pos h]
    refine (dif_pos fun a => ?_).trans (congrArg x (funext fun a => Fin.ext ?_))
    · fin_cases a
      · exact ⟨Nat.zero_le _, by show g.val * 1 + (((⟨4, ![1, 1, 1, 64]⟩ : Shape).rowMajor.symm k) 0).val - 0 < 2; omega⟩
      · exact ⟨Nat.zero_le _, by show u.val * 1 + (((⟨4, ![1, 1, 1, 64]⟩ : Shape).rowMajor.symm k) 1).val - 0 < 4; omega⟩
      · exact ⟨Nat.zero_le _, by show n.val * 1 + (((⟨4, ![1, 1, 1, 64]⟩ : Shape).rowMajor.symm k) 2).val - 0 < 128; omega⟩
      · exact ⟨by show 63 ≤ r.val * 1 + (((⟨4, ![1, 1, 1, 64]⟩ : Shape).rowMajor.symm k) 3).val; omega,
          by show r.val * 1 + (((⟨4, ![1, 1, 1, 64]⟩ : Shape).rowMajor.symm k) 3).val - 63 < 64; omega⟩
    · fin_cases a
      · show g.val * 1 + (((⟨4, ![1, 1, 1, 64]⟩ : Shape).rowMajor.symm k) 0).val - 0 = g.val
        omega
      · show u.val * 1 + (((⟨4, ![1, 1, 1, 64]⟩ : Shape).rowMajor.symm k) 1).val - 0 = u.val
        omega
      · show n.val * 1 + (((⟨4, ![1, 1, 1, 64]⟩ : Shape).rowMajor.symm k) 2).val - 0 = n.val
        omega
      · show r.val * 1 + (((⟨4, ![1, 1, 1, 64]⟩ : Shape).rowMajor.symm k) 3).val - 63 = r.val + k.val - 63
        omega
  · rw [dif_neg h]
    refine dif_neg fun q => h ?_
    have q3 : 63 ≤ r.val * 1 + (((⟨4, ![1, 1, 1, 64]⟩ : Shape).rowMajor.symm k) 3).val := (q 3).1
    omega
/-- The padded input. -/
theorem one_pad (n : Fin 8195) (j : Fin 1024) : padV (after hostOps0_1 (after hostOps0 V)) (ix2 n j) = past (proj V) n.val j.val := by
  unfold padV
  after_reads_simp
  (try simp only [TRef.toBuf, TRef.ofBuf, TRef.of, cast_eq, id_eq])
  pointwise
  unfold past
  by_cases h : 3 ≤ n.val
  · rw [dif_pos ⟨h, by omega⟩, if_neg (by omega)]
    exact at2_ix (proj V) _ _
  · rw [dif_neg (fun q => h q.1), if_pos (by omega)]
    exact zero_word

/-- The weights. -/
theorem one_cw (k : Fin 4) (j : Fin 1024) : cwV (after hostOps0_1 (after hostOps0 V)) (ix2 k j) = at3 (parm V) 0 (8 + k.val) j.val := by
  unfold cwV
  after_reads_simp
  (try simp only [TRef.toBuf, TRef.ofBuf, TRef.of, cast_eq, id_eq])
  pointwise
  exact at3_ix (parm V) _ _ _

/-- The shift. -/
theorem one_cb (j : Fin 1024) : cbV (after hostOps0_1 (after hostOps0 V)) (ix1 j) = at3 (parm V) 0 12 j.val := by
  unfold cbV
  after_reads_simp
  (try simp only [TRef.toBuf, TRef.ofBuf, TRef.of, cast_eq, id_eq])
  pointwise
  exact at3_ix (parm V) _ _ _

/-- The decay rates' logarithms. -/
theorem one_al (j : Fin 8) : alV (after hostOps0_1 (after hostOps0 V)) (ix1 j) = at3 (parm V) 0 13 j.val := by
  unfold alV
  after_reads_simp
  (try simp only [TRef.toBuf, TRef.ofBuf, TRef.of, cast_eq, id_eq])
  pointwise
  exact at3_ix (parm V) _ _ _

/-- The time steps' shift. -/
theorem one_db (j : Fin 8) : dbV (after hostOps0_1 (after hostOps0 V)) (ix1 j) = at3 (parm V) 0 14 j.val := by
  unfold dbV
  after_reads_simp
  (try simp only [TRef.toBuf, TRef.ofBuf, TRef.of, cast_eq, id_eq])
  pointwise
  exact at3_ix (parm V) _ _ _

/-- The direct term's weights. -/
theorem one_d (j : Fin 512) : dV (after hostOps0_1 (after hostOps0 V)) (ix1 j) = at3 (parm V) 0 15 j.val := by
  unfold dV
  after_reads_simp
  (try simp only [TRef.toBuf, TRef.ofBuf, TRef.of, cast_eq, id_eq])
  pointwise
  exact at3_ix (parm V) _ _ _

/-- The norm's weights. -/
theorem one_nw (j : Fin 512) : nwV (after hostOps0_1 (after hostOps0 V)) (ix1 j) = at3 (parm V) 0 16 j.val := by
  unfold nwV
  after_reads_simp
  (try simp only [TRef.toBuf, TRef.ofBuf, TRef.of, cast_eq, id_eq])
  pointwise
  exact at3_ix (parm V) _ _ _

/-- The gate's input. -/
theorem one_z (t : Fin 8192) (j : Fin 512) : zV (after hostOps0_1 (after hostOps0 V)) (ix2 t j) = at2 (proj V) t.val (6144 + j.val) := by
  unfold zV
  after_reads_simp
  (try simp only [TRef.toBuf, TRef.ofBuf, TRef.of, cast_eq, id_eq])
  pointwise
  exact at2_ix (proj V) _ _

/-- The time steps' columns. -/
theorem one_raw (t : Fin 8192) (j : Fin 8) : rawV (after hostOps0_1 (after hostOps0 V)) (ix2 t j) = at2 (proj V) t.val (6784 + j.val) := by
  unfold rawV
  after_reads_simp
  (try simp only [TRef.toBuf, TRef.ofBuf, TRef.of, cast_eq, id_eq])
  pointwise
  exact at2_ix (proj V) _ _

/-- The convolution, four shifted products and the shift. -/
theorem two_conv (t : Fin 8192) (j : Fin 1024) : convV (after hostOps0_2 V) (ix2 t j) = padV V (ix2 ⟨t.val, by omega⟩ j) * cwV V (ix2 0 j) + padV V (ix2 ⟨1 + t.val, by omega⟩ j) * cwV V (ix2 1 j) + padV V (ix2 ⟨2 + t.val, by omega⟩ j) * cwV V (ix2 2 j) + padV V (ix2 ⟨3 + t.val, by omega⟩ j) * cwV V (ix2 3 j) + cbV V (ix1 j) := by
  unfold convV
  after_reads_simp
  (try simp only [TRef.toBuf, TRef.ofBuf, TRef.of, cast_eq, id_eq])
  pointwise
  rfl

/-- Gated. -/
theorem three_gate (t : Fin 8192) (j : Fin 1024) : xbV (after hostOps0_3 V) (ix2 t j) = silu (convV V (ix2 t j)) := by
  unfold xbV
  after_reads_simp
  (try simp only [TRef.toBuf, TRef.ofBuf, TRef.of, cast_eq, id_eq])
  pointwise
  rfl

/-- The inputs by heads. -/
theorem four_x (t : Fin 8192) (h : Fin 8) (d : Fin 64) : xV (after hostOps0_4 V) (ix3 t h d) = xbV V (ix2 t ⟨h.val * 64 + d.val, by omega⟩) := by
  unfold xV
  after_reads_simp
  (try simp only [TRef.toBuf, TRef.ofBuf, TRef.of, cast_eq, id_eq])
  pointwise
  rfl

/-- The input maps. -/
theorem four_b (t : Fin 8192) (j : Fin 256) : bV (after hostOps0_4 V) (ix2 t j) = xbV V (ix2 t ⟨512 + j.val, by omega⟩) := by
  unfold bV
  after_reads_simp
  (try simp only [TRef.toBuf, TRef.ofBuf, TRef.of, cast_eq, id_eq])
  pointwise
  rfl

/-- The output maps. -/
theorem four_c (t : Fin 8192) (j : Fin 256) : cV (after hostOps0_4 V) (ix2 t j) = xbV V (ix2 t ⟨768 + j.val, by omega⟩) := by
  unfold cV
  after_reads_simp
  (try simp only [TRef.toBuf, TRef.ofBuf, TRef.of, cast_eq, id_eq])
  pointwise
  rfl

/-- The time steps' arguments. -/
theorem four_arg (t : Fin 8192) (h : Fin 8) : argV (after hostOps0_4 V) (ix2 t h) = rawV V (ix2 t h) + dbV V (ix1 h) := by
  unfold argV
  after_reads_simp
  (try simp only [TRef.toBuf, TRef.ofBuf, TRef.of, cast_eq, id_eq])
  pointwise
  rfl

/-- The time steps. -/
theorem five_dt (t : Fin 8192) (h : Fin 8) : dtV (after hostOps0_5 V) (ix2 t h) = softp (argV V (ix2 t h)) := by
  unfold dtV
  after_reads_simp
  (try simp only [TRef.toBuf, TRef.ofBuf, TRef.of, cast_eq, id_eq])
  pointwise
  exact (if_neg (not_not.mpr rfl)).trans rfl

/-- The inputs by chunks. -/
theorem six_xc (g : Fin 2) (u : Fin 4) (n : Fin 128) (r : Fin 64) (d : Fin 64) : xcV (after hostOps0_6 V) (ix5 g u n r d) = xV V (ix3 ⟨n.val * 64 + r.val, by omega⟩ ⟨g.val * 4 + u.val, by omega⟩ d) := by
  unfold xcV
  after_reads_simp
  (try simp only [TRef.toBuf, TRef.ofBuf, TRef.of, cast_eq, id_eq])
  pointwise
  rfl

/-- The time steps by chunks. -/
theorem six_dtc (g : Fin 2) (u : Fin 4) (n : Fin 128) (r : Fin 64) : dtcV (after hostOps0_6 V) (ix4 g u n r) = dtV V (ix2 ⟨n.val * 64 + r.val, by omega⟩ ⟨g.val * 4 + u.val, by omega⟩) := by
  unfold dtcV
  after_reads_simp
  (try simp only [TRef.toBuf, TRef.ofBuf, TRef.of, cast_eq, id_eq])
  pointwise
  rfl

/-- The rows' log decays by chunks. -/
theorem six_lg (g : Fin 2) (u : Fin 4) (n : Fin 128) (r : Fin 64) : lgV (after hostOps0_6 V) (ix4 g u n r) = dtV V (ix2 ⟨n.val * 64 + r.val, by omega⟩ ⟨g.val * 4 + u.val, by omega⟩) * -Ideal.exp (alV V (ix1 ⟨g.val * 4 + u.val, by omega⟩)) := by
  unfold lgV
  after_reads_simp
  (try simp only [TRef.toBuf, TRef.ofBuf, TRef.of, cast_eq, id_eq])
  pointwise
  rfl

/-- The input maps by groups. -/
theorem six_b (t : Fin 8192) (g : Fin 2) (s : Fin 128) : b3V (after hostOps0_6 V) (ix3 t g s) = bV V (ix2 t ⟨g.val * 128 + s.val, by omega⟩) := by
  unfold b3V
  after_reads_simp
  (try simp only [TRef.toBuf, TRef.ofBuf, TRef.of, cast_eq, id_eq])
  pointwise
  rfl

/-- The output maps by groups. -/
theorem six_c (t : Fin 8192) (g : Fin 2) (s : Fin 128) : c3V (after hostOps0_6 V) (ix3 t g s) = cV V (ix2 t ⟨g.val * 128 + s.val, by omega⟩) := by
  unfold c3V
  after_reads_simp
  (try simp only [TRef.toBuf, TRef.ofBuf, TRef.of, cast_eq, id_eq])
  pointwise
  rfl

/-- The decays' logarithms from the chunk's start. -/
theorem seven_g (g : Fin 2) (u : Fin 4) (n : Fin 128) (r : Fin 64) : gV (after hostOps0_7 V) (ix4 g u n r) = ∑ k : Fin 64, if k.val ≤ r.val then lgV V (ix4 g u n k) else 0 := by
  unfold gV
  after_reads_simp
  (try simp only [TRef.toBuf, TRef.ofBuf, TRef.of, cast_eq, id_eq])
  refine running _ _ ?_ g u n r
  pointwise

/-- The mask's filler is minus infinity. -/
theorem eight_bot  : botV (after hostOps0_8 V) ix0 = ⊥ := by
  unfold botV
  after_reads_simp
  (try simp only [TRef.toBuf, TRef.ofBuf, TRef.of, cast_eq, id_eq])
  pointwise
  exact Cert.Proof.Ret.word_neg_inf

/-- The input maps by chunks. -/
theorem eight_bc (g : Fin 2) (n : Fin 128) (r : Fin 64) (s : Fin 128) : bcV (after hostOps0_8 V) (ix4 g n r s) = b3V V (ix3 ⟨n.val * 64 + r.val, by omega⟩ g s) := by
  unfold bcV
  after_reads_simp
  (try simp only [TRef.toBuf, TRef.ofBuf, TRef.of, cast_eq, id_eq])
  pointwise
  rfl

/-- The output maps by chunks. -/
theorem eight_cc (g : Fin 2) (n : Fin 128) (r : Fin 64) (s : Fin 128) : ccV (after hostOps0_8 V) (ix4 g n r s) = c3V V (ix3 ⟨n.val * 64 + r.val, by omega⟩ g s) := by
  unfold ccV
  after_reads_simp
  (try simp only [TRef.toBuf, TRef.ofBuf, TRef.of, cast_eq, id_eq])
  pointwise
  rfl

/-- The mask. -/
theorem eight_lt (r m : Fin 64) : ltV (after hostOps0_8 V) (ix2 r m) = BitVec.ofBool (decide (m ≤ r)) := by
  unfold ltV
  after_reads_simp
  (try simp only [TRef.toBuf, TRef.ofBuf, TRef.of, cast_eq, id_eq])
  pointwise
  exact at_or_after r m

/-- The differences. -/
theorem eight_dif (g : Fin 2) (u : Fin 4) (n : Fin 128) (r : Fin 64) (m : Fin 64) : difV (after hostOps0_8 V) (ix5 g u n r m) = gV V (ix4 g u n r) - gV V (ix4 g u n m) := by
  unfold difV
  after_reads_simp
  (try simp only [TRef.toBuf, TRef.ofBuf, TRef.of, cast_eq, id_eq])
  pointwise
  rfl

/-- Masked. -/
theorem nine_msk (g : Fin 2) (u : Fin 4) (n : Fin 128) (r : Fin 64) (m : Fin 64) : mskV (after hostOps0_9 V) (ix5 g u n r m) = if ltV V (ix2 r m) = 1 then difV V (ix5 g u n r m) else botV V ix0 := by
  unfold mskV
  after_reads_simp
  (try simp only [TRef.toBuf, TRef.ofBuf, TRef.of, cast_eq, id_eq])
  pointwise
  unfold Scalar.select
  rfl

/-- The chunks' own rows. -/
theorem ten_intra (g : Fin 2) (u : Fin 4) (n : Fin 128) (r : Fin 64) (e : Fin 64) : intraV (after hostOps0_10 V) (ix5 g u n r e) = ∑ m : Fin 64, (∑ s : Fin 128, ccV V (ix4 g n r s) * bcV V (ix4 g n m s)) * Ideal.exp (mskV V (ix5 g u n r m)) * dtcV V (ix4 g u n m) * xcV V (ix5 g u n m e) := by
  unfold intraV
  after_reads_simp
  (try simp only [TRef.toBuf, TRef.ofBuf, TRef.of, cast_eq, id_eq])
  pointwise
  rfl

/-- The contributions to the state. -/
theorem ten_upd (n : Fin 128) (g : Fin 2) (u : Fin 4) (s : Fin 128) (e : Fin 64) : updV (after hostOps0_10 V) (ix5 n g u s e) = ∑ m : Fin 64, xcV V (ix5 g u n m e) * (Ideal.exp (gV V (ix4 g u n 63) - gV V (ix4 g u n m)) * dtcV V (ix4 g u n m)) * bcV V (ix4 g n m s) := by
  unfold updV
  after_reads_simp
  (try simp only [TRef.toBuf, TRef.ofBuf, TRef.of, cast_eq, id_eq])
  pointwise
  rfl

/-- The chunks' log decays. -/
theorem ten_last (n : Fin 128) (g : Fin 2) (u : Fin 4) : lastV (after hostOps0_10 V) (ix3 n g u) = gV V (ix4 g u n 63) := by
  unfold lastV
  after_reads_simp
  (try simp only [TRef.toBuf, TRef.ofBuf, TRef.of, cast_eq, id_eq])
  pointwise
  rfl

/-- The first state. -/
theorem ten_st (g : Fin 2) (u : Fin 4) (s : Fin 128) (e : Fin 64) : st0V (after hostOps0_10 V) (ix4 g u s e) = 0 := by
  unfold st0V
  after_reads_simp
  (try simp only [TRef.toBuf, TRef.ofBuf, TRef.of, cast_eq, id_eq])
  pointwise

end Cert.Proof.Ssd
end
-- ==== Proof.SsdEntry.lean ====
/-
  The reference before its loop: each buffer the loop and the last stretches read is the mixer's array, entry by entry.
-/
module

public import proofs.«01_k».proof.Proof.SsdRef

@[expose] public section

set_option maxRecDepth 16384

noncomputable section

namespace Cert.Proof.Ssd

open Idealize.ShloMosaic Idealize.ShloMosaic.TcCoe Idealize.ShloMosaic.StableHlo Idealize.ShloMosaic.Pointwise
open Cert.Reference5Ideal Cert.Reference5Ideal.Gen Cert.Reference5Ideal.Value
open Cert.Proof.Ret (at2 at3 at2_ix at3_ix silu)

variable (V : Valuation τ sig (Elt Ideal))

/-- The contents after the first two stretches. -/
abbrev A1 : Valuation τ sig (Elt Ideal) := after hostOps0_1 (after hostOps0 V)
/-- The contents after the first three stretches. -/
abbrev A2 : Valuation τ sig (Elt Ideal) := after hostOps0_2 (A1 V)
/-- The contents after the first four stretches. -/
abbrev A3 : Valuation τ sig (Elt Ideal) := after hostOps0_3 (A2 V)
/-- The contents after the first five stretches. -/
abbrev A4 : Valuation τ sig (Elt Ideal) := after hostOps0_4 (A3 V)
/-- The contents after the first six stretches. -/
abbrev A5 : Valuation τ sig (Elt Ideal) := after hostOps0_5 (A4 V)
/-- The contents after the first seven stretches. -/
abbrev A6 : Valuation τ sig (Elt Ideal) := after hostOps0_6 (A5 V)
/-- The contents after the first eight stretches. -/
abbrev A7 : Valuation τ sig (Elt Ideal) := after hostOps0_7 (A6 V)
/-- The contents after the first nine stretches. -/
abbrev A8 : Valuation τ sig (Elt Ideal) := after hostOps0_8 (A7 V)
/-- The contents after the first ten stretches. -/
abbrev A9 : Valuation τ sig (Elt Ideal) := after hostOps0_9 (A8 V)
/-- A buffer stretch 3 does not write. -/
theorem keep2 (r : Ref sig .tc) (h : r ∉ hostOps0_2_W) : A2 V (Proc.devRef .tc r) = A1 V (Proc.devRef .tc r) :=
  after_of_writes_sub hostOps0_2 _ hostOps0_2_writes h
/-- A buffer stretch 4 does not write. -/
theorem keep3 (r : Ref sig .tc) (h : r ∉ hostOps0_3_W) : A3 V (Proc.devRef .tc r) = A2 V (Proc.devRef .tc r) :=
  after_of_writes_sub hostOps0_3 _ hostOps0_3_writes h
/-- A buffer stretch 5 does not write. -/
theorem keep4 (r : Ref sig .tc) (h : r ∉ hostOps0_4_W) : A4 V (Proc.devRef .tc r) = A3 V (Proc.devRef .tc r) :=
  after_of_writes_sub hostOps0_4 _ hostOps0_4_writes h
/-- A buffer stretch 6 does not write. -/
theorem keep5 (r : Ref sig .tc) (h : r ∉ hostOps0_5_W) : A5 V (Proc.devRef .tc r) = A4 V (Proc.devRef .tc r) :=
  after_of_writes_sub hostOps0_5 _ hostOps0_5_writes h
/-- A buffer stretch 7 does not write. -/
theorem keep6 (r : Ref sig .tc) (h : r ∉ hostOps0_6_W) : A6 V (Proc.devRef .tc r) = A5 V (Proc.devRef .tc r) :=
  after_of_writes_sub hostOps0_6 _ hostOps0_6_writes h
/-- A buffer stretch 8 does not write. -/
theorem keep7 (r : Ref sig .tc) (h : r ∉ hostOps0_7_W) : A7 V (Proc.devRef .tc r) = A6 V (Proc.devRef .tc r) :=
  after_of_writes_sub hostOps0_7 _ hostOps0_7_writes h
/-- A buffer stretch 9 does not write. -/
theorem keep8 (r : Ref sig .tc) (h : r ∉ hostOps0_8_W) : A8 V (Proc.devRef .tc r) = A7 V (Proc.devRef .tc r) :=
  after_of_writes_sub hostOps0_8 _ hostOps0_8_writes h
/-- A buffer stretch 10 does not write. -/
theorem keep9 (r : Ref sig .tc) (h : r ∉ hostOps0_9_W) : A9 V (Proc.devRef .tc r) = A8 V (Proc.devRef .tc r) :=
  after_of_writes_sub hostOps0_9 _ hostOps0_9_writes h

/-- The gated channels. -/
theorem chan (t : Fin 8192) (j : Fin 1024) : xbV (A3 V) (ix2 t j) = xbF (proj V) (parm V) t.val j.val := by
  refine (three_gate _ t j).trans (congrArg silu ?_)
  refine (two_conv _ t j).trans ?_
  rw [one_pad, one_pad, one_pad, one_pad, one_cw, one_cw, one_cw, one_cw, one_cb]
  show past _ t.val _ * _ + past _ (1 + t.val) _ * _ + past _ (2 + t.val) _ * _ + past _ (3 + t.val) _ * _ + _ = _
  rw [Nat.add_comm 1, Nat.add_comm 2, Nat.add_comm 3]
  rfl
/-- The inputs by heads. -/
theorem heads (t : Fin 8192) (h : Fin 8) (d : Fin 64) : xV (A4 V) (ix3 t h d) = xbF (proj V) (parm V) t.val (h.val * 64 + d.val) :=
  (four_x _ t h d).trans (chan V t _)
/-- The time steps. -/
theorem steps (t : Fin 8192) (h : Fin 8) : dtV (A5 V) (ix2 t h) = dtF (proj V) (parm V) t.val h.val := by
  refine (five_dt _ t h).trans (congrArg softp ?_)
  refine (four_arg _ t h).trans (congrArg₂ (· + ·) ?_ ?_)
  · exact (congrFun ((keep3 V main_v2 (by decide)).trans (keep2 V main_v2 (by decide))) _).trans (one_raw V t h)
  · exact (congrFun ((keep3 V main_v10 (by decide)).trans (keep2 V main_v10 (by decide))) _).trans (one_db V h)
/-- The rows' log decays. -/
theorem logs (g : Fin 2) (u : Fin 4) (n : Fin 128) (r : Fin 64) : lgV (A6 V) (ix4 g u n r) = dtF (proj V) (parm V) (n.val * 64 + r.val) (g.val * 4 + u.val) * alF (parm V) (g.val * 4 + u.val) := by
  refine (six_lg _ g u n r).trans (congrArg₂ (· * ·) (steps V _ _) (congrArg (fun z => -Ideal.exp z) ?_))
  exact (congrFun ((keep5 V main_v8 (by decide)).trans ((keep4 V main_v8 (by decide)).trans ((keep3 V main_v8 (by decide)).trans (keep2 V main_v8 (by decide))))) _).trans (one_al V _)
/-- Their sums. -/
theorem sums (g : Fin 2) (u : Fin 4) (n : Fin 128) (r : Fin 64) : gV (A7 V) (ix4 g u n r) = gF (proj V) (parm V) (g.val * 4 + u.val) n.val r.val := by
  refine (seven_g _ g u n r).trans (Finset.sum_congr rfl fun k _ => ?_)
  rw [logs]
/-- The same later. -/
theorem sums9 (g : Fin 2) (u : Fin 4) (n : Fin 128) (r : Fin 64) : gV (A9 V) (ix4 g u n r) = gF (proj V) (parm V) (g.val * 4 + u.val) n.val r.val :=
  (congrFun ((keep9 V main_v70 (by decide)).trans (keep8 V main_v70 (by decide))) _).trans (sums V g u n r)
/-- The inputs by chunks. -/
theorem inputs9 (g : Fin 2) (u : Fin 4) (n : Fin 128) (r : Fin 64) (d : Fin 64) : xcV (A9 V) (ix5 g u n r d) = xbF (proj V) (parm V) (n.val * 64 + r.val) ((g.val * 4 + u.val) * 64 + d.val) := by
  refine (congrFun ((keep9 V main_v62 (by decide)).trans ((keep8 V main_v62 (by decide)).trans (keep7 V main_v62 (by decide)))) _).trans ((six_xc _ g u n r d).trans ?_)
  exact (congrFun (keep5 V main_v52 (by decide)) _).trans (heads V _ _ d)
/-- The time steps by chunks. -/
theorem steps9 (g : Fin 2) (u : Fin 4) (n : Fin 128) (r : Fin 64) : dtcV (A9 V) (ix4 g u n r) = dtF (proj V) (parm V) (n.val * 64 + r.val) (g.val * 4 + u.val) := by
  refine (congrFun ((keep9 V main_v64 (by decide)).trans ((keep8 V main_v64 (by decide)).trans (keep7 V main_v64 (by decide)))) _).trans ((six_dtc _ g u n r).trans (steps V _ _))
/-- The input maps by chunks. -/
theorem ins9 (g : Fin 2) (n : Fin 128) (r : Fin 64) (s : Fin 128) : bcV (A9 V) (ix4 g n r s) = bF (proj V) (parm V) g.val (n.val * 64 + r.val) s.val := by
  refine (congrFun (keep9 V main_v72 (by decide)) _).trans ((eight_bc _ g n r s).trans ?_)
  refine (congrFun (keep7 V main_v59 (by decide)) _).trans ((six_b _ _ g s).trans ?_)
  refine (congrFun (keep5 V main_v50 (by decide)) _).trans ((four_b _ _ _).trans ((chan V _ _).trans ?_))
  show xbF _ _ _ (512 + (g.val * 128 + s.val)) = xbF _ _ _ (512 + 128 * g.val + s.val)
  congr 1; omega
/-- The output maps by chunks. -/
theorem outs9 (g : Fin 2) (n : Fin 128) (r : Fin 64) (s : Fin 128) : ccV (A9 V) (ix4 g n r s) = cF (proj V) (parm V) g.val (n.val * 64 + r.val) s.val := by
  refine (congrFun (keep9 V main_v74 (by decide)) _).trans ((eight_cc _ g n r s).trans ?_)
  refine (congrFun (keep7 V main_v60 (by decide)) _).trans ((six_c _ _ g s).trans ?_)
  refine (congrFun (keep5 V main_v51 (by decide)) _).trans ((four_c _ _ _).trans ((chan V _ _).trans ?_))
  show xbF _ _ _ (768 + (g.val * 128 + s.val)) = xbF _ _ _ (768 + 128 * g.val + s.val)
  congr 1; omega
/-- The decays between rows. -/
theorem decays9 (g : Fin 2) (u : Fin 4) (n : Fin 128) (r : Fin 64) (k : Fin 64) : Ideal.exp (mskV (A9 V) (ix5 g u n r k)) = decF (proj V) (parm V) (g.val * 4 + u.val) n.val r.val k.val := by
  rw [show mskV (A9 V) (ix5 g u n r k) = _ from nine_msk _ g u n r k, eight_lt, eight_bot, eight_dif, sums, sums]
  unfold decF
  by_cases h : k.val ≤ r.val
  · rw [if_pos (by rw [decide_eq_true (show k ≤ r from h)]; rfl), if_pos h]
  · rw [if_neg (by rw [decide_eq_false (show ¬ k ≤ r from h)]; decide), if_neg h]
    rfl
/-- The inputs by heads, later. -/
theorem heads9 (t : Fin 8192) (h : Fin 8) (d : Fin 64) : xV (A9 V) (ix3 t h d) = xbF (proj V) (parm V) t.val (h.val * 64 + d.val) :=
  (congrFun ((keep9 V main_v52 (by decide)).trans ((keep8 V main_v52 (by decide)).trans ((keep7 V main_v52 (by decide)).trans ((keep6 V main_v52 (by decide)).trans (keep5 V main_v52 (by decide)))))) _).trans (heads V t h d)
/-- The gate's input, later. -/
theorem gate9 (t : Fin 8192) (j : Fin 512) : zV (A9 V) (ix2 t j) = at2 (proj V) t.val (6144 + j.val) :=
  (congrFun ((keep9 V main_v0 (by decide)).trans ((keep8 V main_v0 (by decide)).trans ((keep7 V main_v0 (by decide)).trans ((keep6 V main_v0 (by decide)).trans ((keep5 V main_v0 (by decide)).trans ((keep4 V main_v0 (by decide)).trans ((keep3 V main_v0 (by decide)).trans (keep2 V main_v0 (by decide))))))))) _).trans (one_z V t j)
/-- The direct term's weights, later. -/
theorem direct9 (j : Fin 512) : dV (A9 V) (ix1 j) = at3 (parm V) 0 15 j.val :=
  (congrFun ((keep9 V main_v12 (by decide)).trans ((keep8 V main_v12 (by decide)).trans ((keep7 V main_v12 (by decide)).trans ((keep6 V main_v12 (by decide)).trans ((keep5 V main_v12 (by decide)).trans ((keep4 V main_v12 (by decide)).trans ((keep3 V main_v12 (by decide)).trans (keep2 V main_v12 (by decide))))))))) _).trans (one_d V j)
/-- The norm's weights, later. -/
theorem norm9 (j : Fin 512) : nwV (A9 V) (ix1 j) = at3 (parm V) 0 16 j.val :=
  (congrFun ((keep9 V main_v14 (by decide)).trans ((keep8 V main_v14 (by decide)).trans ((keep7 V main_v14 (by decide)).trans ((keep6 V main_v14 (by decide)).trans ((keep5 V main_v14 (by decide)).trans ((keep4 V main_v14 (by decide)).trans ((keep3 V main_v14 (by decide)).trans (keep2 V main_v14 (by decide))))))))) _).trans (one_nw V j)

/-- A head's channel counts in its head and its group. -/
theorem place (g : Fin 2) (u : Fin 4) (e : Fin 64) : ((g.val * 4 + u.val) * 64 + e.val) / 64 = g.val * 4 + u.val ∧ ((g.val * 4 + u.val) * 64 + e.val) / 256 = g.val := by
  constructor <;> omega

/-- What the chunks' own rows contribute, at the loop's entry. -/
theorem entry_intra (g : Fin 2) (u : Fin 4) (n : Fin 128) (r : Fin 64) (e : Fin 64) :
    intraV (after hostOps0_10 (A9 V)) (ix5 g u n r e) = intraF (proj V) (parm V) id n.val r.val ((g.val * 4 + u.val) * 64 + e.val) := by
  refine (ten_intra _ g u n r e).trans ?_
  unfold intraF
  refine Finset.sum_congr rfl fun k _ => ?_
  unfold xdF
  rw [id_eq, (place g u e).1, (place g u e).2, decays9, steps9, inputs9, mul_assoc, mul_comm (dtF _ _ _ _)]
  refine congrArg₂ (· * ·) (congrArg₂ (· * ·) (Finset.sum_congr rfl fun s _ => ?_) rfl) rfl
  rw [ins9, outs9]
/-- The chunks' contributions to the state, at the loop's entry. -/
theorem entry_upd (n : Fin 128) (g : Fin 2) (u : Fin 4) (s : Fin 128) (e : Fin 64) :
    updV (after hostOps0_10 (A9 V)) (ix5 n g u s e) = updF (proj V) (parm V) id n.val s.val ((g.val * 4 + u.val) * 64 + e.val) := by
  refine (ten_upd _ n g u s e).trans ?_
  unfold updF
  refine Finset.sum_congr rfl fun k _ => ?_
  unfold xdF
  rw [id_eq, (place g u e).1, (place g u e).2, steps9, inputs9, sums9, sums9, ins9, mul_comm _ (bF _ _ _ _ _), mul_comm (Ideal.exp _), mul_assoc (xbF _ _ _ _)]
  rfl
/-- The chunks' log decays, at the loop's entry. -/
theorem entry_last (n : Fin 128) (g : Fin 2) (u : Fin 4) : lastV (after hostOps0_10 (A9 V)) (ix3 n g u) = gF (proj V) (parm V) (g.val * 4 + u.val) n.val 63 :=
  (ten_last _ n g u).trans (sums9 V g u n 63)

/-- The contents before the last stretch before the loop do not change the first argument. -/
theorem keep_arg0 : A9 V (Proc.devRef .tc main_arg0) = V (Proc.devRef .tc main_arg0) :=
  ((keep9 V main_arg0 (by decide)).trans ((keep8 V main_arg0 (by decide)).trans ((keep7 V main_arg0 (by decide)).trans ((keep6 V main_arg0 (by decide)).trans ((keep5 V main_arg0 (by decide)).trans ((keep4 V main_arg0 (by decide)).trans ((keep3 V main_arg0 (by decide)).trans (keep2 V main_arg0 (by decide))))))))).trans ((after_of_writes_sub hostOps0_1 _ hostOps0_1_writes (by decide)).trans (after_of_writes_sub hostOps0 _ hostOps0_writes (by decide)))
/-- Nor the second. -/
theorem keep_arg1 : A9 V (Proc.devRef .tc main_arg1) = V (Proc.devRef .tc main_arg1) :=
  ((keep9 V main_arg1 (by decide)).trans ((keep8 V main_arg1 (by decide)).trans ((keep7 V main_arg1 (by decide)).trans ((keep6 V main_arg1 (by decide)).trans ((keep5 V main_arg1 (by decide)).trans ((keep4 V main_arg1 (by decide)).trans ((keep3 V main_arg1 (by decide)).trans (keep2 V main_arg1 (by decide))))))))).trans ((after_of_writes_sub hostOps0_1 _ hostOps0_1_writes (by decide)).trans (after_of_writes_sub hostOps0 _ hostOps0_writes (by decide)))

end Cert.Proof.Ssd
end
-- ==== Proof.SsdRun.lean ====
/-
  The reference's loop over the chunks and its last stretches: the carried state is the state-space state, the stacked
  states are the states before each chunk, and the result is the mixer written entry by entry.
-/
module

public import proofs.«01_k».proof.Proof.SsdEntry
public import Idealize.ShloMosaic.Lib.DynamicIndex

@[expose] public section

set_option maxRecDepth 16384

noncomputable section

namespace Cert.Proof.Ssd

open Idealize.ShloMosaic Idealize.ShloMosaic.TcCoe Idealize.ShloMosaic.StableHlo Idealize.ShloMosaic.Pointwise
open Cert.Reference5Ideal Cert.Reference5Ideal.Gen Cert.Reference5Ideal.Value
open Cert.Proof.Ret (at2 at3 at2_ix at3_ix silu)

variable (V : Valuation τ sig (Elt Ideal))

/-- A trip's counter, read signed. -/
theorem counter (k : Fin 128) : BitVec.toInt (Scf.iv 0#32 1#32 k.val) = (k.val : ℤ) :=
  (by decide +kernel : ∀ k : Fin 128, BitVec.toInt (Scf.iv 0#32 1#32 k.val) = (k.val : ℤ)) k
/-- A trip's start indices in the contributions and the stack. -/
theorem starts5 (k : Fin 128) (w : IVec S_ 32) (hw : w = fun _ => Scf.iv 0#32 1#32 k.val) (a : Fin 5) :
    BitVec.toInt ((![w, constantI S_ 32 0#32, constantI S_ 32 0#32, constantI S_ 32 0#32, constantI S_ 32 0#32] : Fin 5 → IVec S_ 32) a (Shape.Idx.first h_S_))
      = ((![k.val, 0, 0, 0, 0] : Fin 5 → ℕ) a : ℤ) := by
  subst hw
  fin_cases a
  · exact counter k
  all_goals rfl
/-- A trip's start indices in the log decays. -/
theorem starts3 (k : Fin 128) (w : IVec S_ 32) (hw : w = fun _ => Scf.iv 0#32 1#32 k.val) (a : Fin 3) :
    BitVec.toInt ((![w, constantI S_ 32 0#32, constantI S_ 32 0#32] : Fin 3 → IVec S_ 32) a (Shape.Idx.first h_S_))
      = ((![k.val, 0, 0] : Fin 3 → ℕ) a : ℤ) := by
  subst hw
  fin_cases a
  · exact counter k
  all_goals rfl

/-- One slot of the stack lies inside it. -/
theorem slot5 (k : Fin 128) : S128x2x4x128x64.Slices ![k.val, 0, 0, 0, 0] S1x2x4x128x64 :=
  ⟨rfl, fun a => by have := k.isLt; fin_cases a <;> simp [Shape.size] <;> omega⟩
/-- One slot of the log decays lies inside them. -/
theorem slot3 (k : Fin 128) : S128x2x4.Slices ![k.val, 0, 0] S1x2x4 :=
  ⟨rfl, fun a => by have := k.isLt; fin_cases a <;> simp [Shape.size] <;> omega⟩

/-- The slot's start is inside, so clamping it changes nothing. -/
theorem clamp5 (k : Fin 128) (a : Fin 5) :
    (min (max (((![k.val, 0, 0, 0, 0] : Fin 5 → ℕ) a : ℕ) : ℤ) 0) (((![128, 2, 4, 128, 64] : Fin 5 → ℕ) a - (![1, 2, 4, 128, 64] : Fin 5 → ℕ) a : ℕ) : ℤ)).toNat
      = (![k.val, 0, 0, 0, 0] : Fin 5 → ℕ) a := by
  have := k.isLt
  fin_cases a <;> simp <;> omega

/-- One trip's new state. -/
theorem trip_state (k : Fin 128) (hk : V (Proc.devRef .tc main_v112_2) = fun _ => Scf.iv 0#32 1#32 k.val) (g : Fin 2) (u : Fin 4) (s : Fin 128) (e : Fin 64) :
    st0V (afterL bodyI V) (ix4 g u s e) = st0V V (ix4 g u s e) * Ideal.exp (lastV V (ix3 k g u)) + updV V (ix5 k g u s e) := by
  unfold st0V
  rw [trip_main_v112_3]
  rw [Host.dynamicSlice_eq_extractStridedSlice _ _ _ ![k.val, 0, 0] _ (slot3 k) (starts3 k _ hk),
    Host.dynamicSlice_eq_extractStridedSlice _ _ _ ![k.val, 0, 0, 0, 0] _ (slot5 k) (starts5 k _ hk), id_eq]
  pointwise
  rfl

/-- Writing at a trip's start indices writes the slot. -/
theorem write_slot (k : Fin 128) (x : FVec Ideal S128x2x4x128x64 .f32) (u : FVec Ideal S1x2x4x128x64 .f32) (w : IVec S_ 32)
    (hw : w = fun _ => Scf.iv 0#32 1#32 k.val) :
    Host.dynamicUpdateSlice x u (fun a => BitVec.toInt ((![w, constantI S_ 32 0#32, constantI S_ 32 0#32, constantI S_ 32 0#32, constantI S_ 32 0#32] : Fin 5 → IVec S_ 32) a (Shape.Idx.first h_S_))) updateFits_S128x2x4x128x64_S1x2x4x128x64
      = updateSlice x u ![k.val, 0, 0, 0, 0] (slot5 k) :=
  Host.dynamicUpdateSlice_eq_updateSlice x u _ _ ![k.val, 0, 0, 0, 0] (fun a => by rw [starts5 k w hw a]; exact clamp5 k a) (slot5 k)

/-- One trip's new stack. -/
theorem trip_stack (k : Fin 128) (hk : V (Proc.devRef .tc main_v112_2) = fun _ => Scf.iv 0#32 1#32 k.val) (n : Fin 128) (g : Fin 2) (u : Fin 4) (s : Fin 128) (e : Fin 64) :
    stackV (afterL bodyI V) (ix5 n g u s e) = if n = k then st0V V (ix4 g u s e) else stackV V (ix5 n g u s e) := by
  unfold stackV
  rw [trip_main_v112_4]
  rw [id_eq]
  refine (congrFun (write_slot k _ _ _ hk) _).trans ?_
  pointwise
  by_cases q : n = k
  · rw [if_pos q]
    exact dif_pos (by subst q; exact ⟨le_refl _, Nat.lt_succ_self _⟩)
  · rw [if_neg q]
    exact dif_neg (fun p => q (Fin.ext (by have q1 : k.val ≤ n.val := p.1; have q2 : n.val < k.val + 1 := p.2; omega)))

/-- The buffers the loop writes. -/
abbrev loopW : List (Ref sig .tc) := condOps_W ++ while0Ops0_W ++ while0Ops0_1_W ++ while0Ops0_2_W ++ while0Ops0_3_W ++ while0Ops0_4_W

/-- A buffer the loop does not write, after one trip. -/
theorem trip_keep (r : Ref sig .tc) (h : r ∉ loopW) : afterL bodyI V (Proc.devRef .tc r) = V (Proc.devRef .tc r) := by
  simp only [loopW, List.mem_append, not_or] at h
  obtain ⟨⟨⟨⟨⟨_, h0⟩, h1⟩, h2⟩, h3⟩, h4⟩ := h
  simp only [bodyI, afterL_cons, afterL_nil]
  rw [after_of_writes_sub while0Ops0_4 _ while0Ops0_4_writes h4, after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0]

/-- A buffer the loop's condition does not write. -/
theorem cond_keep (r : Ref sig .tc) (h : r ∉ condOps_W) : after condOps V (Proc.devRef .tc r) = V (Proc.devRef .tc r) :=
  after_of_writes_sub condOps V condOps_writes h

variable (m : (ℓ : Loc nD τ sig) → Buf (Elt Ideal) ℓ) (c : Dev nD)

/-- A buffer the loop does not write, after any number of trips. -/
theorem loop_keep (r : Ref sig .tc) (h : r ∉ loopW) : ∀ k, atK m k c (Proc.devRef .tc r) = entryContents preI m c (Proc.devRef .tc r)
  | 0 => rfl
  | k + 1 => by
    have hc : r ∉ condOps_W := by
      simp only [loopW, List.mem_append, not_or] at h
      exact h.1.1.1.1.1
    rw [show atK m (k + 1) c = afterL bodyI (after condOps (atK m k c)) from rfl, trip_keep _ r h, cond_keep _ r hc, loop_keep r h k]

/-- The contents before the last stretch before the loop. -/
abbrev B : Valuation τ sig (Elt Ideal) := A9 (launchContents m c)

/-- The contents the loop starts from. -/
theorem entry_eq : entryContents preI m c = after hostOps0_10 (B m c) := by
  simp only [entryContents, preI, afterL_cons, afterL_nil]

/-- The chunks' contributions are only read by the loop. -/
theorem carried_keep0 : ∀ k, atK m k c (Proc.devRef .tc main_v112_0) = entryContents preI m c (Proc.devRef .tc main_v112_0)
  | 0 => rfl
  | k + 1 => by
    rw [show atK m (k + 1) c = afterL bodyI (after condOps (atK m k c)) from rfl, trip_main_v112_0, cond_keep _ main_v112_0 (by decide),
      carried_keep0 k]

/-- The chunks' log decays are only read by the loop. -/
theorem carried_keep1 : ∀ k, atK m k c (Proc.devRef .tc main_v112_1) = entryContents preI m c (Proc.devRef .tc main_v112_1)
  | 0 => rfl
  | k + 1 => by
    rw [show atK m (k + 1) c = afterL bodyI (after condOps (atK m k c)) from rfl, trip_main_v112_1, cond_keep _ main_v112_1 (by decide),
      carried_keep1 k]

/-- The projections at launch. -/
abbrev P0 : FVec Ideal S8192x7168 .f32 := proj (launchContents m c)
/-- The parameters at launch. -/
abbrev N0 : FVec Ideal S2x32x1792 .f32 := parm (launchContents m c)

/-- Before trip `k` the carried state is the state before chunk `k`, and the stack's earlier slots hold the states
    before their chunks. -/
theorem loop_state : ∀ k : ℕ, k ≤ 128 →
    (∀ (g : Fin 2) (u : Fin 4) (s : Fin 128) (e : Fin 64), st0V (atK m k c) (ix4 g u s e) = stF (P0 m c) (N0 m c) id k s.val ((g.val * 4 + u.val) * 64 + e.val))
    ∧ (∀ (n : Fin 128) (g : Fin 2) (u : Fin 4) (s : Fin 128) (e : Fin 64), n.val < k →
      stackV (atK m k c) (ix5 n g u s e) = stF (P0 m c) (N0 m c) id n.val s.val ((g.val * 4 + u.val) * 64 + e.val))
  | 0, _ => ⟨fun g u s e => by
      rw [show atK m 0 c = entryContents preI m c from rfl, entry_eq, ten_st]; rfl, fun n _ _ _ _ hn => absurd hn (Nat.not_lt_zero _)⟩
  | k + 1, hk => by
    obtain ⟨ih, ih'⟩ := loop_state k (by omega)
    have hctr : after condOps (atK m k c) (Proc.devRef .tc main_v112_2) = fun _ => Scf.iv 0#32 1#32 (⟨k, by omega⟩ : Fin 128).val := by
      rw [cond_keep _ main_v112_2 (by decide)]; exact atK_ctr m c k
    have e3 : st0V (after condOps (atK m k c)) = st0V (atK m k c) := cond_keep _ main_v112_3 (by decide)
    have e4 : stackV (after condOps (atK m k c)) = stackV (atK m k c) := cond_keep _ main_v112_4 (by decide)
    have e1 : lastV (after condOps (atK m k c)) = lastV (after hostOps0_10 (B m c)) := by
      refine (cond_keep _ main_v112_1 (by decide)).trans ?_
      rw [← entry_eq]; exact carried_keep1 m c k
    have e0 : updV (after condOps (atK m k c)) = updV (after hostOps0_10 (B m c)) := by
      refine (cond_keep _ main_v112_0 (by decide)).trans ?_
      rw [← entry_eq]; exact carried_keep0 m c k
    rw [show atK m (k + 1) c = afterL bodyI (after condOps (atK m k c)) from rfl]
    refine ⟨fun g u s e => ?_, fun n g u s e hn => ?_⟩
    · rw [trip_state _ _ hctr, e3, e1, e0, ih, entry_last, entry_upd]
      show _ = stF _ _ _ k s.val _ * Ideal.exp (gF _ _ (((g.val * 4 + u.val) * 64 + e.val) / 64) k 63) + updF _ _ _ k s.val _
      rw [(place g u e).1]
    · rw [trip_stack _ _ hctr, e3, e4]
      by_cases q : n = ⟨k, by omega⟩
      · rw [if_pos q, ih, q]
      · rw [if_neg q]
        exact ih' n g u s e (by have : n.val ≠ k := fun p => q (Fin.ext p); omega)

/-- The contents after the loop. -/
abbrev L : Valuation τ sig (Elt Ideal) := after condOps (atK m 128 c)

/-- The program's last contents. -/
theorem final_eq : finalContents condOps preI bodyI postI 128 m c = after hostOps0_13 (after hostOps0_12 (after hostOps0_11 (L m c))) := rfl

/-- A buffer the loop does not write, after the loop. -/
theorem L_keep (r : Ref sig .tc) (h : r ∉ loopW) : L m c (Proc.devRef .tc r) = after hostOps0_10 (B m c) (Proc.devRef .tc r) := by
  have hc : r ∉ condOps_W := by
    simp only [loopW, List.mem_append, not_or] at h
    exact h.1.1.1.1.1
  exact (cond_keep _ r hc).trans ((loop_keep m c r h 128).trans (congrFun (entry_eq m c) _))

/-- A buffer neither the loop nor the stretch before it writes, after the loop. -/
theorem L_keep9 (r : Ref sig .tc) (hp : r ∉ hostOps0_10_W) (h : r ∉ loopW) : L m c (Proc.devRef .tc r) = B m c (Proc.devRef .tc r) :=
  (L_keep m c r h).trans (after_of_writes_sub hostOps0_10 _ hostOps0_10_writes hp)

/-- A head's output, read off given contents. -/
def outV (g : Fin 2) (u : Fin 4) (n : Fin 128) (r : Fin 64) (e : Fin 64) : EReal :=
  intraV V (ix5 g u n r e) + (∑ s : Fin 128, stackV V (ix5 n g u s e) * ccV V (ix4 g n r s)) * Ideal.exp (gV V (ix4 g u n r))

/-- The head's output after the loop. -/
theorem L_out (g : Fin 2) (u : Fin 4) (n : Fin 128) (r : Fin 64) (e : Fin 64) :
    outV (L m c) g u n r e = oF (P0 m c) (N0 m c) id n.val r.val ((g.val * 4 + u.val) * 64 + e.val) := by
  have hi : intraV (L m c) = intraV (after hostOps0_10 (B m c)) := L_keep m c main_v95 (by decide)
  have hq : ccV (L m c) = ccV (B m c) := L_keep9 m c main_v74 (by decide) (by decide)
  have hg : gV (L m c) = gV (B m c) := L_keep9 m c main_v70 (by decide) (by decide)
  have hs : stackV (L m c) = stackV (atK m 128 c) := cond_keep _ main_v112_4 (by decide)
  unfold outV oF
  rw [hi, hq, hg, hs, (place g u e).1, (place g u e).2]
  refine congrArg₂ (· + ·) (entry_intra (launchContents m c) g u n r e) (congrArg₂ (· * ·) (Finset.sum_congr rfl fun s _ => ?_) (congrArg Ideal.exp (sums9 (launchContents m c) g u n r)))
  exact (congrArg₂ (· * ·) ((loop_state m c 128 le_rfl).2 n g u s e n.isLt) (outs9 (launchContents m c) g n r s)).trans (mul_comm _ _)

/-- The outputs' buffer. -/
def sumV : FVec Ideal S8192x512 .f32 := V (Proc.devRef .tc main_v128)
/-- The gate's buffer. -/
def gateV : FVec Ideal S8192x512 .f32 := V (Proc.devRef .tc main_v129)
/-- The result's buffer. -/
def resV : FVec Ideal S8192x512 .f32 := V (Proc.devRef .tc main_v146)

/-- The outputs with the direct term. -/
theorem post_sum (i : Fin 8192) (j : Fin 512) :
    sumV (after hostOps0_11 V) (ix2 i j)
      = outV V ⟨j.val / 64 / 4, by omega⟩ ⟨j.val / 64 % 4, by omega⟩ ⟨i.val / 64, by omega⟩ ⟨i.val % 64, by omega⟩ ⟨j.val % 64, by omega⟩
        + dV V (ix1 ⟨j.val / 64 * 64 + j.val % 64, by omega⟩) * xV V (ix3 i ⟨j.val / 64, by omega⟩ ⟨j.val % 64, by omega⟩) := by
  unfold sumV
  after_reads_simp
  pointwise
  rfl

/-- The gate. -/
theorem post_gate (i : Fin 8192) (j : Fin 512) : gateV (after hostOps0_12 V) (ix2 i j) = silu (zV V (ix2 i j)) := by
  unfold gateV
  after_reads_simp
  try simp only [TRef.toBuf, TRef.ofBuf, TRef.of, cast_eq, id_eq]
  pointwise
  rfl

/-- The normalised rows. -/
theorem post_norm (i : Fin 8192) (j : Fin 512) :
    resV (after hostOps0_13 V) (ix2 i j)
      = normed (fun x => sumV V (ix2 i ⟨j.val / 256 * 256 + x.val, by omega⟩) * gateV V (ix2 i ⟨j.val / 256 * 256 + x.val, by omega⟩)) ⟨j.val % 256, by omega⟩
        * nwV V (ix1 ⟨j.val / 256 * 256 + j.val % 256, by omega⟩) := by
  unfold resV
  after_reads_simp
  pointwise
  rfl

/-- The gate's stretch keeps the outputs. -/
theorem post_keep_sum : sumV (after hostOps0_12 V) = sumV V := by
  unfold sumV
  after_reads_simp
/-- The outputs' stretch keeps the gate's input. -/
theorem post_keep_z : zV (after hostOps0_11 V) = zV V := by
  unfold zV
  after_reads_simp
/-- Both keep the norm's weights. -/
theorem post_keep_nw : nwV (after hostOps0_12 (after hostOps0_11 V)) = nwV V := by
  unfold nwV
  after_reads_simp

/-- An entry of the gated outputs. -/
theorem gated (i : Fin 8192) (j : Fin 512) :
    sumV (after hostOps0_12 (after hostOps0_11 (L m c))) (ix2 i j) * gateV (after hostOps0_12 (after hostOps0_11 (L m c))) (ix2 i j)
      = yF (P0 m c) (N0 m c) id (i.val / 64) (i.val % 64) j.val := by
  have hs : sumV (after hostOps0_12 (after hostOps0_11 (L m c))) = sumV (after hostOps0_11 (L m c)) := post_keep_sum _
  have hz : zV (after hostOps0_11 (L m c)) = zV (B m c) := (post_keep_z _).trans (L_keep9 m c main_v0 (by decide) (by decide))
  have hd : dV (L m c) = dV (B m c) := L_keep9 m c main_v12 (by decide) (by decide)
  have hx : xV (L m c) = xV (B m c) := L_keep9 m c main_v52 (by decide) (by decide)
  rw [hs, post_gate, hz, post_sum, L_out, hd, hx, heads9, gate9, direct9]
  have e1 : (j.val / 64 / 4 * 4 + j.val / 64 % 4) * 64 + j.val % 64 = j.val := by omega
  have e2 : j.val / 64 * 64 + j.val % 64 = j.val := by omega
  have e3 : i.val / 64 * 64 + i.val % 64 = i.val := by omega
  unfold yF
  simp only [e1, e2, e3]

/-- The reference's result is the mixer's. -/
theorem ref_result : resV (finalContents condOps preI bodyI postI 128 m c) = result (P0 m c) (N0 m c) id := by
  refine funext fun x => ?_
  obtain ⟨i, j, rfl⟩ : ∃ i j, x = ix2 i j := ⟨x 0, x 1, (ix2_eta x).symm⟩
  have hw : nwV (after hostOps0_12 (after hostOps0_11 (L m c))) = nwV (B m c) :=
    (post_keep_nw _).trans (L_keep9 m c main_v14 (by decide) (by decide))
  rw [final_eq, post_norm, hw, norm9]
  simp only [gated]
  show normed (fun x => yF _ _ _ _ _ (j.val / 256 * 256 + x.val)) _ * at3 _ 0 16 (j.val / 256 * 256 + j.val % 256)
    = normed (fun x => yF _ _ _ _ _ (256 * (j.val / 256) + x.val)) _ * at3 _ 0 16 (256 * (j.val / 256) + j.val % 256)
  rw [Nat.mul_comm 256]
  rfl

/-- The first argument is not written after the loop. -/
theorem post_arg0 : after hostOps0_13 (after hostOps0_12 (after hostOps0_11 V)) (Proc.devRef .tc main_arg0) = V (Proc.devRef .tc main_arg0) := by
  after_reads_simp

/-- Nor is the second. -/
theorem post_arg1 : after hostOps0_13 (after hostOps0_12 (after hostOps0_11 V)) (Proc.devRef .tc main_arg1) = V (Proc.devRef .tc main_arg1) := by
  after_reads_simp

/-- The last contents of the two arguments. -/
theorem final_args :
    finalContents condOps preI bodyI postI 128 m c (Proc.devRef .tc main_arg0) = launchContents m c (Proc.devRef .tc main_arg0)
    ∧ finalContents condOps preI bodyI postI 128 m c (Proc.devRef .tc main_arg1) = launchContents m c (Proc.devRef .tc main_arg1) := by
  rw [final_eq]
  exact ⟨(post_arg0 _).trans ((L_keep9 m c main_arg0 (by decide) (by decide)).trans (keep_arg0 _)),
    (post_arg1 _).trans ((L_keep9 m c main_arg1 (by decide) (by decide)).trans (keep_arg1 _))⟩

/-- The reference runs, ends with the mixer of its arguments, keeps them, and leaves no signal pending. -/
theorem run_ref (ρ : Dev nD → PrngReg) :
    θ_run (defs (F := Ideal)) (onTc (τ := τ) (main (F := Ideal))) ⟨m, fun _ => 0, ρ⟩ (fun r => (∀ c : Dev nD,
      r.2.mem ((c.tc : Thread nD τ).loc main_v146) = result (m ((c.tc : Thread nD τ).loc main_arg0)) (m ((c.tc : Thread nD τ).loc main_arg1)) id
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨(h c main_v146 rfl).trans (ref_result m c), (h c main_arg0 rfl).trans (final_args m c).1,
    (h c main_arg1 rfl).trans (final_args m c).2⟩, Idealize.ShloMosaic.sem_eq_zero_of_no_sems (by decide) r.2⟩) (run_fold m ρ)

end Cert.Proof.Ssd
end
-- ==== Proof.SsdTile.lean ====
/-
  One chunk of one group of heads in the kernel, as functions of its tiles, and what each of them is, entry by entry: the
  products of the state's maps, the decayed scores of a pair of heads, the state after the chunk and the finished rows.
-/
module

public import proofs.«01_k».proof.Proof.SsdMath
public import proofs.«01_k».proof.Proof.KChunk
public import proofs.«01_k».proof.Proof.Gen.Kernel5Ideal.Value

@[expose] public section

set_option maxRecDepth 16384

noncomputable section

namespace Cert.Proof.Ssd

open Idealize.ShloMosaic Idealize.ShloMosaic.Pointwise
open Cert.Kernel5Ideal Cert.Kernel5Ideal.Gen
open Cert.Proof.Ret (at2 at3 at2_ix at3_ix silu lane two keep_left keep_right side pick column later word_neg_inf)

/-- Head `u` of pair `p` of a group: its lane `d` among the group's 256. -/
abbrev quad (p u : Fin 2) (d : Fin 64) : Fin 256 := ⟨128 * p.val + (64 * u.val + d.val), by omega⟩

/-- Products of the output and input maps, the chunk's rows twice along the lanes. -/
def cbT (b c : FVec Ideal S64x128 .f32) : FVec Ideal S64x128 .f32 :=
  matmul dot_S64x128_S128x128_S64x128_1_1_0_0_n_n none (truncf .bf16 c bitsLt_bf16_f32)
    (truncf .bf16 (concatenate S128x128 0 [⟨S64x128, b⟩, ⟨S64x128, b⟩] concatenates_S64x128_S64x128_S128x128_d0) bitsLt_bf16_f32)
    (constant S64x128 .f32 0x00000000#32)

/-- A chunk's contribution to the state. -/
def updT (b : FVec Ideal S64x128 .f32) (xt : FVec Ideal S64x256 .f32) : FVec Ideal S128x256 .f32 :=
  matmul dot_S64x128_S64x256_S128x256_0_0_1_1_n_n none (truncf .bf16 b bitsLt_bf16_f32) (truncf .bf16 xt bitsLt_bf16_f32)
    (constant S128x256 .f32 0x00000000#32)

/-- The state after a chunk. -/
def stT (R : FVec Ideal S128x256 .f32) (et : FVec Ideal S1x256 .f32) (up : FVec Ideal S128x256 .f32) : FVec Ideal S128x256 .f32 :=
  addf (mulf R (broadcastTo S128x256 et broadcasts_S1x256_S128x256)) up

/-- Differences of the decays' logarithms for a pair of heads. -/
def gdT (g0 g1 : FVec Ideal S64x1 .f32) (t0 t1 : FVec Ideal S1x64 .f32) : FVec Ideal S64x128 .f32 :=
  subf (select k0_pay10 (broadcastTo S64x128 (shapeCast S64x1 g0 shapeCasts_S64x1_S64x1) broadcasts_S64x1_S64x128)
      (broadcastTo S64x128 (shapeCast S64x1 g1 shapeCasts_S64x1_S64x1) broadcasts_S64x1_S64x128))
    (broadcastTo S64x128 (concatenate S1x128 1 [⟨S1x64, t0⟩, ⟨S1x64, t1⟩] concatenates_S1x64_S1x64_S1x128_d1) broadcasts_S1x128_S64x128)

/-- What the chunk's own rows contribute, for a pair of heads. -/
def ynT (cb d xd : FVec Ideal S64x128 .f32) : FVec Ideal S64x128 .f32 :=
  matmul dot_S64x128_S128x128_S64x128_1_0_0_1_n_n none
    (truncf .bf16 (mulf cb (exp (select k0_pay11 d (broadcast S64x128 (Scalar.ofBits .f32 0xFF800000#32))))) bitsLt_bf16_f32)
    (truncf .bf16 (concatenate S128x128 0
      [⟨S64x128, select k0_pay10 xd (broadcast S64x128 (Scalar.ofBits .f32 0x00000000#32))⟩,
       ⟨S64x128, select k0_pay10 (broadcast S64x128 (Scalar.ofBits .f32 0x00000000#32)) xd⟩]
      concatenates_S64x128_S64x128_S128x128_d0) bitsLt_bf16_f32)
    (constant S64x128 .f32 0x00000000#32)

/-- The group's rows with the direct term, gated. -/
def yT (y0 y1 c : FVec Ideal S64x128 .f32) (R : FVec Ideal S128x256 .f32) (eg x z : FVec Ideal S64x256 .f32) (d : FVec Ideal S1x256 .f32) :
    FVec Ideal S64x256 .f32 :=
  mulf (addf (addf (concatenate S64x256 1 [⟨S64x128, y0⟩, ⟨S64x128, y1⟩] concatenates_S64x128_S64x128_S64x256_d1)
      (mulf (matmul dot_S64x128_S128x256_S64x256_1_0_0_1_n_n none (truncf .bf16 c bitsLt_bf16_f32) (truncf .bf16 R bitsLt_bf16_f32)
        (constant S64x256 .f32 0x00000000#32)) eg))
      (mulf (broadcastTo S64x256 d broadcasts_S1x256_S64x256) x))
    (mulf z (divf (broadcast S64x256 (Scalar.ofBits .f32 0x3F800000#32))
      (addf (broadcast S64x256 (Scalar.ofBits .f32 0x3F800000#32)) (exp (subf (broadcast S64x256 (Scalar.ofBits .f32 0x00000000#32)) z)))))

/-- Rows scaled to unit mean square, and weighted. -/
def nT (y : FVec Ideal S64x256 .f32) (w : FVec Ideal S1x256 .f32) : FVec Ideal S64x256 .f32 :=
  mulf (mulf y (broadcastTo S64x256 (rsqrt (addf (divf
      (shapeCast S64x1 (multiReduction .add [1] S64 (mulf y y) 0x00000000#32 reduces_S64x256_S64 (.inl rfl) rfl) shapeCasts_S64_S64x1)
      (broadcast S64x1 (Scalar.ofBits .f32 0x43800000#32))) (broadcast S64x1 (Scalar.ofBits .f32 0x358637BD#32)))) broadcasts_S64x1_S64x256))
    (broadcastTo S64x256 w broadcasts_S1x256_S64x256)

/-- The products, entry by entry: both halves alike. -/
theorem cbT_at (b c : FVec Ideal S64x128 .f32) (r : Fin 64) (u : Fin 2) (x : Fin 64) :
    cbT b c (ix2 r (lane u x)) = ∑ s : Fin 128, c (ix2 r s) * b (ix2 x s) := by
  pointwise [cbT]
  obtain rfl | rfl := two u
  · refine Finset.sum_congr rfl fun s _ => ?_
    rw [dif_pos (by show 64 * 0 + x.val < 64; omega)]
    refine congrArg (c (ix2 r s) * ·) (congrArg b (congrArg₂ ix2 (Fin.ext ?_) rfl))
    simp
  · refine Finset.sum_congr rfl fun s _ => ?_
    rw [dif_neg (by show ¬ 64 * 1 + x.val < 64; omega)]
    refine congrArg (c (ix2 r s) * ·) (congrArg b (congrArg₂ ix2 (Fin.ext ?_) rfl))
    simp

/-- A chunk's contribution, entry by entry. -/
theorem updT_at (b : FVec Ideal S64x128 .f32) (xt : FVec Ideal S64x256 .f32) (s : Fin 128) (e : Fin 256) :
    updT b xt (ix2 s e) = ∑ x : Fin 64, b (ix2 x s) * xt (ix2 x e) := by
  pointwise [updT]

/-- The state after a chunk, entry by entry. -/
theorem stT_at (R : FVec Ideal S128x256 .f32) (et : FVec Ideal S1x256 .f32) (up : FVec Ideal S128x256 .f32) (s : Fin 128) (e : Fin 256) :
    stT R et up (ix2 s e) = R (ix2 s e) * et (ix2 0 e) + up (ix2 s e) := by
  pointwise [stT]

/-- The differences on the first head's lanes. -/
theorem gdT_at0 (g0 g1 : FVec Ideal S64x1 .f32) (t0 t1 : FVec Ideal S1x64 .f32) (r x : Fin 64) :
    gdT g0 g1 t0 t1 (ix2 r (lane 0 x)) = g0 (ix2 r 0) - t0 (ix2 0 x) := by
  pointwise [gdT, k0_pay10]
  have w : IntOp.cmpi CmpIPredicate.slt (BitVec.ofNat 32 x.val) 64#32 = if (0 : Fin 2) = 0 then 1#1 else 0#1 := by
    revert x; decide +kernel
  refine congrArg₂ (· - ·) (pick w _ _ _ (fun _ => rfl) (fun h => absurd h (by decide))) ?_
  rfl

/-- The differences on the second head's lanes. -/
theorem gdT_at1 (g0 g1 : FVec Ideal S64x1 .f32) (t0 t1 : FVec Ideal S1x64 .f32) (r x : Fin 64) :
    gdT g0 g1 t0 t1 (ix2 r (lane 1 x)) = g1 (ix2 r 0) - t1 (ix2 0 x) := by
  pointwise [gdT, k0_pay10]
  refine congrArg₂ (· - ·) (pick (side 1 x) _ _ _ (fun h => absurd h (by decide)) (fun _ => rfl)) ?_
  rfl

/-- The masked exponential. -/
theorem masked (d : EReal) (u : Fin 2) (r x : Fin 64) :
    Ideal.exp (Scalar.select (IntOp.cmpi CmpIPredicate.sge (BitVec.ofNat 32 r.val)
      (Scalar.select (IntOp.cmpi CmpIPredicate.slt (BitVec.ofNat 32 (64 * u.val + x.val)) 64#32) (BitVec.ofNat 32 (64 * u.val + x.val))
        (IntOp.subi (BitVec.ofNat 32 (64 * u.val + x.val)) 64#32))) d (Ideal.ofBits FTy.f32 0xFF800000#32))
      = if x.val ≤ r.val then Ideal.exp d else 0 := by
  rw [column u x, later r x]
  split
  · rfl
  · show Ideal.exp (Ideal.ofBits FTy.f32 0xFF800000#32) = 0
    rw [word_neg_inf]; rfl

/-- What the chunk's own rows contribute, entry by entry: the head's own lanes only. -/
theorem ynT_at (cb d xd : FVec Ideal S64x128 .f32) (r : Fin 64) (u : Fin 2) (e : Fin 64) :
    ynT cb d xd (ix2 r (lane u e)) = ∑ x : Fin 64, cb (ix2 r (lane u x)) * (if x.val ≤ r.val then Ideal.exp (d (ix2 r (lane u x))) else 0)
      * xd (ix2 x (lane u e)) := by
  pointwise [ynT, k0_pay10, k0_pay11]
  have z0 : ∀ d : Fin 64, (⟨d.val, by omega⟩ : Fin 128) = lane 0 d := fun d => Fin.ext (by simp)
  have z1 : ∀ d : Fin 64, (⟨64 + d.val, by omega⟩ : Fin 128) = lane 1 d := fun d => Fin.ext (by simp)
  have m0 := fun (q : EReal) (x : Fin 64) => masked q 0 r x
  have m1 := fun (q : EReal) (x : Fin 64) => masked q 1 r x
  simp only [Fin.val_zero, Fin.val_one, Nat.mul_zero, Nat.zero_add, Nat.mul_one] at m0 m1
  obtain rfl | rfl := two u
  · refine keep_left (Finset.sum_congr rfl fun x _ => ?_) (Finset.sum_eq_zero fun x _ => ?_)
    · rw [m0]
      exact pick (side 0 e) _ _ _ (fun _ => congrArg (fun a => cb (ix2 r a) * (if x.val ≤ r.val then Ideal.exp (d (ix2 r a)) else 0) * xd (ix2 x (lane 0 e))) (z0 x)) (fun h => absurd h (by decide))
    · exact pick (side 0 e) _ _ _ (fun _ => rfl) (fun h => absurd h (by decide))
  · refine keep_right (Finset.sum_eq_zero fun x _ => ?_) (Finset.sum_congr rfl fun x _ => ?_)
    · exact pick (side 1 e) _ _ _ (fun h => absurd h (by decide)) (fun _ => rfl)
    · rw [m1]
      exact pick (side 1 e) _ _ _ (fun h => absurd h (by decide)) (fun _ => congrArg (fun a => cb (ix2 r a) * (if x.val ≤ r.val then Ideal.exp (d (ix2 r a)) else 0) * xd (ix2 x (lane 1 e))) (z1 x))

/-- The gated rows of the first pair's lanes, entry by entry. -/
theorem yT_at (y0 y1 c : FVec Ideal S64x128 .f32) (R : FVec Ideal S128x256 .f32) (eg x z : FVec Ideal S64x256 .f32) (d : FVec Ideal S1x256 .f32)
    (r : Fin 64) (p u : Fin 2) (e : Fin 64) :
    yT y0 y1 c R eg x z d (ix2 r (quad p u e))
      = ((match p with | 0 => y0 | 1 => y1) (ix2 r (lane u e)) + (∑ s : Fin 128, c (ix2 r s) * R (ix2 s (quad p u e))) * eg (ix2 r (quad p u e))
        + d (ix2 0 (quad p u e)) * x (ix2 r (quad p u e))) * silu (z (ix2 r (quad p u e))) := by
  pointwise [yT]
  unfold silu
  rw [zero_sub]
  refine congrArg₂ (· * ·) (congrArg₂ (· + ·) (congrArg₂ (· + ·) ?_ rfl) rfl) rfl
  obtain rfl | rfl := two p
  · rw [dif_pos (by show 128 * 0 + (64 * u.val + e.val) < 128; omega)]
    refine congrArg y0 (congrArg₂ ix2 rfl (Fin.ext ?_)); simp
  · rw [dif_neg (by show ¬ 128 * 1 + (64 * u.val + e.val) < 128; omega)]
    refine congrArg y1 (congrArg₂ ix2 rfl (Fin.ext ?_)); simp

/-- The scaled and weighted rows, entry by entry. -/
theorem nT_at (y : FVec Ideal S64x256 .f32) (w : FVec Ideal S1x256 .f32) (r : Fin 64) (e : Fin 256) :
    nT y w (ix2 r e) = normed (fun x => y (ix2 r x)) e * w (ix2 0 e) := by
  pointwise [nT]
  rfl

end Cert.Proof.Ssd
end
-- ==== Proof.SsdPoint.lean ====
/-
  One grid point of the state-space kernel: four chunks of the two groups of heads. From blocks that hold the convolved channels,
  the decays' logarithms, the stepped inputs and the gates, and a state that is the mixer's, the state after each chunk is the
  mixer's next one, and the finished rows are the mixer's rows.
-/
module

public import proofs.«01_k».proof.Proof.SsdTile

@[expose] public section

set_option maxRecDepth 16384

noncomputable section

namespace Cert.Proof.Ssd

open Idealize.ShloMosaic Idealize.ShloMosaic.Pointwise
open Cert.Kernel5Ideal Cert.Kernel5Ideal.Gen
open Cert.Proof.Ret (at2 at3 at2_ix at3_ix silu lane two)

/-- Chunk `c`'s input maps of group `g`. -/
def bC (c : ℕ) (g : Fin 2) (X : FVec Ideal S256x1024 .f32) : FVec Ideal S64x128 .f32 :=
  extractStridedSlice S64x128 ![64 * (c % 4), 512 + 128 * g.val] X (by
    have hc : c % 4 < 4 := Nat.mod_lt _ (by omega)
    generalize c % 4 = c' at hc
    interval_cases c' <;> obtain rfl | rfl := two g <;> decide)
/-- Its output maps. -/
def cC (c : ℕ) (g : Fin 2) (X : FVec Ideal S256x1024 .f32) : FVec Ideal S64x128 .f32 :=
  extractStridedSlice S64x128 ![64 * (c % 4), 768 + 128 * g.val] X (by
    have hc : c % 4 < 4 := Nat.mod_lt _ (by omega)
    generalize c % 4 = c' at hc
    interval_cases c' <;> obtain rfl | rfl := two g <;> decide)
/-- Its rows of the group's channels. -/
def wC (c : ℕ) (g : Fin 2) (X : FVec Ideal S256x512 .f32) : FVec Ideal S64x256 .f32 :=
  extractStridedSlice S64x256 ![64 * (c % 4), 256 * g.val] X (by
    have hc : c % 4 < 4 := Nat.mod_lt _ (by omega)
    generalize c % 4 = c' at hc
    interval_cases c' <;> obtain rfl | rfl := two g <;> decide)
/-- Its first row of them. -/
def eC (c : ℕ) (g : Fin 2) (X : FVec Ideal S256x512 .f32) : FVec Ideal S1x256 .f32 :=
  extractStridedSlice S1x256 ![64 * (c % 4), 256 * g.val] X (by
    have hc : c % 4 < 4 := Nat.mod_lt _ (by omega)
    generalize c % 4 = c' at hc
    interval_cases c' <;> obtain rfl | rfl := two g <;> decide)
/-- Its rows of a pair of heads' channels. -/
def xC (c : ℕ) (g p : Fin 2) (X : FVec Ideal S256x512 .f32) : FVec Ideal S64x128 .f32 :=
  extractStridedSlice S64x128 ![64 * (c % 4), 256 * g.val + 128 * p.val] X (by
    have hc : c % 4 < 4 := Nat.mod_lt _ (by omega)
    generalize c % 4 = c' at hc
    interval_cases c' <;> obtain rfl | rfl := two g <;> obtain rfl | rfl := two p <;> decide)
/-- The group's channels of a row of parameters. -/
def rC (g : Fin 2) (X : FVec Ideal S1x512 .f32) : FVec Ideal S1x256 .f32 :=
  extractStridedSlice S1x256 ![0, 256 * g.val] X (by obtain rfl | rfl := two g <;> decide)
/-- One head's column. -/
def gC (c : ℕ) (g p u : Fin 2) (X : FVec Ideal S256x128 .f32) : FVec Ideal S64x1 .f32 :=
  extractStridedSlice S64x1 ![64 * (c % 4), 4 * g.val + 2 * p.val + u.val] X (by
    have hc : c % 4 < 4 := Nat.mod_lt _ (by omega)
    generalize c % 4 = c' at hc
    interval_cases c' <;> obtain rfl | rfl := two g <;> obtain rfl | rfl := two p <;> obtain rfl | rfl := two u <;> decide)
/-- The same as a row. -/
def tC (c : ℕ) (g p u : Fin 2) (X : FVec Ideal S128x256 .f32) : FVec Ideal S1x64 .f32 :=
  extractStridedSlice S1x64 ![4 * g.val + 2 * p.val + u.val, 64 * (c % 4)] X (by
    have hc : c % 4 < 4 := Nat.mod_lt _ (by omega)
    generalize c % 4 = c' at hc
    interval_cases c' <;> obtain rfl | rfl := two g <;> obtain rfl | rfl := two p <;> obtain rfl | rfl := two u <;> decide)

/-- What a point computes before its chunks. -/
structure Blocks where
  /-- The convolved and gated channels. -/
  X : FVec Ideal S256x1024 .f32
  /-- Their inputs. -/
  I : FVec Ideal S256x512 .f32
  /-- The decays' logarithms by rows. -/
  G : FVec Ideal S256x128 .f32
  /-- The same by columns. -/
  H : FVec Ideal S128x256 .f32
  /-- The inputs times their steps. -/
  D : FVec Ideal S256x512 .f32
  /-- The same decayed to the chunk's end. -/
  U : FVec Ideal S256x512 .f32
  /-- The decays from the chunk's start. -/
  E : FVec Ideal S256x512 .f32
  /-- The decays over the chunk. -/
  F : FVec Ideal S256x512 .f32
  /-- The gate's input. -/
  Z : FVec Ideal S256x512 .f32
  /-- The direct term's factors. -/
  P : FVec Ideal S1x512 .f32
  /-- The norm's weights. -/
  W : FVec Ideal S1x512 .f32

/-- The group's state after `n` chunks of the block. -/
def stC (K : Blocks) (g : Fin 2) (R : FVec Ideal S128x256 .f32) : ℕ → FVec Ideal S128x256 .f32
  | 0 => R
  | n + 1 => stT (stC K g R n) (eC n g K.F) (updT (bC n g K.X) (wC n g K.U))

/-- What a chunk's own rows contribute, for a pair of heads. -/
def ynC (K : Blocks) (c : ℕ) (g p : Fin 2) : FVec Ideal S64x128 .f32 :=
  ynT (cbT (bC c g K.X) (cC c g K.X)) (gdT (gC c g p 0 K.G) (gC c g p 1 K.G) (tC c g p 0 K.H) (tC c g p 1 K.H)) (xC c g p K.D)

/-- The group's gated rows on chunk `c`. -/
def yC (K : Blocks) (g : Fin 2) (R : FVec Ideal S128x256 .f32) (c : ℕ) : FVec Ideal S64x256 .f32 :=
  yT (ynC K c g 0) (ynC K c g 1) (cC c g K.X) (stC K g R c) (wC c g K.E) (wC c g K.I) (wC c g K.Z) (rC g K.P)

/-- The group's finished rows on chunk `c`. -/
def tile (K : Blocks) (g : Fin 2) (R : FVec Ideal S128x256 .f32) (c : ℕ) : FVec Ideal S64x256 .f32 := nT (yC K g R c) (rC g K.W)

section
variable (A : FVec Ideal ⟨2, ![8192, 7168]⟩ .f32) (N : FVec Ideal ⟨3, ![2, 32, 1792]⟩ .f32)

/-- The blocks hold the mixer's numbers at point `t`'s rows. -/
structure Good (t : ℕ) (K : Blocks) : Prop where
  hX : ∀ (i : Fin 256) (j : Fin 1024), K.X (ix2 i j) = xbF A N (256 * t + i.val) j.val
  hI : ∀ (i : Fin 256) (j : Fin 512), K.I (ix2 i j) = xbF A N (256 * t + i.val) j.val
  hG : ∀ (i : Fin 256) (h : Fin 8), K.G (ix2 i ⟨h.val, by omega⟩) = gF A N h.val (4 * t + i.val / 64) (i.val % 64)
  hH : ∀ (i : Fin 256) (h : Fin 8), K.H (ix2 ⟨h.val, by omega⟩ i) = gF A N h.val (4 * t + i.val / 64) (i.val % 64)
  hD : ∀ (i : Fin 256) (j : Fin 512), K.D (ix2 i j) = xdF A N parts (256 * t + i.val) j.val
  hU : ∀ (i : Fin 256) (j : Fin 512), K.U (ix2 i j) = xdF A N parts (256 * t + i.val) j.val
    * Ideal.exp (gF A N (j.val / 64) (4 * t + i.val / 64) 63 - gF A N (j.val / 64) (4 * t + i.val / 64) (i.val % 64))
  hE : ∀ (i : Fin 256) (j : Fin 512), K.E (ix2 i j) = Ideal.exp (gF A N (j.val / 64) (4 * t + i.val / 64) (i.val % 64))
  hF : ∀ (i : Fin 256) (j : Fin 512), K.F (ix2 i j) = Ideal.exp (gF A N (j.val / 64) (4 * t + i.val / 64) 63)
  hZ : ∀ (i : Fin 256) (j : Fin 512), K.Z (ix2 i j) = at2 A (256 * t + i.val) (6144 + j.val)
  hP : ∀ j : Fin 512, K.P (ix2 0 j) = at3 N 0 15 j.val
  hW : ∀ j : Fin 512, K.W (ix2 0 j) = at3 N 0 16 j.val

/-- The group's state is the mixer's before chunk `n`. -/
def Holds (g : Fin 2) (n : ℕ) (R : FVec Ideal S128x256 .f32) : Prop :=
  ∀ (s : Fin 128) (b : Fin 256), R (ix2 s b) = stF A N parts n s.val (256 * g.val + b.val)

/-- A slice of the channels, entry by entry. -/
theorem bC_at (X : FVec Ideal S256x1024 .f32) (c : ℕ) (hc : c < 4) (g : Fin 2) (r : Fin 64) (s : Fin 128) :
    bC c g X (ix2 r s) = X (ix2 ⟨64 * c + r.val, by omega⟩ ⟨512 + 128 * g.val + s.val, by omega⟩) := by
  pointwise [bC]
  exact congrArg X (congrArg₂ ix2 (Fin.ext (by show 64 * (c % 4) + r.val = _; rw [Nat.mod_eq_of_lt hc])) rfl)
/-- A slice of the output maps, entry by entry. -/
theorem cC_at (X : FVec Ideal S256x1024 .f32) (c : ℕ) (hc : c < 4) (g : Fin 2) (r : Fin 64) (s : Fin 128) :
    cC c g X (ix2 r s) = X (ix2 ⟨64 * c + r.val, by omega⟩ ⟨768 + 128 * g.val + s.val, by omega⟩) := by
  pointwise [cC]
  exact congrArg X (congrArg₂ ix2 (Fin.ext (by show 64 * (c % 4) + r.val = _; rw [Nat.mod_eq_of_lt hc])) rfl)
/-- A slice of the group's channels, entry by entry. -/
theorem wC_at (X : FVec Ideal S256x512 .f32) (c : ℕ) (hc : c < 4) (g : Fin 2) (r : Fin 64) (s : Fin 256) :
    wC c g X (ix2 r s) = X (ix2 ⟨64 * c + r.val, by omega⟩ ⟨256 * g.val + s.val, by omega⟩) := by
  pointwise [wC]
  exact congrArg X (congrArg₂ ix2 (Fin.ext (by show 64 * (c % 4) + r.val = _; rw [Nat.mod_eq_of_lt hc])) rfl)
/-- Its first row, entry by entry. -/
theorem eC_at (X : FVec Ideal S256x512 .f32) (c : ℕ) (hc : c < 4) (g : Fin 2) (s : Fin 256) :
    eC c g X (ix2 0 s) = X (ix2 ⟨64 * c, by omega⟩ ⟨256 * g.val + s.val, by omega⟩) := by
  pointwise [eC]
  exact congrArg X (congrArg₂ ix2 (Fin.ext (by show 64 * (c % 4) = _; rw [Nat.mod_eq_of_lt hc])) rfl)
/-- A slice of a pair's channels, entry by entry. -/
theorem xC_at (X : FVec Ideal S256x512 .f32) (c : ℕ) (hc : c < 4) (g p : Fin 2) (r : Fin 64) (s : Fin 128) :
    xC c g p X (ix2 r s) = X (ix2 ⟨64 * c + r.val, by omega⟩ ⟨256 * g.val + 128 * p.val + s.val, by omega⟩) := by
  pointwise [xC]
  exact congrArg X (congrArg₂ ix2 (Fin.ext (by show 64 * (c % 4) + r.val = _; rw [Nat.mod_eq_of_lt hc])) rfl)
/-- A slice of a parameter row, entry by entry. -/
theorem rC_at (X : FVec Ideal S1x512 .f32) (g : Fin 2) (s : Fin 256) : rC g X (ix2 0 s) = X (ix2 0 ⟨256 * g.val + s.val, by omega⟩) := by
  pointwise [rC]
/-- One head's column, entry by entry. -/
theorem gC_at (X : FVec Ideal S256x128 .f32) (c : ℕ) (hc : c < 4) (g p u : Fin 2) (r : Fin 64) :
    gC c g p u X (ix2 r 0) = X (ix2 ⟨64 * c + r.val, by omega⟩ ⟨4 * g.val + 2 * p.val + u.val, by omega⟩) := by
  pointwise [gC]
  exact congrArg X (congrArg₂ ix2 (Fin.ext (by show 64 * (c % 4) + r.val = _; rw [Nat.mod_eq_of_lt hc])) rfl)
/-- One head's row, entry by entry. -/
theorem tC_at (X : FVec Ideal S128x256 .f32) (c : ℕ) (hc : c < 4) (g p u : Fin 2) (r : Fin 64) :
    tC c g p u X (ix2 0 r) = X (ix2 ⟨4 * g.val + 2 * p.val + u.val, by omega⟩ ⟨64 * c + r.val, by omega⟩) := by
  pointwise [tC]
  exact congrArg X (congrArg₂ ix2 rfl (Fin.ext (by show 64 * (c % 4) + r.val = _; rw [Nat.mod_eq_of_lt hc])))

variable {A N}
variable {t : ℕ} {K : Blocks} (hK : Good A N t K)
include hK

/-- The input maps of a chunk. -/
theorem b_good (c : ℕ) (hc : c < 4) (g : Fin 2) (r : Fin 64) (s : Fin 128) :
    bC c g K.X (ix2 r s) = bF A N g.val ((4 * t + c) * 64 + r.val) s.val := by
  rw [bC_at _ c hc, hK.hX]
  show xbF A N (256 * t + (64 * c + r.val)) _ = xbF A N _ _
  congr 1; omega
/-- The output maps of a chunk. -/
theorem c_good (c : ℕ) (hc : c < 4) (g : Fin 2) (r : Fin 64) (s : Fin 128) :
    cC c g K.X (ix2 r s) = cF A N g.val ((4 * t + c) * 64 + r.val) s.val := by
  rw [cC_at _ c hc, hK.hX]
  show xbF A N (256 * t + (64 * c + r.val)) _ = xbF A N _ _
  congr 1; omega
/-- The logarithms of a chunk, by rows. -/
theorem g_good (c : ℕ) (hc : c < 4) (g p u : Fin 2) (r : Fin 64) :
    gC c g p u K.G (ix2 r 0) = gF A N (4 * g.val + 2 * p.val + u.val) (4 * t + c) r.val := by
  rw [gC_at _ c hc]
  refine (hK.hG ⟨64 * c + r.val, by omega⟩ ⟨4 * g.val + 2 * p.val + u.val, by omega⟩).trans ?_
  show gF A N _ (4 * t + (64 * c + r.val) / 64) ((64 * c + r.val) % 64) = _
  congr 1 <;> omega
/-- By columns. -/
theorem t_good (c : ℕ) (hc : c < 4) (g p u : Fin 2) (r : Fin 64) :
    tC c g p u K.H (ix2 0 r) = gF A N (4 * g.val + 2 * p.val + u.val) (4 * t + c) r.val := by
  rw [tC_at _ c hc]
  refine (hK.hH ⟨64 * c + r.val, by omega⟩ ⟨4 * g.val + 2 * p.val + u.val, by omega⟩).trans ?_
  show gF A N _ (4 * t + (64 * c + r.val) / 64) ((64 * c + r.val) % 64) = _
  congr 1 <;> omega

/-- What the chunk's own rows contribute is the mixer's. -/
theorem yn_good (c : ℕ) (hc : c < 4) (g p u : Fin 2) (r e : Fin 64) :
    ynC K c g p (ix2 r (lane u e)) = intraF A N parts (4 * t + c) r.val (256 * g.val + (128 * p.val + (64 * u.val + e.val))) := by
  unfold ynC intraF
  rw [ynT_at]
  have e1 : (256 * g.val + (128 * p.val + (64 * u.val + e.val))) / 256 = g.val := by omega
  have e2 : (256 * g.val + (128 * p.val + (64 * u.val + e.val))) / 64 = 4 * g.val + 2 * p.val + u.val := by omega
  rw [e1, e2]
  refine Finset.sum_congr rfl fun x _ => ?_
  refine congrArg₂ (· * ·) (congrArg₂ (· * ·) ?_ ?_) ?_
  · rw [cbT_at]
    unfold cbF
    exact Finset.sum_congr rfl fun s _ => congrArg₂ (· * ·) (c_good hK c hc g r s) (b_good hK c hc g x s)
  · unfold decF
    obtain rfl | rfl := two u
    · rw [gdT_at0, g_good hK c hc, t_good hK c hc]
    · rw [gdT_at1, g_good hK c hc, t_good hK c hc]
  · rw [xC_at _ c hc, hK.hD]
    show xdF A N parts (256 * t + (64 * c + x.val)) (256 * g.val + 128 * p.val + (64 * u.val + e.val)) = _
    congr 1 <;> omega

/-- One chunk takes the state to the mixer's next one. -/
theorem state_step {R : FVec Ideal S128x256 .f32} {g : Fin 2} (c : ℕ) (hc : c < 4) (hR : Holds A N g (4 * t + c) R) :
    Holds A N g (4 * t + (c + 1)) (stT R (eC c g K.F) (updT (bC c g K.X) (wC c g K.U))) := by
  intro s b
  rw [stT_at, hR, eC_at _ c hc, hK.hF, updT_at]
  show _ = stF A N parts (4 * t + c) s.val (256 * g.val + b.val) * _ + updF A N parts (4 * t + c) s.val (256 * g.val + b.val)
  refine congrArg₂ (· + ·) (congrArg (_ * ·) ?_) ?_
  · show Ideal.exp (gF A N _ (4 * t + 64 * c / 64) 63) = _
    rw [show 64 * c / 64 = c by omega]
    rfl
  · unfold updF
    refine Finset.sum_congr rfl fun x _ => ?_
    rw [b_good hK c hc, wC_at _ c hc, hK.hU]
    show _ * (xdF A N parts (256 * t + (64 * c + x.val)) (256 * g.val + b.val) * Ideal.exp (gF A N ((256 * g.val + b.val) / 64) (4 * t + (64 * c + x.val) / 64) 63
      - gF A N ((256 * g.val + b.val) / 64) (4 * t + (64 * c + x.val) / 64) ((64 * c + x.val) % 64))) = _
    rw [show (256 * g.val + b.val) / 256 = g.val by omega, show (64 * c + x.val) / 64 = c by omega, show (64 * c + x.val) % 64 = x.val by omega,
      show 256 * t + (64 * c + x.val) = (4 * t + c) * 64 + x.val by omega]

/-- After `n` chunks of the block the state is the mixer's. -/
theorem state_chain {R : FVec Ideal S128x256 .f32} {g : Fin 2} (hR : Holds A N g (4 * t) R) : ∀ c, c ≤ 4 → Holds A N g (4 * t + c) (stC K g R c)
  | 0, _ => hR
  | c + 1, h => state_step hK c (by omega) (state_chain hR c (by omega))

/-- The gated rows are the mixer's. -/
theorem y_good {R : FVec Ideal S128x256 .f32} {g : Fin 2} (hR : Holds A N g (4 * t) R) (c : ℕ) (hc : c < 4) (r : Fin 64) (x : Fin 256) :
    yC K g R c (ix2 r x) = yF A N parts (4 * t + c) r.val (256 * g.val + x.val) := by
  have hS := state_chain hK hR c (by omega)
  obtain ⟨p, u, e, rfl⟩ : ∃ (p u : Fin 2) (e : Fin 64), x = quad p u e :=
    ⟨⟨x.val / 128, by omega⟩, ⟨x.val % 128 / 64, by omega⟩, ⟨x.val % 64, by omega⟩, Fin.ext (by show _ = 128 * (x.val / 128) + (64 * (x.val % 128 / 64) + x.val % 64); omega)⟩
  unfold yC yF oF
  rw [yT_at]
  have hy : (match p with | 0 => ynC K c g 0 | 1 => ynC K c g 1) (ix2 r (lane u e))
      = intraF A N parts (4 * t + c) r.val (256 * g.val + (quad p u e).val) := by
    obtain rfl | rfl := two p
    · exact yn_good hK c hc g 0 u r e
    · exact yn_good hK c hc g 1 u r e
  have row : 256 * t + (64 * c + r.val) = (4 * t + c) * 64 + r.val := by omega
  refine congrArg₂ (· * ·) (congrArg₂ (· + ·) (congrArg₂ (· + ·) hy (congrArg₂ (· * ·) (Finset.sum_congr rfl fun s _ => ?_) ?_)) (congrArg₂ (· * ·) ?_ ?_)) (congrArg silu ?_)
  · rw [c_good hK c hc, hS, show (256 * g.val + (quad p u e).val) / 256 = g.val by have := (quad p u e).isLt; omega]
  · rw [wC_at _ c hc, hK.hE]
    show Ideal.exp (gF A N _ (4 * t + (64 * c + r.val) / 64) ((64 * c + r.val) % 64)) = _
    rw [show (64 * c + r.val) / 64 = c by omega, show (64 * c + r.val) % 64 = r.val by omega]
  · rw [rC_at, hK.hP]
  · rw [wC_at _ c hc, hK.hI]
    exact congrArg (fun n => xbF A N n (256 * g.val + (quad p u e).val)) row
  · rw [wC_at _ c hc, hK.hZ]
    exact congrArg (fun n => at2 A n (6144 + (256 * g.val + (quad p u e).val))) row

/-- The finished rows are the mixer's. -/
theorem tile_at {R : FVec Ideal S128x256 .f32} {g : Fin 2} (hR : Holds A N g (4 * t) R) (c : ℕ) (hc : c < 4) (r : Fin 64) (e : Fin 256) :
    tile K g R c (ix2 r e) = outF A N parts g.val (4 * t + c) r.val e := by
  unfold tile outF
  rw [nT_at, rC_at, hK.hW]
  exact congrArg (fun f : Fin 256 → EReal => normed f e * _) (funext fun x => y_good hK hR c hc r x)

end

end Cert.Proof.Ssd
end
-- ==== Proof.SsdRead.lean ====
/-
  What the state-space kernel's input blocks hold: the projections' columns at the point's rows, the layer's parameter rows, and
  the matrices of zeros and ones the host makes.
-/
module

public import proofs.«01_k».proof.Proof.SsdPoint
public import Idealize.ShloMosaic.Lib.StableHlo.RunRead
public import Idealize.ShloMosaic.Lib.Tactic.CleanTypes
public import Idealize.ShloMosaic.Lib.StableHlo.RunClose
public import Idealize.ShloMosaic.Lib.Pipeline.ValueKit

@[expose] public section

set_option maxRecDepth 16384

noncomputable section

namespace Cert.Proof.Ssd

open Idealize.ShloMosaic Idealize.ShloMosaic.TcCoe Idealize.ShloMosaic.StableHlo Idealize.ShloMosaic.Pipeline Idealize.ShloMosaic.Pointwise
open Cert.Kernel5Ideal Cert.Kernel5Ideal.Gen
open Cert.Proof.Ret (at2 at3 at2_ix at3_ix)

/-- Every window's block index at a point. -/
theorem idx : ∀ t : Fin cfg0.N, win0_0.index t = ![t.val, 12] ∧ win0_1.index t = ![t.val, 3] ∧ win0_2.index t = ![t.val, 53]
    ∧ win0_3.index t = ![0, 0, 0] ∧ win0_4.index t = ![0, 0] ∧ win0_5.index t = ![0, 0] ∧ win0_6.index t = ![0, 0]
    ∧ win0_7.index t = ![t.val, 0] ∧ t.val < 32 :=
  (by decide +kernel : ∀ t : Fin grid0.N, _)

variable (m : (β : Loc nD τ sig) → Buf (Elt Ideal) β) (c : Dev nD)

/-- The projections. -/
def projs : FVec Ideal S8192x7168 .f32 := m ((c : Thread nD τ).loc main_arg0)
/-- The layers' parameters. -/
def pars : FVec Ideal S2x32x1792 .f32 := m ((c : Thread nD τ).loc main_arg1)

/-- The block of the gate's input. -/
theorem blk0_at (t : Fin cfg0.N) (i : Fin 256) (j : Fin 512) :
    (show FVec Ideal S256x512 .f32 from iblk m c 0 t) (ix2 i j) = at2 (projs m c) (256 * t.val + i.val) (6144 + j.val) := by
  refine Eq.trans (b := projs m c (ix2 ⟨256 * t.val + i.val, by have := (idx t).2.2.2.2.2.2.2.2; omega⟩ ⟨6144 + j.val, by omega⟩)) ?_ (at2_ix _ _ _)
  unfold projs
  blk_ext [iblk, V, idx t]

/-- The block of the convolution's input. -/
theorem blk1_at (t : Fin cfg0.N) (i : Fin 256) (j : Fin 1024) :
    (show FVec Ideal S256x1024 .f32 from iblk m c 1 t) (ix2 i j) = at2 (projs m c) (256 * t.val + i.val) (3072 + j.val) := by
  refine Eq.trans (b := projs m c (ix2 ⟨256 * t.val + i.val, by have := (idx t).2.2.2.2.2.2.2.2; omega⟩ ⟨3072 + j.val, by omega⟩)) ?_ (at2_ix _ _ _)
  unfold projs
  blk_ext [iblk, V, idx t]

/-- The block of the time steps' input. -/
theorem blk2_at (t : Fin cfg0.N) (i : Fin 256) (j : Fin 128) :
    (show FVec Ideal S256x128 .f32 from iblk m c 2 t) (ix2 i j) = at2 (projs m c) (256 * t.val + i.val) (6784 + j.val) := by
  refine Eq.trans (b := projs m c (ix2 ⟨256 * t.val + i.val, by have := (idx t).2.2.2.2.2.2.2.2; omega⟩ ⟨6784 + j.val, by omega⟩)) ?_ (at2_ix _ _ _)
  unfold projs
  blk_ext [iblk, V, idx t]

/-- The parameter rows. -/
theorem blk3_at (t : Fin cfg0.N) (k : Fin 32) (j : Fin 1792) :
    (show FVec Ideal S1x32x1792 .f32 from iblk m c 3 t) (ix3 0 k j) = at3 (pars m c) 0 k.val j.val := by
  refine Eq.trans (b := pars m c (ix3 0 k j)) ?_ (at3_ix _ _ _ _)
  unfold pars
  blk_ext [iblk, V, idx t]

/-- The host's program before the call. -/
abbrev hostAll : List (HloOp τ sig (Elt Ideal)) := [hostOps0, hostOps0_1, hostOps0_2, hostOps0_3, hostOps0_4, hostOps0_5, hostOps0_6].flatten

/-- The chunk-wise triangle in given contents. -/
def triV (W : Valuation τ sig (Elt Ideal)) : FVec Ideal S256x256 .bf16 := StableHlo.after hostAll W (Proc.devRef .tc main_v13)
/-- The unit matrix in given contents. -/
def eyeV (W : Valuation τ sig (Elt Ideal)) : FVec Ideal S256x256 .bf16 := StableHlo.after hostAll W (Proc.devRef .tc main_v19)
/-- The heads' columns in given contents. -/
def expandV (W : Valuation τ sig (Elt Ideal)) : FVec Ideal S128x512 .bf16 := StableHlo.after hostAll W (Proc.devRef .tc main_v28)

/-- Rounding division by 64 as the host writes it. -/
def q64 (w : BitVec 32) : BitVec 32 := Scalar.select
    (IntOp.andi
      (IntOp.cmpi CmpIPredicate.ne
        (if w = 0 then 0 else if w.msb = true then -1 else 1 : BitVec 32)
        (if 64#32 = 0 then 0 else if (64#32).msb = true then -1 else 1 : BitVec 32))
      (IntOp.cmpi CmpIPredicate.ne (IntOp.remsi ArithUnit.host w 64#32) 0#32))
    (IntOp.subi (IntOp.divsi ArithUnit.host w 64#32) 1#32)
    (IntOp.divsi ArithUnit.host w 64#32)
/-- Of a position it is the quotient. -/
theorem quotient : ∀ n : Fin 512, q64 (BitVec.ofNat 32 n.val) = BitVec.ofNat 32 (n.val / 64) := by decide +kernel

/-- Comparing two small positions. -/
theorem same_word (a b : ℕ) (ha : a < 512) (hb : b < 512) :
    IntOp.cmpi CmpIPredicate.eq (BitVec.ofNat 32 a) (BitVec.ofNat 32 b) = if a = b then 1#1 else 0#1 := by
  by_cases h : a = b
  · subst h; rw [if_pos rfl]; simp [IntOp.cmpi]
  · rw [if_neg h]
    have : (BitVec.ofNat 32 a == BitVec.ofNat 32 b) = false := by
      refine beq_eq_false_iff_ne.mpr fun q => h ?_
      have := congrArg BitVec.toNat q
      simp only [BitVec.toNat_ofNat] at this
      omega
    simp [IntOp.cmpi, this]

/-- A small position's word, read signed. -/
theorem signed_word : ∀ a : Fin 256, (BitVec.ofNat 32 a.val).toInt = (a.val : ℤ) := by decide +kernel

/-- Ordering two small positions. -/
theorem order_word (a b : Fin 256) :
    IntOp.cmpi CmpIPredicate.sge (BitVec.ofNat 32 a.val) (BitVec.ofNat 32 b.val) = if b.val ≤ a.val then 1#1 else 0#1 := by
  have e : (BitVec.ofNat 32 b.val).sle (BitVec.ofNat 32 a.val) = decide (b.val ≤ a.val) := by
    unfold BitVec.sle
    rw [signed_word, signed_word]
    simp only [Int.ofNat_le]
  show BitVec.ofBool ((BitVec.ofNat 32 b.val).sle (BitVec.ofNat 32 a.val)) = _
  rw [e]
  by_cases h : b.val ≤ a.val <;> simp [h]

/-- The number of a one-bit word. -/
theorem bit_num (p : Prop) [Decidable p] (f : FTy) : FloatOps.uitofp (F := Ideal) f (if p then 1#1 else 0#1) = (if p then 1 else 0 : EReal) := by
  by_cases h : p
  · rw [if_pos h, if_pos h]
    show (((1#1 : BitVec 1).toNat : ℝ) : EReal) = 1
    simp
  · rw [if_neg h, if_neg h]
    show (((0#1 : BitVec 1).toNat : ℝ) : EReal) = 0
    simp

/-- The triangle, entry by entry. -/
theorem tri_table (W : Valuation τ sig (Elt Ideal)) (i j : Fin 256) :
    triV W (ix2 i j) = if i.val / 64 = j.val / 64 ∧ j.val ≤ i.val then 1 else 0 := by
  unfold triV
  after_reads_simp
  try simp only [TRef.toBuf, TRef.ofBuf, TRef.of, cast_eq, id_eq]
  pointwise
  show FloatOps.uitofp (F := Ideal) FTy.bf16 (IntOp.andi (IntOp.cmpi CmpIPredicate.eq (q64 (BitVec.ofNat 32 i.val)) (q64 (BitVec.ofNat 32 j.val)))
    (IntOp.cmpi CmpIPredicate.sge (BitVec.ofNat 32 i.val) (BitVec.ofNat 32 j.val))) = _
  rw [quotient ⟨i.val, by omega⟩, quotient ⟨j.val, by omega⟩, same_word _ _ (by show i.val / 64 < 512; omega) (by show j.val / 64 < 512; omega), order_word]
  refine Eq.trans (congrArg (FloatOps.uitofp (F := Ideal) FTy.bf16) ?_) (bit_num _ _)
  show IntOp.andi (if i.val / 64 = j.val / 64 then 1#1 else 0#1) (if j.val ≤ i.val then 1#1 else 0#1) = _
  by_cases h1 : i.val / 64 = j.val / 64 <;> by_cases h2 : j.val ≤ i.val <;> simp [h1, h2, IntOp.andi]
/-- The unit matrix, entry by entry. -/
theorem eye_table (W : Valuation τ sig (Elt Ideal)) (i j : Fin 256) : eyeV W (ix2 i j) = if i = j then 1 else 0 := by
  unfold eyeV
  after_reads_simp
  try simp only [TRef.toBuf, TRef.ofBuf, TRef.of, cast_eq, id_eq]
  pointwise
  rw [show IntOp.addi (BitVec.ofNat 32 i.val) 0#32 = BitVec.ofNat 32 i.val from BitVec.add_zero _, same_word _ _ (by omega) (by omega)]
  refine (bit_num _ _).trans ?_
  simp only [Fin.ext_iff]
/-- The heads' columns, entry by entry. -/
theorem expand_table (W : Valuation τ sig (Elt Ideal)) (h : Fin 128) (j : Fin 512) : expandV W (ix2 h j) = if h.val = j.val / 64 then 1 else 0 := by
  unfold expandV
  after_reads_simp
  try simp only [TRef.toBuf, TRef.ofBuf, TRef.of, cast_eq, id_eq]
  pointwise
  show FloatOps.uitofp (F := Ideal) FTy.bf16 (IntOp.cmpi CmpIPredicate.eq (BitVec.ofNat 32 h.val) (q64 (BitVec.ofNat 32 j.val))) = _
  rw [quotient j, same_word _ _ (by omega) (by omega)]
  exact bit_num _ _

/-- The block of the triangle. -/
theorem blk4_at (t : Fin cfg0.N) (i j : Fin 256) :
    (show FVec Ideal S256x256 .bf16 from iblk m c 4 t) (ix2 i j) = if i.val / 64 = j.val / 64 ∧ j.val ≤ i.val then 1 else 0 := by
  refine Eq.trans (b := triV (fun b => m (c, b)) (ix2 i j)) ?_ (tri_table _ _ _)
  blk_ext [iblk, idx t]
/-- The block of the unit matrix. -/
theorem blk5_at (t : Fin cfg0.N) (i j : Fin 256) :
    (show FVec Ideal S256x256 .bf16 from iblk m c 5 t) (ix2 i j) = if i = j then 1 else 0 := by
  refine Eq.trans (b := eyeV (fun b => m (c, b)) (ix2 i j)) ?_ (eye_table _ _ _)
  blk_ext [iblk, idx t]
/-- The block of the heads' columns. -/
theorem blk6_at (t : Fin cfg0.N) (h : Fin 128) (j : Fin 512) :
    (show FVec Ideal S128x512 .bf16 from iblk m c 6 t) (ix2 h j) = if h.val = j.val / 64 then 1 else 0 := by
  refine Eq.trans (b := expandV (fun b => m (c, b)) (ix2 h j)) ?_ (expand_table _ _ _)
  blk_ext [iblk, idx t]

end Cert.Proof.Ssd
end
-- ==== Proof.SsdNum.lean ====
/-
  What a point of the state-space kernel computes before its chunks, from the blocks it is given: the convolved channels, the time
  steps, the decays' logarithms summed within chunks and spread over rows, columns and channels. The kernel sums and spreads by
  products with matrices of zeros and ones, on numbers split in three parts that add up again.
-/
module

public import proofs.«01_k».proof.Proof.SsdPoint

@[expose] public section

set_option maxRecDepth 16384

noncomputable section

namespace Cert.Proof.Ssd

open Idealize.ShloMosaic Idealize.ShloMosaic.Pointwise
open Cert.Kernel5Ideal Cert.Kernel5Ideal.Gen
open Cert.Proof.Ret (at2 at3 at2_ix at3_ix silu)

/-- What a point reads. -/
structure Inputs where
  /-- The convolution's weights. -/
  cw : FVec Ideal S1x4x1024 .f32
  /-- Its offsets. -/
  cb : FVec Ideal S1x1x1024 .f32
  /-- The rows. -/
  x8 : FVec Ideal S256x1024 .f32
  /-- The rows three earlier. -/
  x5 : FVec Ideal S256x1024 .f32
  /-- The rows two earlier. -/
  x6 : FVec Ideal S256x1024 .f32
  /-- The rows one earlier. -/
  x7 : FVec Ideal S256x1024 .f32
  /-- The time steps' inputs. -/
  dt : FVec Ideal S256x128 .f32
  /-- Their offsets. -/
  db : FVec Ideal S1x1x128 .f32
  /-- The logarithms of the decay rates. -/
  al : FVec Ideal S1x1x128 .f32
  /-- The chunk-wise triangle. -/
  tri : FVec Ideal S256x256 .bf16
  /-- The unit matrix. -/
  eye : FVec Ideal S256x256 .bf16
  /-- The heads' columns. -/
  ex : FVec Ideal S128x512 .bf16
  /-- The gate's input. -/
  z : FVec Ideal S256x512 .f32
  /-- The direct term's factors. -/
  dw : FVec Ideal S1x1x512 .f32
  /-- The norm's weights. -/
  nw : FVec Ideal S1x1x512 .f32

/-- The convolved and gated channels. -/
def Inputs.x (I : Inputs) : FVec Ideal S256x1024 .f32 := k0_pay7 (k0_pay5 I.cw I.x8 I.x5 I.x6 I.x7) (k0_pay6 I.cb)
/-- The mixer's inputs. -/
def Inputs.i (I : Inputs) : FVec Ideal S256x512 .f32 := k0_pay9 (k0_pay5 I.cw I.x8 I.x5 I.x6 I.x7) (k0_pay6 I.cb)
/-- The time steps. -/
def Inputs.d (I : Inputs) : FVec Ideal S256x128 .f32 := k0_pay12 I.dt I.db
/-- The decays' logarithms. -/
def Inputs.g (I : Inputs) : FVec Ideal S256x128 .f32 := k0_pay14 I.d (k0_pay13 I.tri) I.al
/-- Logarithms and steps spread over the channels. -/
def Inputs.w (I : Inputs) : FVec Ideal S512x512 .f32 :=
  k0_pay22 (k0_pay17 I.ex) (k0_pay18 I.d (k0_pay13 I.tri) I.al) (k0_pay20 I.d (k0_pay13 I.tri) I.al) (k0_pay21 I.d (k0_pay13 I.tri) I.al)
    (constant S512x512 FTy.f32 0#32)

/-- The logarithms at the chunks' ends. -/
def Inputs.e (I : Inputs) : FVec Ideal S256x512 .f32 :=
  k0_pay24 (k0_pay17 I.ex) (k0_pay18 I.d (k0_pay13 I.tri) I.al) (k0_pay20 I.d (k0_pay13 I.tri) I.al) (k0_pay21 I.d (k0_pay13 I.tri) I.al)
    (constant S512x512 FTy.f32 0#32)

/-- What the point computes before its chunks. -/
def Inputs.blocks (I : Inputs) : Blocks where
  X := k0_pay7 (k0_pay5 I.cw I.x8 I.x5 I.x6 I.x7) (k0_pay6 I.cb)
  I := k0_pay9 (k0_pay5 I.cw I.x8 I.x5 I.x6 I.x7) (k0_pay6 I.cb)
  G := k0_pay14 (k0_pay12 I.dt I.db) (k0_pay13 I.tri) I.al
  H := k0_pay15 (k0_pay12 I.dt I.db) (k0_pay13 I.tri) I.al I.eye
  D := k0_pay25 (k0_pay9 (k0_pay5 I.cw I.x8 I.x5 I.x6 I.x7) (k0_pay6 I.cb)) (k0_pay17 I.ex) (k0_pay18 (k0_pay12 I.dt I.db) (k0_pay13 I.tri) I.al)
    (k0_pay20 (k0_pay12 I.dt I.db) (k0_pay13 I.tri) I.al) (k0_pay21 (k0_pay12 I.dt I.db) (k0_pay13 I.tri) I.al) (constant S512x512 FTy.f32 0#32)
  U := k0_pay26 (k0_pay9 (k0_pay5 I.cw I.x8 I.x5 I.x6 I.x7) (k0_pay6 I.cb)) (k0_pay17 I.ex) (k0_pay18 (k0_pay12 I.dt I.db) (k0_pay13 I.tri) I.al)
    (k0_pay20 (k0_pay12 I.dt I.db) (k0_pay13 I.tri) I.al) (k0_pay21 (k0_pay12 I.dt I.db) (k0_pay13 I.tri) I.al) (constant S512x512 FTy.f32 0#32)
  E := k0_pay27 (k0_pay17 I.ex) (k0_pay18 (k0_pay12 I.dt I.db) (k0_pay13 I.tri) I.al)
    (k0_pay20 (k0_pay12 I.dt I.db) (k0_pay13 I.tri) I.al) (k0_pay21 (k0_pay12 I.dt I.db) (k0_pay13 I.tri) I.al) (constant S512x512 FTy.f32 0#32)
  F := k0_pay28 (k0_pay17 I.ex) (k0_pay18 (k0_pay12 I.dt I.db) (k0_pay13 I.tri) I.al)
    (k0_pay20 (k0_pay12 I.dt I.db) (k0_pay13 I.tri) I.al) (k0_pay21 (k0_pay12 I.dt I.db) (k0_pay13 I.tri) I.al) (constant S512x512 FTy.f32 0#32)
  Z := I.z
  P := k0_pay29 I.dw
  W := k0_pay30 I.nw

/-- A sum of the rows of one's own chunk up to one's own. -/
theorem sum_chunk (i : Fin 256) (f : ℕ → EReal) :
    (∑ k : Fin 256, if i.val / 64 = k.val / 64 ∧ k.val ≤ i.val then f k.val else 0)
      = ∑ x : Fin 64, if x.val ≤ i.val % 64 then f (64 * (i.val / 64) + x.val) else 0 := by
  symm
  refine Finset.sum_of_injOn (fun x : Fin 64 => (⟨64 * (i.val / 64) + x.val, by omega⟩ : Fin 256)) (fun a _ b _ h => Fin.ext ?_) (fun _ _ => Finset.mem_coe.2 (Finset.mem_univ _)) ?_ ?_
  · have := congrArg Fin.val h
    dsimp only at this
    omega
  · intro k _ hk
    refine if_neg fun h => hk ⟨⟨k.val % 64, by omega⟩, by simp, Fin.ext ?_⟩
    show 64 * (i.val / 64) + k.val % 64 = k.val
    omega
  · intro x _
    dsimp only
    by_cases h : x.val ≤ i.val % 64
    · rw [if_pos h, if_pos (by omega)]
    · rw [if_neg h, if_neg (by omega)]

section
variable (A : FVec Ideal ⟨2, ![8192, 7168]⟩ .f32) (N : FVec Ideal ⟨3, ![2, 32, 1792]⟩ .f32)

/-- The point's blocks hold the arguments' rows and the host's matrices. -/
structure Fed (t : ℕ) (I : Inputs) : Prop where
  ht : t < 32
  hcw : ∀ (k : Fin 4) (j : Fin 1024), I.cw (ix3 0 k j) = at3 N 0 (8 + k.val) j.val
  hcb : ∀ j : Fin 1024, I.cb (ix3 0 0 j) = at3 N 0 12 j.val
  h8 : ∀ (i : Fin 256) (j : Fin 1024), I.x8 (ix2 i j) = past A (256 * t + i.val + 3) j.val
  h5 : ∀ (i : Fin 256) (j : Fin 1024), I.x5 (ix2 i j) = past A (256 * t + i.val) j.val
  h6 : ∀ (i : Fin 256) (j : Fin 1024), I.x6 (ix2 i j) = past A (256 * t + i.val + 1) j.val
  h7 : ∀ (i : Fin 256) (j : Fin 1024), I.x7 (ix2 i j) = past A (256 * t + i.val + 2) j.val
  hdt : ∀ (i : Fin 256) (j : Fin 128), I.dt (ix2 i j) = at2 A (256 * t + i.val) (6784 + j.val)
  hdb : ∀ j : Fin 128, I.db (ix3 0 0 j) = at3 N 0 14 j.val
  hal : ∀ j : Fin 128, I.al (ix3 0 0 j) = at3 N 0 13 j.val
  htri : ∀ i j : Fin 256, I.tri (ix2 i j) = if i.val / 64 = j.val / 64 ∧ j.val ≤ i.val then 1 else 0
  heye : ∀ i j : Fin 256, I.eye (ix2 i j) = if i = j then 1 else 0
  hex : ∀ (h : Fin 128) (j : Fin 512), I.ex (ix2 h j) = if h.val = j.val / 64 then 1 else 0
  hz : ∀ (i : Fin 256) (j : Fin 512), I.z (ix2 i j) = at2 A (256 * t + i.val) (6144 + j.val)
  hdw : ∀ j : Fin 512, I.dw (ix3 0 0 j) = at3 N 0 15 j.val
  hnw : ∀ j : Fin 512, I.nw (ix3 0 0 j) = at3 N 0 16 j.val

variable {A N}
variable {t : ℕ} {I : Inputs} (hI : Fed A N t I)
include hI

/-- The channels are the mixer's. -/
theorem x_fed (i : Fin 256) (j : Fin 1024) : I.x (ix2 i j) = xbF A N (256 * t + i.val) j.val := by
  have e : I.x (ix2 i j) = silu (I.x8 (ix2 i j) * I.cw (ix3 0 3 j) + I.x5 (ix2 i j) * I.cw (ix3 0 0 j) + I.x6 (ix2 i j) * I.cw (ix3 0 1 j)
      + I.x7 (ix2 i j) * I.cw (ix3 0 2 j) + I.cb (ix3 0 0 j)) := by
    pointwise [Inputs.x, k0_pay5, k0_pay6, k0_pay7]
    unfold silu
    rw [zero_sub]
  rw [e, hI.h8, hI.h5, hI.h6, hI.h7, hI.hcw, hI.hcw, hI.hcw, hI.hcw, hI.hcb]
  unfold xbF
  refine congrArg silu (congrArg (· + _) ?_)
  show past A (256 * t + i.val + 3) j.val * at3 N 0 11 j.val + past A (256 * t + i.val) j.val * at3 N 0 8 j.val
    + past A (256 * t + i.val + 1) j.val * at3 N 0 9 j.val + past A (256 * t + i.val + 2) j.val * at3 N 0 10 j.val = _
  abel

/-- So are the inputs. -/
theorem i_fed (i : Fin 256) (j : Fin 512) : I.i (ix2 i j) = xbF A N (256 * t + i.val) j.val := by
  have e : I.i (ix2 i j) = I.x (ix2 i ⟨j.val, by omega⟩) := by
    unfold Inputs.i k0_pay9
    show extractStridedSlice S256x512 ![0, 0] I.x slices_S256x1024_o0_0_S256x512 (ix2 i j) = _
    generalize I.x = X
    pointwise
  rw [e, x_fed hI]

/-- The time steps, at every lane. -/
theorem d_fed (i : Fin 256) (j : Fin 128) : I.d (ix2 i j) = dtF A N (256 * t + i.val) j.val := by
  have e : I.d (ix2 i j) = softp (I.dt (ix2 i j) + I.db (ix3 0 0 j)) := by
    pointwise [Inputs.d, k0_pay12]
    unfold softp
    rw [zero_sub]
    rfl
  rw [e, hI.hdt, hI.hdb]
  rfl

/-- The decays' logarithms. -/
theorem g_fed (i : Fin 256) (h : Fin 128) : I.g (ix2 i h) = gF A N h.val (4 * t + i.val / 64) (i.val % 64) := by
  have e : I.g (ix2 i h) = 0 + (∑ k : Fin 256, I.tri (ix2 i k) * (I.d (ix2 k h) * (0 - Ideal.exp (I.al (ix3 0 0 h)))))
      + (∑ k : Fin 256, I.tri (ix2 i k) * (I.d (ix2 k h) * (0 - Ideal.exp (I.al (ix3 0 0 h))) - I.d (ix2 k h) * (0 - Ideal.exp (I.al (ix3 0 0 h)))))
      + ∑ k : Fin 256, I.tri (ix2 i k) * ((I.d (ix2 k h) * (0 - Ideal.exp (I.al (ix3 0 0 h))) - I.d (ix2 k h) * (0 - Ideal.exp (I.al (ix3 0 0 h))))
        - (I.d (ix2 k h) * (0 - Ideal.exp (I.al (ix3 0 0 h))) - I.d (ix2 k h) * (0 - Ideal.exp (I.al (ix3 0 0 h))))) := by
    unfold Inputs.g
    generalize I.d = d
    pointwise [k0_pay13, k0_pay14]
  rw [e, zero_add, ← Finset.sum_add_distrib, ← Finset.sum_add_distrib]
  have s : ∀ k : Fin 256, I.d (ix2 k h) * (0 - Ideal.exp (I.al (ix3 0 0 h))) = dtF A N (256 * t + k.val) h.val * alF N h.val := fun k => by
    rw [d_fed hI, zero_sub, hI.hal]; rfl
  refine (Finset.sum_congr rfl fun k _ => ?_).trans ((sum_chunk i fun k => dtF A N (256 * t + k) h.val * alF N h.val).trans ?_)
  · rw [hI.htri, s]
    split
    · have := three_parts _ (step_ne_top A N (256 * t + k.val) h.val)
      rw [zero_add] at this
      rw [one_mul, one_mul, one_mul, this]
    · rw [zero_mul, zero_mul, zero_mul, zero_add, zero_add]
  · unfold gF
    refine Finset.sum_congr rfl fun x _ => ?_
    rw [show 256 * t + (64 * (i.val / 64) + x.val) = (4 * t + i.val / 64) * 64 + x.val by omega]

/-- The same by columns. -/
theorem h_fed (i : Fin 256) (h : Fin 128) : k0_pay15 I.d (k0_pay13 I.tri) I.al I.eye (ix2 h i) = gF A N h.val (4 * t + i.val / 64) (i.val % 64) := by
  have e : k0_pay15 I.d (k0_pay13 I.tri) I.al I.eye (ix2 h i) = 0 + (∑ k : Fin 256, I.g (ix2 k h) * I.eye (ix2 k i))
      + (∑ k : Fin 256, (I.g (ix2 k h) - I.g (ix2 k h)) * I.eye (ix2 k i))
      + ∑ k : Fin 256, ((I.g (ix2 k h) - I.g (ix2 k h)) - (I.g (ix2 k h) - I.g (ix2 k h))) * I.eye (ix2 k i) := by
    unfold k0_pay15
    rw [show k0_pay14 I.d (k0_pay13 I.tri) I.al = I.g from rfl]
    generalize I.g = g
    pointwise
  have h1 : I.eye (ix2 i i) = 1 := (hI.heye i i).trans (if_pos rfl)
  have h0 : ∀ k, k ≠ i → I.eye (ix2 k i) = 0 := fun k hk => (hI.heye k i).trans (if_neg hk)
  rw [e, sum_pick _ _ i h1 h0, sum_pick _ _ i h1 h0, sum_pick _ _ i h1 h0, g_fed hI, three_parts _ (gF_ne_top A N _ _ _)]

/-- One row spread over the channels. -/
theorem spread (j : Fin 512) (v : Fin 128 → EReal) :
    0 + (∑ k : Fin 128, v k * I.ex (ix2 k j)) + (∑ k : Fin 128, (v k - v k) * I.ex (ix2 k j))
      + (∑ k : Fin 128, ((v k - v k) - (v k - v k)) * I.ex (ix2 k j)) = parts (v ⟨j.val / 64, by omega⟩) := by
  have h1 : I.ex (ix2 ⟨j.val / 64, by omega⟩ j) = 1 := (hI.hex _ _).trans (if_pos rfl)
  have h0 : ∀ k : Fin 128, k ≠ ⟨j.val / 64, by omega⟩ → I.ex (ix2 k j) = 0 := fun k hk => (hI.hex k j).trans (if_neg fun q => hk (Fin.ext q))
  rw [sum_pick _ _ _ h1 h0, sum_pick _ _ _ h1 h0, sum_pick _ _ _ h1 h0, three_sum]

/-- The logarithms spread over the channels. -/
theorem w_fed (i : Fin 256) (j : Fin 512) : I.w (ix2 ⟨i.val, by omega⟩ j) = gF A N (j.val / 64) (4 * t + i.val / 64) (i.val % 64) := by
  have e : I.w (ix2 ⟨i.val, by omega⟩ j) = 0 + (∑ k : Fin 128, I.g (ix2 i k) * I.ex (ix2 k j))
      + (∑ k : Fin 128, (I.g (ix2 i k) - I.g (ix2 i k)) * I.ex (ix2 k j))
      + ∑ k : Fin 128, ((I.g (ix2 i k) - I.g (ix2 i k)) - (I.g (ix2 i k) - I.g (ix2 i k))) * I.ex (ix2 k j) := by
    unfold Inputs.w k0_pay22 k0_pay21 k0_pay20 k0_pay19 k0_pay18 k0_pay17 k0_pay16
    rw [show k0_pay14 I.d (k0_pay13 I.tri) I.al = I.g from rfl]
    generalize I.g = g
    generalize I.d = d
    pointwise
  rw [e, spread hI j (fun k => I.g (ix2 i k))]
  exact (congrArg parts (g_fed hI i ⟨j.val / 64, by omega⟩)).trans (if_neg (gF_ne_top A N _ _ _))

/-- The steps spread over the channels. -/
theorem w_fed' (i : Fin 256) (j : Fin 512) : I.w (ix2 ⟨256 + i.val, by omega⟩ j) = parts (dtF A N (256 * t + i.val) (j.val / 64)) := by
  have e : I.w (ix2 ⟨256 + i.val, by omega⟩ j) = 0 + (∑ k : Fin 128, I.d (ix2 i k) * I.ex (ix2 k j))
      + (∑ k : Fin 128, (I.d (ix2 i k) - I.d (ix2 i k)) * I.ex (ix2 k j))
      + ∑ k : Fin 128, ((I.d (ix2 i k) - I.d (ix2 i k)) - (I.d (ix2 i k) - I.d (ix2 i k))) * I.ex (ix2 k j) := by
    unfold Inputs.w k0_pay22 k0_pay21 k0_pay20 k0_pay19 k0_pay18 k0_pay17 k0_pay16
    rw [show k0_pay14 I.d (k0_pay13 I.tri) I.al = I.g from rfl]
    generalize I.g = g
    generalize I.d = d
    pointwise
  rw [e, spread hI j (fun k => I.d (ix2 i k))]
  exact congrArg parts (d_fed hI i ⟨j.val / 64, by omega⟩)

/-- The logarithm at each chunk's end, over the chunk's rows. -/
theorem e_fed (i : Fin 256) (j : Fin 512) : I.e (ix2 i j) = gF A N (j.val / 64) (4 * t + i.val / 64) 63 := by
  have e : I.e (ix2 i j) = I.w (ix2 ⟨64 * (i.val / 64) + 63, by omega⟩ j) := by
    unfold Inputs.e k0_pay24 k0_pay23
    pointwise
    have key : ∀ a : Fin 512, a.val = 64 * (i.val / 64) + 63 → I.w (ix2 a j) = I.w (ix2 ⟨64 * (i.val / 64) + 63, by omega⟩ j) :=
      fun a ha => congrArg (fun a => I.w (ix2 a j)) (Fin.ext ha)
    split
    · exact key _ (by show 63 = _; omega)
    · split
      · exact key _ (by show 127 = _; omega)
      · split
        · exact key _ (by show 191 = _; omega)
        · exact key _ (by show 255 = _; omega)
  rw [e]
  refine (w_fed hI ⟨64 * (i.val / 64) + 63, by omega⟩ j).trans ?_
  show gF A N _ (4 * t + (64 * (i.val / 64) + 63) / 64) ((64 * (i.val / 64) + 63) % 64) = _
  congr 1 <;> omega

/-- What the point computes before its chunks is the mixer's. -/
theorem blocks_good : Good A N t I.blocks where
  hX := x_fed hI
  hI := i_fed hI
  hG i h := g_fed hI i ⟨h.val, by omega⟩
  hH i h := h_fed hI i ⟨h.val, by omega⟩
  hD i j := by
    have e : I.blocks.D (ix2 i j) = I.i (ix2 i j) * I.w (ix2 ⟨256 + i.val, by omega⟩ j) := by
      show mulf I.i (extractStridedSlice S256x512 ![256, 0] I.w _) (ix2 i j) = _
      generalize I.i = x
      generalize I.w = w
      pointwise
    rw [e, i_fed hI, w_fed' hI]
    rfl
  hU i j := by
    have e : I.blocks.U (ix2 i j) = I.i (ix2 i j) * I.w (ix2 ⟨256 + i.val, by omega⟩ j) * Ideal.exp (I.e (ix2 i j) - I.w (ix2 ⟨i.val, by omega⟩ j)) := by
      show mulf (mulf I.i (extractStridedSlice S256x512 ![256, 0] I.w _)) (exp (subf I.e (extractStridedSlice S256x512 ![0, 0] I.w slices_S512x512_o0_0_S256x512))) (ix2 i j) = _
      generalize I.i = x
      generalize I.e = e
      generalize I.w = w
      pointwise
    rw [e, i_fed hI, w_fed' hI, e_fed hI, w_fed hI]
    rfl
  hE i j := by
    have e : I.blocks.E (ix2 i j) = Ideal.exp (I.w (ix2 ⟨i.val, by omega⟩ j)) := by
      show exp (extractStridedSlice S256x512 ![0, 0] I.w slices_S512x512_o0_0_S256x512) (ix2 i j) = _
      generalize I.w = w
      pointwise
    rw [e, w_fed hI]
  hF i j := by
    have e : I.blocks.F (ix2 i j) = Ideal.exp (I.e (ix2 i j)) := by
      show exp I.e (ix2 i j) = _
      generalize I.e = e
      pointwise
    rw [e, e_fed hI]
  hZ := hI.hz
  hP j := by
    refine Eq.trans ?_ (hI.hdw j)
    show k0_pay29 (F := Ideal) I.dw (ix2 0 j) = _
    pointwise [k0_pay29]
  hW j := by
    refine Eq.trans ?_ (hI.hnw j)
    show k0_pay30 (F := Ideal) I.nw (ix2 0 j) = _
    pointwise [k0_pay30]

end

end Cert.Proof.Ssd
end
-- ==== Proof.SsdTiles.lean ====
/-
  Each tile the state-space kernel stores is the group's finished rows on that chunk, and each group's stored state is the state
  after four chunks: the kernel's words for them, put in the one general form.
-/
module

public import proofs.«01_k».proof.Proof.SsdPoint

@[expose] public section

set_option maxRecDepth 16384

noncomputable section

namespace Cert.Proof.Ssd

open Idealize.ShloMosaic Idealize.ShloMosaic.Pointwise
open Cert.Kernel5Ideal Cert.Kernel5Ideal.Gen

variable (K : Blocks) (L : FVec Ideal S1x128x256 .f32)

/-- A group's stored state, as a matrix. -/
def mat : FVec Ideal S128x256 .f32 := shapeCast S128x256 L shapeCasts_S1x128x256_S128x256

/-- The first group's stored state. -/
theorem stored0 : k0_pay98 K.F (k0_pay55 K.U (k0_pay31 K.X)) (k0_pay57 K.U (k0_pay33 K.X)) (k0_pay59 K.U (k0_pay35 K.X)) (k0_pay61 K.U (k0_pay37 K.X)) L
    = shapeCast S1x128x256 (stC K 0 (mat L) 4) shapeCasts_S128x256_S1x128x256 := rfl
/-- The second group's stored state. -/
theorem stored1 : k0_pay103 K.F (k0_pay56 K.U (k0_pay32 K.X)) (k0_pay58 K.U (k0_pay34 K.X)) (k0_pay60 K.U (k0_pay36 K.X)) (k0_pay62 K.U (k0_pay38 K.X)) L
    = shapeCast S1x128x256 (stC K 1 (mat L) 4) shapeCasts_S128x256_S1x128x256 := rfl
/-- The first chunk of the first group. -/
theorem tile00 : k0_pay107 K.W (k0_pay104 K.I K.E K.Z K.P (k0_pay39 K.X) (k0_pay63 k0_pay10 k0_pay11 K.G K.H K.D (k0_pay47 (k0_pay31 K.X) (k0_pay39 K.X))) (k0_pay65 k0_pay10 k0_pay11 K.D (k0_pay47 (k0_pay31 K.X) (k0_pay39 K.X)) (k0_pay64 k0_pay10 K.G K.H) (FloatOps.ofBits FTy.f32 4286578688#32)) (k0_pay94 L)) (k0_pay105 K.I K.E K.Z K.P (k0_pay39 K.X) (k0_pay63 k0_pay10 k0_pay11 K.G K.H K.D (k0_pay47 (k0_pay31 K.X) (k0_pay39 K.X))) (k0_pay65 k0_pay10 k0_pay11 K.D (k0_pay47 (k0_pay31 K.X) (k0_pay39 K.X)) (k0_pay64 k0_pay10 K.G K.H) (FloatOps.ofBits FTy.f32 4286578688#32)) (k0_pay94 L)) k0_pay106
    = tile K 0 (mat L) 0 := rfl
/-- The first chunk of the second group. -/
theorem tile01 : k0_pay108 K.I K.E K.Z K.P K.W (k0_pay40 K.X) (k0_pay66 k0_pay10 k0_pay11 K.G K.H K.D (k0_pay48 (k0_pay32 K.X) (k0_pay40 K.X))) (k0_pay69 k0_pay10 (k0_pay67 k0_pay10 k0_pay11 K.G K.H (k0_pay48 (k0_pay32 K.X) (k0_pay40 K.X))) (k0_pay68 K.D) (FloatOps.ofBits FTy.f32 0#32)) (k0_pay99 L)
    = tile K 1 (mat L) 0 := rfl
/-- The second chunk of the first group. -/
theorem tile10 : k0_pay109 K.I K.E K.Z K.P K.W (k0_pay41 K.X) (k0_pay70 k0_pay10 k0_pay11 K.G K.H K.D (k0_pay49 (k0_pay33 K.X) (k0_pay41 K.X))) (k0_pay73 (k0_pay71 k0_pay10 k0_pay11 K.G K.H (k0_pay49 (k0_pay33 K.X) (k0_pay41 K.X))) (k0_pay72 k0_pay10 K.D)) (k0_pay95 K.F (k0_pay55 K.U (k0_pay31 K.X)) L)
    = tile K 0 (mat L) 1 := rfl
/-- The second chunk of the second group. -/
theorem tile11 : k0_pay112 K.W (k0_pay110 K.I K.E K.P (k0_pay42 K.X) (k0_pay74 k0_pay10 k0_pay11 K.G K.H K.D (k0_pay50 (k0_pay34 K.X) (k0_pay42 K.X))) (k0_pay75 k0_pay10 k0_pay11 K.G K.H K.D (k0_pay50 (k0_pay34 K.X) (k0_pay42 K.X))) (k0_pay100 K.F (k0_pay56 K.U (k0_pay32 K.X)) L)) (k0_pay111 K.Z)
    = tile K 1 (mat L) 1 := rfl
/-- The third chunk of the first group. -/
theorem tile20 : k0_pay115 K.W (k0_pay113 K.I K.E K.Z K.P (k0_pay43 K.X) (k0_pay78 k0_pay10 k0_pay11 K.H K.D (k0_pay51 (k0_pay35 K.X) (k0_pay43 K.X)) (k0_pay76 K.G) (k0_pay77 K.G)) (k0_pay79 k0_pay10 k0_pay11 K.G K.H K.D (k0_pay51 (k0_pay35 K.X) (k0_pay43 K.X))) (k0_pay96 K.F (k0_pay55 K.U (k0_pay31 K.X)) (k0_pay57 K.U (k0_pay33 K.X)) L)) (k0_pay114 K.I K.E K.Z K.P (k0_pay43 K.X) (k0_pay78 k0_pay10 k0_pay11 K.H K.D (k0_pay51 (k0_pay35 K.X) (k0_pay43 K.X)) (k0_pay76 K.G) (k0_pay77 K.G)) (k0_pay79 k0_pay10 k0_pay11 K.G K.H K.D (k0_pay51 (k0_pay35 K.X) (k0_pay43 K.X))) (k0_pay96 K.F (k0_pay55 K.U (k0_pay31 K.X)) (k0_pay57 K.U (k0_pay33 K.X)) L))
    = tile K 0 (mat L) 2 := rfl
/-- The third chunk of the second group. -/
theorem tile21 : k0_pay116 K.I K.E K.Z K.P K.W (k0_pay44 K.X) (k0_pay82 k0_pay10 k0_pay11 K.D (k0_pay52 (k0_pay36 K.X) (k0_pay44 K.X)) (k0_pay80 k0_pay10 K.G) (k0_pay81 K.H)) (k0_pay83 k0_pay10 k0_pay11 K.G K.H K.D (k0_pay52 (k0_pay36 K.X) (k0_pay44 K.X))) (k0_pay101 K.F (k0_pay56 K.U (k0_pay32 K.X)) (k0_pay58 K.U (k0_pay34 K.X)) L)
    = tile K 1 (mat L) 2 := rfl
/-- The fourth chunk of the first group. -/
theorem tile30 : k0_pay117 K.I K.E K.Z K.P K.W (k0_pay45 K.X) (k0_pay85 k0_pay10 K.D (k0_pay53 (k0_pay37 K.X) (k0_pay45 K.X)) (k0_pay84 k0_pay10 k0_pay11 K.G K.H)) (k0_pay86 k0_pay10 k0_pay11 K.G K.H K.D (k0_pay53 (k0_pay37 K.X) (k0_pay45 K.X))) (k0_pay97 K.F (k0_pay55 K.U (k0_pay31 K.X)) (k0_pay57 K.U (k0_pay33 K.X)) (k0_pay59 K.U (k0_pay35 K.X)) L)
    = tile K 0 (mat L) 3 := rfl
/-- The fourth chunk of the second group. -/
theorem tile31 : k0_pay1 K.Z K.W (k0_pay118 K.E (k0_pay46 K.X) (k0_pay92 (k0_pay87 k0_pay10 k0_pay11 K.G K.H (k0_pay54 (k0_pay38 K.X) (k0_pay46 K.X))) (k0_pay90 k0_pay10 K.D) (k0_pay91 k0_pay10 K.D)) (k0_pay93 k0_pay10 k0_pay11 K.G K.H K.D (k0_pay54 (k0_pay38 K.X) (k0_pay46 K.X))) (k0_pay102 K.F (k0_pay56 K.U (k0_pay32 K.X)) (k0_pay58 K.U (k0_pay34 K.X)) (k0_pay60 K.U (k0_pay36 K.X)) L)) (k0_pay119 K.P) (k0_pay120 K.I)
    = tile K 1 (mat L) 3 := rfl

end Cert.Proof.Ssd
end
-- ==== Proof.SsdState.lean ====
/-
  What the state-space kernel carries from point to point, the last rows of the convolution's input and the state, is the mixer's,
  and so is the block each point writes.
-/
module

public import proofs.«01_k».proof.Proof.SsdRead
public import proofs.«01_k».proof.Proof.SsdNum
public import proofs.«01_k».proof.Proof.SsdTiles
public import proofs.«01_k».proof.Proof.KState

@[expose] public section

set_option maxRecDepth 16384

noncomputable section

namespace Cert.Proof.Ssd

open Idealize.ShloMosaic Idealize.ShloMosaic.TcCoe Idealize.ShloMosaic.Pipeline Idealize.ShloMosaic.Pointwise
open Cert.Kernel5Ideal Cert.Kernel5Ideal.Gen
open Cert.Proof.Ret (at2 at3 at2_ix at3_ix canon_hide)

/-- The rectangle of a point's own rows in the convolution's buffer. -/
abbrev own : Rect S264x1024 := Rect.unit ![8, 0] ![256, 1024] inb_S264x1024_S256x1024_8_0
/-- The rectangle of the rows before them. -/
abbrev halo : Rect S264x1024 := Rect.unit ![0, 0] ![8, 1024] inb_S264x1024_S8x1024_0_0
/-- The rectangle of the last own rows. -/
abbrev last : Rect S264x1024 := Rect.unit ![256, 0] ![8, 1024] inb_S264x1024_S8x1024_256_0
/-- Two writes of the convolution's buffer are of this kind. -/
abbrev Piece := View.Piece (Elt Ideal) S264x1024 .f32

/-- The convolution's buffer: a point's own rows below what was there. -/
def extF (w : FVec Ideal S256x1024 .f32) (E : FVec Ideal S264x1024 .f32) : FVec Ideal S264x1024 .f32 := fun y =>
  if h : 8 ≤ (y 0).val then w (ix2 ⟨(y 0).val - 8, by have : (y 0).val < 264 := (y 0).isLt; omega⟩ (y 1)) else E y

/-- Own rows lie at row 8 and after. -/
theorem own_emb (y : S264x1024.Idx) (h : 8 ≤ (y 0).val) :
    own.emb (ix2 ⟨(y 0).val - 8, by have : (y 0).val < 264 := (y 0).isLt; omega⟩ (y 1)) = y := by
  refine funext fun b => Fin.ext ((Rect.idx_unit_val _ _ _ _ b).trans ?_)
  fin_cases b
  · show 8 + ((y 0).val - 8) = (y 0).val
    omega
  · show 0 + (y 1).val = (y 1).val
    omega
/-- Rows before are outside. -/
theorem own_not (y : S264x1024.Idx) (h : ¬ 8 ≤ (y 0).val) : y ∉ own.set := fun hy => by
  obtain ⟨x, rfl⟩ := own.exists_idx_of_mem hy
  have e : ((own.emb x) 0).val = 8 + (x 0).val := Rect.idx_unit_val _ _ _ x 0
  exact h ((Nat.le_add_right 8 _).trans e.ge)
/-- Rows before lie in the halo. -/
theorem halo_emb (y : S264x1024.Idx) (h : ¬ 8 ≤ (y 0).val) : halo.emb (ix2 ⟨(y 0).val, by omega⟩ (y 1)) = y := by
  refine funext fun b => Fin.ext ((Rect.idx_unit_val _ _ _ _ b).trans ?_)
  fin_cases b
  · show 0 + (y 0).val = (y 0).val
    omega
  · show 0 + (y 1).val = (y 1).val
    omega

/-- Storing a point's rows over earlier contents. -/
theorem ext_read (hw : (Memref.whole cc0_scratch0).IsWhole) (w : FVec Ideal S256x1024 .f32) (E : FVec Ideal S264x1024 .f32) :
    View.read (Elt Ideal) (View.whole cc0_scratch0) ((View.whole cc0_scratch0).writes (Elt Ideal) (hw.unread E) [(⟨own, w⟩ : Piece)])
      = extF w E := by
  refine funext fun y => ?_
  unfold extF
  by_cases h : 8 ≤ (y 0).val
  · rw [dif_pos h]
    conv_lhs => rw [← own_emb y h]
    exact View.read_writes_cons_emb _ _ _ _ _ _
  · rw [dif_neg h, View.writes_cons, View.read_slice_write_of_not_mem own _ _ _ (by rw [Rect.map_emb_univ]; exact own_not y h)]
    exact congrFun (read_unread_whole (Val := Elt Ideal) _ hw E) y

/-- Storing a point's rows after clearing the halo. -/
theorem ext_first (w : FVec Ideal S256x1024 .f32) (r : Rect S264x1024) :
    (View.whole cc0_scratch0).readCov [(⟨own, w⟩ : Piece), (⟨halo, k0_pay3 (F := Ideal)⟩ : Piece)] r.toLoadRect
      = View.ld (Val := Elt Ideal) (S := S264x1024) (e' := .f32) (extF w fun _ => 0) r := by
  rw [View.readCov_eq_canon']
  refine funext fun x => ?_
  show View.canon [(⟨own, w⟩ : Piece), (⟨halo, k0_pay3 (F := Ideal)⟩ : Piece)] (r.idx x) = extF w (fun _ => 0) (r.idx x)
  generalize r.idx x = y
  unfold extF
  by_cases h : 8 ≤ (y 0).val
  · rw [dif_pos h]
    conv_lhs => rw [← own_emb y h]
    exact View.canon_cons_emb _ _ _ _
  · rw [dif_neg h, View.canon_cons_of_not_mem (⟨own, w⟩ : Piece) _ (own_not y h)]
    conv_lhs => rw [← halo_emb y h]
    refine (View.canon_cons_emb _ _ _ _).trans ?_
    pointwise [k0_pay3]

/-- The rows kept for the next point are the last own rows. -/
theorem kept (w : FVec Ideal S256x1024 .f32) (L : List Piece) (k : Fin 8) (j : Fin 1024) :
    k0_pay8 (F := Ideal) ((View.whole cc0_scratch0).readCov ((⟨own, w⟩ : Piece) :: L) last.toLoadRect) (ix2 k j)
      = w (ix2 ⟨248 + k.val, by omega⟩ j) := by
  rw [View.readCov_eq_canon']
  have e : last.toLoadRect.idx (ix2 k j) = own.emb (ix2 ⟨248 + k.val, by omega⟩ j) := by
    refine funext fun b => Fin.ext ((Rect.idx_unit_val _ _ _ _ b).trans (Eq.trans ?_ (Rect.idx_unit_val _ _ _ _ b).symm))
    fin_cases b
    · show 256 + k.val = 8 + (248 + k.val)
      omega
    · rfl
  refine Eq.trans (b := View.canon ((⟨own, w⟩ : Piece) :: L) (own.emb (ix2 ⟨248 + k.val, by omega⟩ j))) ?_ (View.canon_cons_emb _ _ _ _)
  rw [← e]
  pointwise [k0_pay8]

/-- The halo's last three rows hold the rows before the point's. -/
def Halo (A : FVec Ideal ⟨2, ![8192, 7168]⟩ .f32) (t : ℕ) (E : FVec Ideal S264x1024 .f32) : Prop :=
  ∀ (k : Fin 3) (j : Fin 1024), E (ix2 ⟨5 + k.val, by omega⟩ j) = past A (256 * t + k.val) j.val

variable (m : (β : Loc nD τ sig) → Buf (Elt Ideal) β) (c : Dev nD) (t : Fin cfg0.N)

/-- What point `t` reads, over a halo. -/
def inp (E : FVec Ideal S264x1024 .f32) : Inputs where
  cw := View.ld (iblk m c 3 t) (Rect.unit ![0, 8, 0] ![1, 4, 1024] inb_S1x32x1792_S1x4x1024_0_8_0)
  cb := View.ld (iblk m c 3 t) (Rect.unit ![0, 12, 0] ![1, 1, 1024] inb_S1x32x1792_S1x1x1024_0_12_0)
  x8 := k0_pay4 (iblk m c 1 t)
  x5 := View.ld (Val := Elt Ideal) (S := S264x1024) (e' := .f32) (extF (k0_pay4 (iblk m c 1 t)) E) (Rect.unit ![5, 0] ![256, 1024] inb_S264x1024_S256x1024_5_0)
  x6 := View.ld (Val := Elt Ideal) (S := S264x1024) (e' := .f32) (extF (k0_pay4 (iblk m c 1 t)) E) (Rect.unit ![6, 0] ![256, 1024] inb_S264x1024_S256x1024_6_0)
  x7 := View.ld (Val := Elt Ideal) (S := S264x1024) (e' := .f32) (extF (k0_pay4 (iblk m c 1 t)) E) (Rect.unit ![7, 0] ![256, 1024] inb_S264x1024_S256x1024_7_0)
  dt := iblk m c 2 t
  db := View.ld (iblk m c 3 t) (Rect.unit ![0, 14, 0] ![1, 1, 128] inb_S1x32x1792_S1x1x128_0_14_0)
  al := View.ld (iblk m c 3 t) (Rect.unit ![0, 13, 0] ![1, 1, 128] inb_S1x32x1792_S1x1x128_0_13_0)
  tri := iblk m c 4 t
  eye := iblk m c 5 t
  ex := iblk m c 6 t
  z := iblk m c 0 t
  dw := View.ld (iblk m c 3 t) (Rect.unit ![0, 15, 0] ![1, 1, 512] inb_S1x32x1792_S1x1x512_0_15_0)
  nw := View.ld (iblk m c 3 t) (Rect.unit ![0, 16, 0] ![1, 1, 512] inb_S1x32x1792_S1x1x512_0_16_0)

/-- The point's own rows. -/
theorem own_at (i : Fin 256) (j : Fin 1024) : k0_pay4 (F := Ideal) (iblk m c 1 t) (ix2 i j) = past (projs m c) (256 * t.val + i.val + 3) j.val := by
  have e : k0_pay4 (F := Ideal) (iblk m c 1 t) (ix2 i j) = (show FVec Ideal S256x1024 .f32 from iblk m c 1 t) (ix2 i j) := by
    pointwise [k0_pay4]
  rw [e, blk1_at]
  unfold past
  rw [if_neg (by omega)]
  rfl

/-- The buffer's rows, from the third last of the halo on. -/
theorem ext_at {E : FVec Ideal S264x1024 .f32} (hE : Halo (projs m c) t.val E) (n : ℕ) (hn : 5 + n < 264) (j : Fin 1024) :
    extF (k0_pay4 (iblk m c 1 t)) E (ix2 ⟨5 + n, hn⟩ j) = past (projs m c) (256 * t.val + n) j.val := by
  by_cases h : 8 ≤ 5 + n
  · refine (dif_pos h).trans ?_
    refine (own_at m c t ⟨5 + n - 8, by omega⟩ j).trans ?_
    show past _ (256 * t.val + (5 + n - 8) + 3) _ = _
    congr 1; omega
  · refine (dif_neg h).trans ?_
    exact hE ⟨n, by omega⟩ j

/-- A row of the packed parameters, as loaded. -/
theorem par_ld (r n w : ℕ) (inb : _) (hr : r + n ≤ 32) (hw : w ≤ 1792) (a : Fin n) (j : Fin w) :
    (show FVec Ideal ⟨3, ![1, n, w]⟩ .f32 from View.ld (Val := Elt Ideal) (S := S1x32x1792) (e' := .f32) (iblk m c 3 t) (Rect.unit ![0, r, 0] ![1, n, w] inb)) (ix3 0 a j)
      = at3 (pars m c) 0 (r + a.val) j.val := by
  refine Eq.trans (b := (show FVec Ideal S1x32x1792 .f32 from iblk m c 3 t) (ix3 0 ⟨r + a.val, by omega⟩ ⟨j.val, by omega⟩)) ?_ (blk3_at m c t _ _)
  refine View.ld_unit_apply_of _ _ _ _ _ _ fun b => ?_
  fin_cases b
  · rfl
  · rfl
  · show j.val = 0 + j.val
    omega

/-- The convolution's input, some rows back, as loaded. -/
theorem ext_ld {E : FVec Ideal S264x1024 .f32} (hE : Halo (projs m c) t.val E) (o : ℕ) (ho : o < 3) (inb : _) (i : Fin 256) (j : Fin 1024) :
    (show FVec Ideal S256x1024 .f32 from View.ld (Val := Elt Ideal) (S := S264x1024) (e' := .f32) (extF (k0_pay4 (iblk m c 1 t)) E) (Rect.unit ![5 + o, 0] ![256, 1024] inb)) (ix2 i j)
      = past (projs m c) (256 * t.val + i.val + o) j.val := by
  refine Eq.trans ?_ ((ext_at m c t hE (i.val + o) (by omega) j).trans (by rw [Nat.add_assoc]))
  refine View.ld_unit_apply_of _ _ _ _ _ _ fun b => ?_
  fin_cases b
  · show 5 + (i.val + o) = 5 + o + i.val
    omega
  · show j.val = 0 + j.val
    omega

set_option maxHeartbeats 2000000 in
/-- What the point reads are the arguments' rows and the host's matrices. -/
theorem inp_fed {E : FVec Ideal S264x1024 .f32} (hE : Halo (projs m c) t.val E) : Fed (projs m c) (pars m c) t.val (inp m c t E) :=
  ⟨(idx t).2.2.2.2.2.2.2.2, fun k j => par_ld m c t 8 4 1024 _ (by omega) (by omega) k j, fun j => par_ld m c t 12 1 1024 _ (by omega) (by omega) 0 j,
    own_at m c t, fun i j => ext_ld m c t hE 0 (by omega) _ i j, fun i j => ext_ld m c t hE 1 (by omega) _ i j, fun i j => ext_ld m c t hE 2 (by omega) _ i j,
    blk2_at m c t, fun j => par_ld m c t 14 1 128 _ (by omega) (by omega) 0 j, fun j => par_ld m c t 13 1 128 _ (by omega) (by omega) 0 j,
    blk4_at m c t, blk5_at m c t, blk6_at m c t, blk0_at m c t,
    fun j => par_ld m c t 15 1 512 _ (by omega) (by omega) 0 j, fun j => par_ld m c t 16 1 512 _ (by omega) (by omega) 0 j⟩

/-- The mixer at a row and channel. -/
def outN (A : FVec Ideal ⟨2, ![8192, 7168]⟩ .f32) (N : FVec Ideal ⟨3, ![2, 32, 1792]⟩ .f32) (i j : ℕ) : EReal :=
  outF A N parts (j / 256) (i / 64) (i % 64) ⟨j % 256, Nat.mod_lt _ (by omega)⟩

/-- Both groups' states before chunk `n`. -/
def HoldsAll (n : ℕ) (S : FVec Ideal S2x128x256 .f32) : Prop :=
  ∀ (g : Fin 2) (a : Fin 128) (b : Fin 256), S (ix3 g a b) = stF (projs m c) (pars m c) parts n a.val (256 * g.val + b.val)

/-- The first group's part of the state's buffer. -/
def load0 (S : FVec Ideal S2x128x256 .f32) : FVec Ideal S1x128x256 .f32 :=
  View.ld (Val := Elt Ideal) (S := S2x128x256) (e' := .f32) S (Rect.unit ![0, 0, 0] ![1, 128, 256] inb_S2x128x256_S1x128x256_0_0_0)
/-- The second group's part of it. -/
def load1 (S : FVec Ideal S2x128x256 .f32) : FVec Ideal S1x128x256 .f32 :=
  View.ld (Val := Elt Ideal) (S := S2x128x256) (e' := .f32) S (Rect.unit ![1, 0, 0] ![1, 128, 256] inb_S2x128x256_S1x128x256_1_0_0)

/-- The first group's state, as loaded. -/
theorem load0_holds {n : ℕ} {S : FVec Ideal S2x128x256 .f32} (hS : HoldsAll m c n S) : Holds (projs m c) (pars m c) 0 n (mat (load0 S)) := fun a b => by
  refine Eq.trans ?_ (hS 0 a b)
  unfold mat load0
  pointwise
/-- The second group's state, as loaded. -/
theorem load1_holds {n : ℕ} {S : FVec Ideal S2x128x256 .f32} (hS : HoldsAll m c n S) : Holds (projs m c) (pars m c) 1 n (mat (load1 S)) := fun a b => by
  refine Eq.trans ?_ (hS 1 a b)
  unfold mat load1
  pointwise

/-- The state cleared to zero is the one before the first chunk. -/
theorem cleared : HoldsAll m c 0 k0_pay2 := fun g a b => by
  show _ = (0 : EReal)
  pointwise [k0_pay2]

/-- A stored state of a group, entry by entry. -/
theorem stored_at {E : FVec Ideal S264x1024 .f32} (hE : Halo (projs m c) t.val E) {g : Fin 2} {L : FVec Ideal S1x128x256 .f32}
    (hL : Holds (projs m c) (pars m c) g (4 * t.val) (mat L)) (x : S1x128x256.Idx) :
    shapeCast S1x128x256 (stC (inp m c t E).blocks g (mat L) 4) shapeCasts_S128x256_S1x128x256 x
      = stF (projs m c) (pars m c) parts (4 * t.val + 4) (x 1).val (256 * g.val + (x 2).val) := by
  refine Eq.trans ?_ (state_chain (blocks_good (inp_fed m c t hE)) hL 4 (le_refl _) (x 1) (x 2))
  rw [← ix3_eta x]
  pointwise

/-- A stored tile, entry by entry. -/
theorem tile_done {E : FVec Ideal S264x1024 .f32} (hE : Halo (projs m c) t.val E) {g : Fin 2} {k : ℕ} (hk : k < 4) {L : FVec Ideal S1x128x256 .f32}
    (hL : Holds (projs m c) (pars m c) g (4 * t.val) (mat L))
    (x : S64x256.Idx) (i j : ℕ) (hi : i = 64 * k + (x 0).val) (hj : j = 256 * g.val + (x 1).val) :
    tile (inp m c t E).blocks g (mat L) k x = outN (projs m c) (pars m c) (256 * t.val + i) j := by
  have e := tile_at (blocks_good (inp_fed m c t hE)) hL k hk (x 0) (x 1)
  rw [← ix2_eta x]
  refine e.trans ?_
  unfold outN
  have hx0 : (x 0).val < 64 := (x 0).isLt
  have hx1 : (x 1).val < 256 := (x 1).isLt
  have e1 : j / 256 = g.val := by omega
  have e2 : (256 * t.val + i) / 64 = 4 * t.val + k := by omega
  have e3 : (256 * t.val + i) % 64 = (x 0).val := by omega
  have e4 : (⟨j % 256, Nat.mod_lt _ (by omega)⟩ : Fin 256) = x 1 := Fin.ext (by show j % 256 = _; omega)
  rw [e1, e2, e3, e4]

end Cert.Proof.Ssd
end
-- ==== Proof.SsdSame.lean ====
/-
  The mixer with its time steps taken as they are and with the steps added up from their parts: an infinite step changes its
  sign, which changes the sign of infinite terms only; a row that holds an infinite entry is normalised to zero, so the
  results are equal.
-/
module

public import proofs.«01_k».proof.Proof.SsdMath

@[expose] public section

noncomputable section

namespace Cert.Proof.Ssd

open Idealize.ShloMosaic
open Cert.Proof.Ret (at2 at3 silu)

/-- Not a real number. -/
def Inf (x : EReal) : Prop := x = ⊤ ∨ x = ⊥
/-- Equal, or both infinite. -/
def Alike (x y : EReal) : Prop := x = y ∨ (Inf x ∧ Inf y)

/-- Adding to an infinite number leaves an infinite number. -/
theorem Inf.add {x : EReal} (h : Inf x) (y : EReal) : Inf (x + y) := by
  rcases h with rfl | rfl
  · induction y with
    | bot => exact Or.inr rfl
    | top => exact Or.inl rfl
    | coe r => exact Or.inl rfl
  · exact Or.inr (EReal.bot_add y)

/-- An infinite number times one that is not zero is infinite. -/
theorem Inf.mul {x : EReal} (h : Inf x) {y : EReal} (hy : y ≠ 0) : Inf (x * y) := by
  rcases lt_or_gt_of_ne hy with g | g <;> rcases h with rfl | rfl
  · exact Or.inr (EReal.top_mul_of_neg g)
  · exact Or.inl (EReal.bot_mul_of_neg g)
  · exact Or.inl (EReal.top_mul_of_pos g)
  · exact Or.inr (EReal.bot_mul_of_pos g)

/-- A number is like itself. -/
theorem Alike.refl (x : EReal) : Alike x x := Or.inl rfl

/-- Alike numbers times one number. -/
theorem Alike.mul {x y : EReal} (h : Alike x y) (z : EReal) : Alike (x * z) (y * z) := by
  rcases h with rfl | ⟨hx, hy⟩
  · exact Or.inl rfl
  · by_cases hz : z = 0
    · exact Or.inl (by rw [hz, mul_zero, mul_zero])
    · exact Or.inr ⟨hx.mul hz, hy.mul hz⟩

/-- One number times alike numbers. -/
theorem Alike.mul' (z : EReal) {x y : EReal} (h : Alike x y) : Alike (z * x) (z * y) := by
  rw [mul_comm z, mul_comm z]; exact h.mul z

/-- Sums of alike numbers. -/
theorem Alike.add {x y a b : EReal} (h : Alike x y) (k : Alike a b) : Alike (x + a) (y + b) := by
  rcases h with rfl | ⟨hx, hy⟩
  · rcases k with rfl | ⟨ha, hb⟩
    · exact Or.inl rfl
    · rw [add_comm x, add_comm x]; exact Or.inr ⟨ha.add x, hb.add x⟩
  · exact Or.inr ⟨hx.add a, hy.add b⟩

/-- Longer sums of alike numbers. -/
theorem Alike.sum {n : ℕ} (f g : Fin n → EReal) (h : ∀ i, Alike (f i) (g i)) : Alike (∑ i, f i) (∑ i, g i) := by
  classical
  refine Finset.induction_on (motive := fun s => Alike (∑ i ∈ s, f i) (∑ i ∈ s, g i)) Finset.univ (Alike.refl _) fun a s ha ih => ?_
  rw [Finset.sum_insert ha, Finset.sum_insert ha]
  exact (h a).add ih

/-- Alike numbers have equal squares. -/
theorem Alike.square {x y : EReal} (h : Alike x y) : x * x = y * y := by
  rcases h with rfl | ⟨rfl | rfl, rfl | rfl⟩ <;> simp

/-- A square is not negative. -/
theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- The word of 256. -/
theorem word_width : Ideal.ofBits FTy.f32 1132462080#32 = ((256 : ℝ) : EReal) := by
  simp [Ideal.ofBits, Ideal.ieee, -EReal.coe_mul]
  norm_num
/-- The word of the norm's small number is a real. -/
theorem word_small : ∃ r : ℝ, Ideal.ofBits FTy.f32 897988541#32 = (r : EReal) := ⟨_, by simp [Ideal.ofBits, Ideal.ieee]; rfl⟩

/-- A row with an infinite entry has no inverse mean square left. -/
theorem scale_zero (y : Fin 256 → EReal) (e : Fin 256) (h : Inf (y e)) :
    Ideal.rsqrt (Ideal.div (∑ x : Fin 256, y x * y x) (Ideal.ofBits FTy.f32 1132462080#32) + Ideal.ofBits FTy.f32 897988541#32) = 0 := by
  have hs : ∑ x : Fin 256, y x * y x = ⊤ := by
    refine top_le_iff.mp (le_trans (le_of_eq ?_) (Finset.single_le_sum (f := fun x => y x * y x) (fun x _ => square_nonneg _) (Finset.mem_univ e)))
    rcases h with h | h <;> simp [h]
  obtain ⟨r, hr⟩ := word_small
  rw [hs, word_width, hr]
  have hd : Ideal.div ⊤ ((256 : ℝ) : EReal) = ⊤ := by
    unfold Ideal.div
    rw [if_neg (by norm_num), ← EReal.coe_inv]
    exact EReal.top_mul_coe_of_pos (by norm_num)
  rw [hd, EReal.top_add_coe]
  rfl

/-- Alike rows normalise to the same. -/
theorem normed_alike (y z : Fin 256 → EReal) (h : ∀ x, Alike (y x) (z x)) (e : Fin 256) : normed y e = normed z e := by
  have hq : ∑ x : Fin 256, y x * y x = ∑ x : Fin 256, z x * z x := Finset.sum_congr rfl fun x _ => (h x).square
  rcases h e with g | ⟨gy, gz⟩
  · unfold normed; rw [hq, g]
  · unfold normed; rw [scale_zero y e gy, scale_zero z e gz, mul_zero, mul_zero]

section
variable (A : FVec Ideal ⟨2, ![8192, 7168]⟩ .f32) (N : FVec Ideal ⟨3, ![2, 32, 1792]⟩ .f32)

/-- A step and its parts' sum are alike. -/
theorem parts_alike (x : EReal) : Alike (parts x) (id x) := by
  unfold parts
  by_cases h : x = ⊤
  · rw [if_pos h, h]; exact Or.inr ⟨Or.inr rfl, Or.inl rfl⟩
  · rw [if_neg h]; exact Or.inl rfl

/-- The inputs times their steps are alike. -/
theorem xd_alike (t j : ℕ) : Alike (xdF A N parts t j) (xdF A N id t j) := (parts_alike _).mul' _

/-- The chunks' own contributions are alike. -/
theorem intra_alike (n r j : ℕ) : Alike (intraF A N parts n r j) (intraF A N id n r j) :=
  Alike.sum _ _ fun m => (xd_alike A N _ j).mul' _

/-- The contributions to the state are alike. -/
theorem upd_alike (n s j : ℕ) : Alike (updF A N parts n s j) (updF A N id n s j) :=
  Alike.sum _ _ fun m => ((xd_alike A N _ j).mul _).mul' _

/-- The states are alike. -/
theorem st_alike (s j : ℕ) : ∀ n, Alike (stF A N parts n s j) (stF A N id n s j)
  | 0 => Alike.refl _
  | n + 1 => ((st_alike s j n).mul _).add (upd_alike A N n s j)

/-- The gated outputs are alike. -/
theorem y_alike (n r j : ℕ) : Alike (yF A N parts n r j) (yF A N id n r j) :=
  (((intra_alike A N n r j).add ((Alike.sum _ _ fun s => (st_alike A N _ j n).mul' _).mul _)).add (Alike.refl _)).mul _

/-- The results are equal. -/
theorem same_result : result A N parts = result A N id := by
  refine funext fun j => ?_
  exact congrArg (· * _) (normed_alike _ _ (fun x => y_alike A N _ _ _) _)

end

end Cert.Proof.Ssd
end
-- ==== Proof.SsdCarry.lean ====
/-
  The state-space kernel's carried buffers and written block, point after point.
-/
module

public import proofs.«01_k».proof.Proof.SsdState
public import proofs.«01_k».proof.Proof.SsdSame

@[expose] public section

set_option maxRecDepth 16384

noncomputable section

namespace Cert.Proof.Ssd

open Idealize.ShloMosaic Idealize.ShloMosaic.TcCoe Idealize.ShloMosaic.Pipeline Idealize.ShloMosaic.Pointwise
open Cert.Kernel5Ideal Cert.Kernel5Ideal.Gen
open Cert.Proof.Ret (at2 at3 at2_ix at3_ix canon_hide)

variable (m : (β : Loc nD τ sig) → Buf (Elt Ideal) β) (c : Dev nD) (t : Fin cfg0.N)

/-- The halo after point `t` holds the rows before the next point's. -/
theorem halo_B (ht : ¬ t.val % 32 = 0) : Halo (projs m c) (t.val + 1) (outsAt0 m c t.val t.isLt).2.1 := fun k j => by
  rw [outsAt0_B m c t ht ht]
  frame_out
  have e : (ix2 ⟨5 + k.val, by omega⟩ j : S264x1024.Idx) = halo.emb (ix2 ⟨5 + k.val, by omega⟩ j) := (halo_emb _ (by show ¬ 8 ≤ 5 + k.val; omega)).symm
  rw [e]
  refine (View.canon_cons_emb _ _ _ _).trans ((kept _ _ _ _).trans ((own_at m c t _ _).trans ?_))
  show past _ (256 * t.val + (248 + (5 + k.val)) + 3) _ = past _ (256 * (t.val + 1) + k.val) _
  congr 1; omega

/-- After the first point likewise. -/
theorem halo_A (ht : t.val % 32 = 0) : Halo (projs m c) (t.val + 1) (outsAt0 m c t.val t.isLt).2.1 := fun k j => by
  rw [outsAt0_A m c t ht ht]
  frame_out
  have e : (ix2 ⟨5 + k.val, by omega⟩ j : S264x1024.Idx) = halo.emb (ix2 ⟨5 + k.val, by omega⟩ j) := (halo_emb _ (by show ¬ 8 ≤ 5 + k.val; omega)).symm
  rw [e]
  refine (View.canon_cons_emb _ _ _ _).trans ((kept _ _ _ _).trans ((own_at m c t _ _).trans ?_))
  show past _ (256 * t.val + (248 + (5 + k.val)) + 3) _ = past _ (256 * (t.val + 1) + k.val) _
  congr 1; omega

/-- The convolution's buffer before point `t`. -/
abbrev Eb : FVec Ideal S264x1024 .f32 := (outsAt0 m c (t.val - 1) (by omega)).2.1
/-- The state's buffer before point `t`. -/
abbrev Rb : FVec Ideal S2x128x256 .f32 := (outsAt0 m c (t.val - 1) (by omega)).2.2

/-- A later point takes the carried state four chunks on. -/
theorem state_B (ht : ¬ t.val % 32 = 0) (hE : Halo (projs m c) t.val (outsAt0 m c (t.val - 1) (by omega)).2.1)
    (hR : HoldsAll m c (4 * t.val) (outsAt0 m c (t.val - 1) (by omega)).2.2) (y : S2x128x256.Idx) :
    (show FVec Ideal S2x128x256 .f32 from (outsAt0 m c t.val t.isLt).2.2) y = stF (projs m c) (pars m c) parts (4 * t.val + 4) (y 1).val (256 * (y 0).val + (y 2).val) := by
  rw [outsAt0_B m c t ht ht]
  frame_out
  rw [read_unread_whole, View.readCov_cons_toLoadRect, ext_read]
  canon_tiles x h
  · have q := stored_at m c t hE (load1_holds m c hR) x
    have e := congrFun (stored1 (inp m c t (Eb m c t)).blocks (load1 (Rb m c t))) x
    rw [← e] at q
    dsimp only [Inputs.blocks, inp, load1] at q
    refine q.trans ?_
    rw [h0, h1, h2]
    have hx : (x 0).val < 1 := (x 0).isLt
    congr 1 <;> simp only [Fin.val_zero, Fin.val_one] <;> omega
  · have q := stored_at m c t hE (load0_holds m c hR) x
    have e := congrFun (stored0 (inp m c t (Eb m c t)).blocks (load0 (Rb m c t))) x
    rw [← e] at q
    dsimp only [Inputs.blocks, inp, load0] at q
    refine q.trans ?_
    rw [h0, h1, h2]
    have hx : (x 0).val < 1 := (x 0).isLt
    congr 1 <;> simp only [Fin.val_zero, Fin.val_one] <;> omega

/-- A later point writes the mixer's rows. -/
theorem written_B (ht : ¬ t.val % 32 = 0) (hE : Halo (projs m c) t.val (outsAt0 m c (t.val - 1) (by omega)).2.1)
    (hR : HoldsAll m c (4 * t.val) (outsAt0 m c (t.val - 1) (by omega)).2.2) (y : S256x512.Idx) :
    (show FVec Ideal S256x512 .f32 from (outsAt0 m c t.val t.isLt).1) y = outN (projs m c) (pars m c) (256 * t.val + (y 0).val) (y 1).val := by
  rw [outsAt0_B m c t ht ht]
  frame_out
  rw [read_unread_whole, View.readCov_cons_toLoadRect, ext_read]
  canon_tiles x h
  · have q := tile_done m c t hE (by decide : 3 < 4) (load1_holds m c hR) x _ _ rfl rfl
    have e := congrFun (tile31 (inp m c t (Eb m c t)).blocks (load1 (Rb m c t))) x
    rw [← e] at q
    dsimp only [Inputs.blocks, inp, load1] at q
    refine q.trans ?_
    rw [h0, h1]
    congr 1 <;> simp only [Fin.val_zero, Fin.val_one] <;> omega
  · have q := tile_done m c t hE (by decide : 3 < 4) (load0_holds m c hR) x _ _ rfl rfl
    have e := congrFun (tile30 (inp m c t (Eb m c t)).blocks (load0 (Rb m c t))) x
    rw [← e] at q
    dsimp only [Inputs.blocks, inp, load0] at q
    refine q.trans ?_
    rw [h0, h1]
    congr 1 <;> simp only [Fin.val_zero, Fin.val_one] <;> omega
  · have q := tile_done m c t hE (by decide : 2 < 4) (load1_holds m c hR) x _ _ rfl rfl
    have e := congrFun (tile21 (inp m c t (Eb m c t)).blocks (load1 (Rb m c t))) x
    rw [← e] at q
    dsimp only [Inputs.blocks, inp, load1] at q
    refine q.trans ?_
    rw [h0, h1]
    congr 1 <;> simp only [Fin.val_zero, Fin.val_one] <;> omega
  · have q := tile_done m c t hE (by decide : 2 < 4) (load0_holds m c hR) x _ _ rfl rfl
    have e := congrFun (tile20 (inp m c t (Eb m c t)).blocks (load0 (Rb m c t))) x
    rw [← e] at q
    dsimp only [Inputs.blocks, inp, load0] at q
    refine q.trans ?_
    rw [h0, h1]
    congr 1 <;> simp only [Fin.val_zero, Fin.val_one] <;> omega
  · have q := tile_done m c t hE (by decide : 1 < 4) (load1_holds m c hR) x _ _ rfl rfl
    have e := congrFun (tile11 (inp m c t (Eb m c t)).blocks (load1 (Rb m c t))) x
    rw [← e] at q
    dsimp only [Inputs.blocks, inp, load1] at q
    refine q.trans ?_
    rw [h0, h1]
    congr 1 <;> simp only [Fin.val_zero, Fin.val_one] <;> omega
  · have q := tile_done m c t hE (by decide : 1 < 4) (load0_holds m c hR) x _ _ rfl rfl
    have e := congrFun (tile10 (inp m c t (Eb m c t)).blocks (load0 (Rb m c t))) x
    rw [← e] at q
    dsimp only [Inputs.blocks, inp, load0] at q
    refine q.trans ?_
    rw [h0, h1]
    congr 1 <;> simp only [Fin.val_zero, Fin.val_one] <;> omega
  · have q := tile_done m c t hE (by decide : 0 < 4) (load1_holds m c hR) x _ _ rfl rfl
    have e := congrFun (tile01 (inp m c t (Eb m c t)).blocks (load1 (Rb m c t))) x
    rw [← e] at q
    dsimp only [Inputs.blocks, inp, load1] at q
    refine q.trans ?_
    rw [h0, h1]
    congr 1 <;> simp only [Fin.val_zero, Fin.val_one] <;> omega
  · have q := tile_done m c t hE (by decide : 0 < 4) (load0_holds m c hR) x _ _ rfl rfl
    have e := congrFun (tile00 (inp m c t (Eb m c t)).blocks (load0 (Rb m c t))) x
    rw [← e] at q
    dsimp only [Inputs.blocks, inp, load0] at q
    refine q.trans ?_
    rw [h0, h1]
    congr 1 <;> simp only [Fin.val_zero, Fin.val_one] <;> omega

/-- The first point's halo is zero. -/
theorem halo_zero (hT : t.val = 0) : Halo (projs m c) t.val (fun _ => 0) := fun k j => by
  unfold past
  rw [if_pos (by omega)]

/-- The first point makes the first chunks' state. -/
theorem state_A (hT : t.val = 0) (y : S2x128x256.Idx) :
    (show FVec Ideal S2x128x256 .f32 from (outsAt0 m c t.val t.isLt).2.2) y = stF (projs m c) (pars m c) parts (4 * t.val + 4) (y 1).val (256 * (y 0).val + (y 2).val) := by
  have ht : t.val % 32 = 0 := by omega
  have hE := halo_zero m c t hT
  have hR : HoldsAll m c (4 * t.val) k0_pay2 := by rw [hT]; exact cleared m c
  rw [outsAt0_A m c t ht ht]
  frame_out
  rw [canon_hide _ _ _ y (View.cover_of_tiled _ ![1, 128, 256] (by rfl) y)]
  rw [View.readCov_cons_toLoadRect, ext_first _ (Rect.unit ![5, 0] ![256, 1024] inb_S264x1024_S256x1024_5_0),
    ext_first _ (Rect.unit ![6, 0] ![256, 1024] inb_S264x1024_S256x1024_6_0), ext_first _ (Rect.unit ![7, 0] ![256, 1024] inb_S264x1024_S256x1024_7_0),
    View.readCov_skip _ _ _ _ _ (by rfl), View.readCov_fill _ _ _ _ _ (by decide), View.readCov_fill _ _ _ _ _ (by decide)]
  canon_tiles x h
  · have q := stored_at m c t hE (load1_holds m c hR) x
    have e := congrFun (stored1 (inp m c t (fun _ => 0)).blocks (load1 k0_pay2)) x
    rw [← e] at q
    dsimp only [Inputs.blocks, inp, load1] at q
    refine q.trans ?_
    rw [h0, h1, h2]
    have hx : (x 0).val < 1 := (x 0).isLt
    congr 1 <;> simp only [Fin.val_zero, Fin.val_one] <;> omega
  · have q := stored_at m c t hE (load0_holds m c hR) x
    have e := congrFun (stored0 (inp m c t (fun _ => 0)).blocks (load0 k0_pay2)) x
    rw [← e] at q
    dsimp only [Inputs.blocks, inp, load0] at q
    refine q.trans ?_
    rw [h0, h1, h2]
    have hx : (x 0).val < 1 := (x 0).isLt
    congr 1 <;> simp only [Fin.val_zero, Fin.val_one] <;> omega

/-- The first point writes the mixer's rows. -/
theorem written_A (hT : t.val = 0) (y : S256x512.Idx) :
    (show FVec Ideal S256x512 .f32 from (outsAt0 m c t.val t.isLt).1) y = outN (projs m c) (pars m c) (256 * t.val + (y 0).val) (y 1).val := by
  have ht : t.val % 32 = 0 := by omega
  have hE := halo_zero m c t hT
  have hR : HoldsAll m c (4 * t.val) k0_pay2 := by rw [hT]; exact cleared m c
  rw [outsAt0_A m c t ht ht]
  frame_out
  rw [View.readCov_cons_toLoadRect, ext_first _ (Rect.unit ![5, 0] ![256, 1024] inb_S264x1024_S256x1024_5_0),
    ext_first _ (Rect.unit ![6, 0] ![256, 1024] inb_S264x1024_S256x1024_6_0), ext_first _ (Rect.unit ![7, 0] ![256, 1024] inb_S264x1024_S256x1024_7_0),
    View.readCov_skip _ _ _ _ _ (by rfl), View.readCov_fill _ _ _ _ _ (by decide), View.readCov_fill _ _ _ _ _ (by decide)]
  canon_tiles x h
  · have q := tile_done m c t hE (by decide : 3 < 4) (load1_holds m c hR) x _ _ rfl rfl
    have e := congrFun (tile31 (inp m c t (fun _ => 0)).blocks (load1 k0_pay2)) x
    rw [← e] at q
    dsimp only [Inputs.blocks, inp, load1] at q
    refine q.trans ?_
    rw [h0, h1]
    congr 1 <;> simp only [Fin.val_zero, Fin.val_one] <;> omega
  · have q := tile_done m c t hE (by decide : 3 < 4) (load0_holds m c hR) x _ _ rfl rfl
    have e := congrFun (tile30 (inp m c t (fun _ => 0)).blocks (load0 k0_pay2)) x
    rw [← e] at q
    dsimp only [Inputs.blocks, inp, load0] at q
    refine q.trans ?_
    rw [h0, h1]
    congr 1 <;> simp only [Fin.val_zero, Fin.val_one] <;> omega
  · have q := tile_done m c t hE (by decide : 2 < 4) (load1_holds m c hR) x _ _ rfl rfl
    have e := congrFun (tile21 (inp m c t (fun _ => 0)).blocks (load1 k0_pay2)) x
    rw [← e] at q
    dsimp only [Inputs.blocks, inp, load1] at q
    refine q.trans ?_
    rw [h0, h1]
    congr 1 <;> simp only [Fin.val_zero, Fin.val_one] <;> omega
  · have q := tile_done m c t hE (by decide : 2 < 4) (load0_holds m c hR) x _ _ rfl rfl
    have e := congrFun (tile20 (inp m c t (fun _ => 0)).blocks (load0 k0_pay2)) x
    rw [← e] at q
    dsimp only [Inputs.blocks, inp, load0] at q
    refine q.trans ?_
    rw [h0, h1]
    congr 1 <;> simp only [Fin.val_zero, Fin.val_one] <;> omega
  · have q := tile_done m c t hE (by decide : 1 < 4) (load1_holds m c hR) x _ _ rfl rfl
    have e := congrFun (tile11 (inp m c t (fun _ => 0)).blocks (load1 k0_pay2)) x
    rw [← e] at q
    dsimp only [Inputs.blocks, inp, load1] at q
    refine q.trans ?_
    rw [h0, h1]
    congr 1 <;> simp only [Fin.val_zero, Fin.val_one] <;> omega
  · have q := tile_done m c t hE (by decide : 1 < 4) (load0_holds m c hR) x _ _ rfl rfl
    have e := congrFun (tile10 (inp m c t (fun _ => 0)).blocks (load0 k0_pay2)) x
    rw [← e] at q
    dsimp only [Inputs.blocks, inp, load0] at q
    refine q.trans ?_
    rw [h0, h1]
    congr 1 <;> simp only [Fin.val_zero, Fin.val_one] <;> omega
  · have q := tile_done m c t hE (by decide : 0 < 4) (load1_holds m c hR) x _ _ rfl rfl
    have e := congrFun (tile01 (inp m c t (fun _ => 0)).blocks (load1 k0_pay2)) x
    rw [← e] at q
    dsimp only [Inputs.blocks, inp, load1] at q
    refine q.trans ?_
    rw [h0, h1]
    congr 1 <;> simp only [Fin.val_zero, Fin.val_one] <;> omega
  · have q := tile_done m c t hE (by decide : 0 < 4) (load0_holds m c hR) x _ _ rfl rfl
    have e := congrFun (tile00 (inp m c t (fun _ => 0)).blocks (load0 k0_pay2)) x
    rw [← e] at q
    dsimp only [Inputs.blocks, inp, load0] at q
    refine q.trans ?_
    rw [h0, h1]
    congr 1 <;> simp only [Fin.val_zero, Fin.val_one] <;> omega

/-- The carried rows and state after each point are those before the next. -/
theorem carried : ∀ (n : ℕ) (hn : n < cfg0.N), Halo (projs m c) (n + 1) (outsAt0 m c n hn).2.1 ∧ HoldsAll m c (4 * n + 4) (outsAt0 m c n hn).2.2
  | 0, hn => ⟨halo_A m c ⟨0, hn⟩ rfl, fun g a b => state_A m c ⟨0, hn⟩ rfl (ix3 g a b)⟩
  | n + 1, hn => by
    have hN : cfg0.N = 32 := rfl
    obtain ⟨e1, e2⟩ := carried n (by omega)
    exact ⟨halo_B m c ⟨n + 1, hn⟩ (by show ¬ (n + 1) % 32 = 0; omega),
      fun g a b => state_B m c ⟨n + 1, hn⟩ (by show ¬ (n + 1) % 32 = 0; omega) e1 e2 (ix3 g a b)⟩

/-- Each point writes the mixer's rows. -/
theorem written_at (y : S256x512.Idx) :
    (show FVec Ideal S256x512 .f32 from (outsAt0 m c t.val t.isLt).1) y = outN (projs m c) (pars m c) (256 * t.val + (y 0).val) (y 1).val := by
  have hN : cfg0.N = 32 := rfl
  have ht := t.isLt
  by_cases h0 : t.val = 0
  · exact written_A m c t h0 y
  · obtain ⟨e1, e2⟩ := carried m c (t.val - 1) (by omega)
    refine written_B m c t (by omega) ?_ ?_ y
    · rwa [show t.val - 1 + 1 = t.val by omega] at e1
    · rwa [show 4 * (t.val - 1) + 4 = 4 * t.val by omega] at e2

/-- After all points the result array holds the mixer's output. -/
theorem array_done : (dats m 0 c).arrAt 7 cfg0.N = result (projs m c) (pars m c) parts := by
  refine (dats m 0 c).arrAt_eq_of_covers 7 _ (by decide +kernel) fun t hf y => ?_
  blk_simp
  rw [after0_7]
  have e0 : (((win0_7.blk t).view.emb y) 0).val = 256 * t.val + (y 0).val :=
    (win0_7.rect_emb_val_off t y 0).trans (by rw [(idx t).2.2.2.2.2.2.2.1]; show t.val * 256 + (y 0).val = _; omega)
  have e1 : (((win0_7.blk t).view.emb y) 1).val = (y 1).val :=
    (win0_7.rect_emb_val_off t y 1).trans (by rw [(idx t).2.2.2.2.2.2.2.1]; show 0 * 512 + (y 1).val = _; omega)
  refine (written_at m c t y).trans ?_
  rw [← e0, ← e1]
  rfl

/-- The kernel runs, ends with the mixer's output of its arguments, and keeps them. -/
theorem run_ker (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = result (m ((c.tc : Thread nD τ).loc main_arg0)) (m ((c.tc : Thread nD τ).loc main_arg1)) id
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans ((array_done m c).trans (same_result _ _)), (h c).2⟩) (Value.run_blocks m ρ)

end Cert.Proof.Ssd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.RefRun
public import proofs.«01_k».proof.Proof.KState
public import proofs.«01_k».proof.Proof.MlpRef
public import proofs.«01_k».proof.Proof.MlpRun
public import proofs.«01_k».proof.Proof.InRef
public import proofs.«01_k».proof.Proof.InRun
public import proofs.«01_k».proof.Proof.OutRef
public import proofs.«01_k».proof.Proof.OutKer
public import proofs.«01_k».proof.Proof.SsdRun
public import proofs.«01_k».proof.Proof.SsdCarry
public import Idealize.ShloMosaic.Adequacy
public import Idealize.ShloMosaic.Init

@[expose] public section

noncomputable section

namespace Cert.Proof

open Idealize.ShloMosaic Idealize.SL.Sem Cert.Kernel

/-- Each named decay is the real logarithm its name stands for. -/
theorem preserved : Cert.preserves_Kernel_KernelIdeal :=
  ⟨IdealRules.named_const.statement Cert.KernelIdeal.κ "log_gamma0" .f32 0xBD020AEC#32 ((Real.log (31 / 32) : ℝ) : EReal) rfl,
    IdealRules.named_const.statement Cert.KernelIdeal.κ "log_gamma1" .f32 0xBC8102B3#32 ((Real.log (63 / 64) : ℝ) : EReal) rfl,
    IdealRules.named_const.statement Cert.KernelIdeal.κ "log_gamma2" .f32 0xBC0080AC#32 ((Real.log (127 / 128) : ℝ) : EReal) rfl,
    IdealRules.named_const.statement Cert.KernelIdeal.κ "log_gamma3" .f32 0xBB80402B#32 ((Real.log (255 / 256) : ℝ) : EReal) rfl⟩

/-- The retention kernel and the retention's reference end with the same array. -/
theorem retention_equal : Cert.algebraic_KernelIdeal_ReferenceIdeal (hKernelIdeal := Cert.KernelIdeal.Gen.facts)
    (hReferenceIdeal := Cert.ReferenceIdeal.Gen.facts) :=
  fun m ρ m' ρ' _ hag => ⟨fun c => Ret.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Ret.run_ker m ρ,
    (θ_run _ _ _).mono (fun _ h c => ⟨(h.1 c).1.trans (by rw [(hag c).1, (hag c).2]), (h.1 c).2⟩) (Ret.run_ref m' ρ')⟩

/-- The feed-forward kernel and its reference end with the same array. -/
theorem feed_forward_equal : Cert.algebraic_Kernel2Ideal_Reference2Ideal (hKernel2Ideal := Cert.Kernel2Ideal.Gen.facts)
    (hReference2Ideal := Cert.Reference2Ideal.Gen.facts) :=
  fun m ρ m' ρ' _ hag => ⟨fun c => Mlp.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    Mlp.run_ker2 m ρ,
    (θ_run _ _ _).mono (fun _ h c => ⟨(h.1 c).1.trans (by rw [(hag c).1, (hag c).2.1, (hag c).2.2.1, (hag c).2.2.2.1, (hag c).2.2.2.2]), (h.1 c).2⟩) (Mlp.run_ref2 m' ρ')⟩

/-- The input projection's kernel and its reference end with the same array. -/
theorem input_projection_equal : Cert.algebraic_Kernel3Ideal_Reference3Ideal (hKernel3Ideal := Cert.Kernel3Ideal.Gen.facts)
    (hReference3Ideal := Cert.Reference3Ideal.Gen.facts) :=
  fun m ρ m' ρ' _ hag => ⟨fun c => InP.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    InP.run_ker3 m ρ,
    (θ_run _ _ _).mono (fun _ h c => ⟨(h.1 c).1.trans (by rw [(hag c).1, (hag c).2.1, (hag c).2.2]), (h.1 c).2⟩) (InP.run_ref3 m' ρ')⟩

/-- The output projection's kernel and its reference end with the same array. -/
theorem output_projection_equal : Cert.algebraic_Kernel4Ideal_Reference4Ideal (hKernel4Ideal := Cert.Kernel4Ideal.Gen.facts)
    (hReference4Ideal := Cert.Reference4Ideal.Gen.facts) :=
  fun m ρ m' ρ' _ hag => ⟨fun c => OutP.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)),
    OutP.run_ker4 m ρ,
    (θ_run _ _ _).mono (fun _ h c => ⟨(h.1 c).1.trans (by rw [(hag c).1, (hag c).2.1, (hag c).2.2.1, (hag c).2.2.2.1, (hag c).2.2.2.2.1, (hag c).2.2.2.2.2]), (h.1 c).2⟩) (OutP.run_ref4 m' ρ')⟩

/-- The state-space mixer's kernel and its reference end with the same array. -/
theorem state_space_equal : Cert.algebraic_Kernel5Ideal_Reference5Ideal (hKernel5Ideal := Cert.Kernel5Ideal.Gen.facts)
    (hReference5Ideal := Cert.Reference5Ideal.Gen.facts) :=
  fun m ρ m' ρ' _ hag => ⟨fun c => Ssd.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) id,
    Ssd.run_ker m ρ,
    (θ_run _ _ _).mono (fun _ h c => ⟨(h.1 c).1.trans (by rw [(hag c).1, (hag c).2]), (h.1 c).2⟩) (Ssd.run_ref m' ρ')⟩

/-- Every claim: the programs run and keep their arguments, the named decays are what they stand for, and each kernel and its
    reference agree. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Gen.frame m ρ,
  fun m ρ _ => Cert.KernelIdeal.Gen.frame m ρ,
  fun m ρ _ => (θ_run _ _ _).mono (fun _ h => ⟨fun c => (h.1 c).2, h.2⟩) (Ret.run_ref m ρ),
  fun m ρ _ => Cert.Kernel2.Gen.frame m ρ,
  fun m ρ _ => Cert.Kernel2Ideal.Gen.frame m ρ,
  fun m ρ _ => (θ_run _ _ _).mono (fun _ h => ⟨fun c => (h.1 c).2, h.2⟩) (Mlp.run_ref2 m ρ),
  fun m ρ _ => Cert.Kernel3.Gen.frame m ρ,
  fun m ρ _ => Cert.Kernel3Ideal.Gen.frame m ρ,
  fun m ρ _ => (θ_run _ _ _).mono (fun _ h => ⟨fun c => (h.1 c).2, h.2⟩) (InP.run_ref3 m ρ),
  fun m ρ _ => Cert.Kernel4.Gen.frame m ρ,
  fun m ρ _ => Cert.Kernel4Ideal.Gen.frame m ρ,
  fun m ρ _ => (θ_run _ _ _).mono (fun _ h => ⟨fun c => (h.1 c).2, h.2⟩) (OutP.run_ref4 m ρ),
  fun m ρ _ => Cert.Kernel5.Gen.frame m ρ,
  fun m ρ _ => Cert.Kernel5Ideal.Gen.frame m ρ,
  fun m ρ _ => (θ_run _ _ _).mono (fun _ h => ⟨fun c => (h.1 c).2, h.2⟩) (Ssd.run_ref m ρ),
  preserved,
  retention_equal,
  trivial,
  trivial,
  trivial,
  trivial,
  feed_forward_equal,
  input_projection_equal,
  output_projection_equal,
  state_space_equal⟩

end Cert.Proof

end
